-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_GmlpConvIdeal (m : (ℓ : Loc Cert.GmlpConvIdeal.nD Cert.GmlpConvIdeal.τ Cert.GmlpConvIdeal.sig) → Buf (Elt Ideal) ℓ) : Prop :=
  True

def Pre_RgLruIdeal (m : (ℓ : Loc Cert.RgLruIdeal.nD Cert.RgLruIdeal.τ Cert.RgLruIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_GmlpConvIdeal [hGmlpConvIdeal : Cert.GmlpConvIdeal.Facts] : Prop :=
  ∀ (m : (ℓ : Loc Cert.GmlpConvIdeal.nD Cert.GmlpConvIdeal.τ Cert.GmlpConvIdeal.sig) → Buf (Elt Ideal) ℓ) (g : Dev Cert.GmlpConvIdeal.nD → PrngReg), Pre_GmlpConvIdeal m →
    θ_run (Cert.GmlpConvIdeal.defs (F := Ideal)) (onTc (τ := Cert.GmlpConvIdeal.τ) (Cert.GmlpConvIdeal.main (F := Ideal))) ⟨m, fun _ => 0, g⟩ (fun r => (∀ c : Dev Cert.GmlpConvIdeal.nD,
      r.2.mem ((c.tc : Thread Cert.GmlpConvIdeal.nD Cert.GmlpConvIdeal.τ).loc Cert.GmlpConvIdeal.main_arg0) = m ((c.tc : Thread Cert.GmlpConvIdeal.nD Cert.GmlpConvIdeal.τ).loc Cert.GmlpConvIdeal.main_arg0)
      ∧ r.2.mem ((c.tc : Thread Cert.GmlpConvIdeal.nD Cert.GmlpConvIdeal.τ).loc Cert.GmlpConvIdeal.main_arg1) = m ((c.tc : Thread Cert.GmlpConvIdeal.nD Cert.GmlpConvIdeal.τ).loc Cert.GmlpConvIdeal.main_arg1)
      ∧ r.2.mem ((c.tc : Thread Cert.GmlpConvIdeal.nD Cert.GmlpConvIdeal.τ).loc Cert.GmlpConvIdeal.main_arg2) = m ((c.tc : Thread Cert.GmlpConvIdeal.nD Cert.GmlpConvIdeal.τ).loc Cert.GmlpConvIdeal.main_arg2)
      ∧ r.2.mem ((c.tc : Thread Cert.GmlpConvIdeal.nD Cert.GmlpConvIdeal.τ).loc Cert.GmlpConvIdeal.main_arg3) = m ((c.tc : Thread Cert.GmlpConvIdeal.nD Cert.GmlpConvIdeal.τ).loc Cert.GmlpConvIdeal.main_arg3)
      ∧ r.2.mem ((c.tc : Thread Cert.GmlpConvIdeal.nD Cert.GmlpConvIdeal.τ).loc Cert.GmlpConvIdeal.main_arg4) = m ((c.tc : Thread Cert.GmlpConvIdeal.nD Cert.GmlpConvIdeal.τ).loc Cert.GmlpConvIdeal.main_arg4)
      ∧ r.2.mem ((c.tc : Thread Cert.GmlpConvIdeal.nD Cert.GmlpConvIdeal.τ).loc Cert.GmlpConvIdeal.main_arg5) = m ((c.tc : Thread Cert.GmlpConvIdeal.nD Cert.GmlpConvIdeal.τ).loc Cert.GmlpConvIdeal.main_arg5)
      ∧ r.2.mem ((c.tc : Thread Cert.GmlpConvIdeal.nD Cert.GmlpConvIdeal.τ).loc Cert.GmlpConvIdeal.main_arg6) = m ((c.tc : Thread Cert.GmlpConvIdeal.nD Cert.GmlpConvIdeal.τ).loc Cert.GmlpConvIdeal.main_arg6)
      ∧ r.2.mem ((c.tc : Thread Cert.GmlpConvIdeal.nD Cert.GmlpConvIdeal.τ).loc Cert.GmlpConvIdeal.main_arg7) = m ((c.tc : Thread Cert.GmlpConvIdeal.nD Cert.GmlpConvIdeal.τ).loc Cert.GmlpConvIdeal.main_arg7)
      ∧ r.2.mem ((c.tc : Thread Cert.GmlpConvIdeal.nD Cert.GmlpConvIdeal.τ).loc Cert.GmlpConvIdeal.main_arg8) = m ((c.tc : Thread Cert.GmlpConvIdeal.nD Cert.GmlpConvIdeal.τ).loc Cert.GmlpConvIdeal.main_arg8)
      ∧ r.2.mem ((c.tc : Thread Cert.GmlpConvIdeal.nD Cert.GmlpConvIdeal.τ).loc Cert.GmlpConvIdeal.main_arg9) = m ((c.tc : Thread Cert.GmlpConvIdeal.nD Cert.GmlpConvIdeal.τ).loc Cert.GmlpConvIdeal.main_arg9)
      ∧ r.2.mem ((c.tc : Thread Cert.GmlpConvIdeal.nD Cert.GmlpConvIdeal.τ).loc Cert.GmlpConvIdeal.main_arg10) = m ((c.tc : Thread Cert.GmlpConvIdeal.nD Cert.GmlpConvIdeal.τ).loc Cert.GmlpConvIdeal.main_arg10)
      ∧ r.2.mem ((c.tc : Thread Cert.GmlpConvIdeal.nD Cert.GmlpConvIdeal.τ).loc Cert.GmlpConvIdeal.main_arg11) = m ((c.tc : Thread Cert.GmlpConvIdeal.nD Cert.GmlpConvIdeal.τ).loc Cert.GmlpConvIdeal.main_arg11)
      ∧ r.2.mem ((c.tc : Thread Cert.GmlpConvIdeal.nD Cert.GmlpConvIdeal.τ).loc Cert.GmlpConvIdeal.main_arg12) = m ((c.tc : Thread Cert.GmlpConvIdeal.nD Cert.GmlpConvIdeal.τ).loc Cert.GmlpConvIdeal.main_arg12)
      ∧ r.2.mem ((c.tc : Thread Cert.GmlpConvIdeal.nD Cert.GmlpConvIdeal.τ).loc Cert.GmlpConvIdeal.main_arg13) = m ((c.tc : Thread Cert.GmlpConvIdeal.nD Cert.GmlpConvIdeal.τ).loc Cert.GmlpConvIdeal.main_arg13))
      ∧ r.2.sem = fun _ => 0)

def quiescent_RgLruIdeal [hRgLruIdeal : Cert.RgLruIdeal.Facts] : Prop :=
  ∀ (m : (ℓ : Loc Cert.RgLruIdeal.nD Cert.RgLruIdeal.τ Cert.RgLruIdeal.sig) → Buf (Elt Ideal) ℓ) (g : Dev Cert.RgLruIdeal.nD → PrngReg), Pre_RgLruIdeal m →
    θ_run (Cert.RgLruIdeal.defs (F := Ideal)) (onTc (τ := Cert.RgLruIdeal.τ) (Cert.RgLruIdeal.main (F := Ideal))) ⟨m, fun _ => 0, g⟩ (fun r => (∀ c : Dev Cert.RgLruIdeal.nD,
      r.2.mem ((c.tc : Thread Cert.RgLruIdeal.nD Cert.RgLruIdeal.τ).loc Cert.RgLruIdeal.main_arg0) = m ((c.tc : Thread Cert.RgLruIdeal.nD Cert.RgLruIdeal.τ).loc Cert.RgLruIdeal.main_arg0)
      ∧ r.2.mem ((c.tc : Thread Cert.RgLruIdeal.nD Cert.RgLruIdeal.τ).loc Cert.RgLruIdeal.main_arg1) = m ((c.tc : Thread Cert.RgLruIdeal.nD Cert.RgLruIdeal.τ).loc Cert.RgLruIdeal.main_arg1)
      ∧ r.2.mem ((c.tc : Thread Cert.RgLruIdeal.nD Cert.RgLruIdeal.τ).loc Cert.RgLruIdeal.main_arg2) = m ((c.tc : Thread Cert.RgLruIdeal.nD Cert.RgLruIdeal.τ).loc Cert.RgLruIdeal.main_arg2)
      ∧ r.2.mem ((c.tc : Thread Cert.RgLruIdeal.nD Cert.RgLruIdeal.τ).loc Cert.RgLruIdeal.main_arg3) = m ((c.tc : Thread Cert.RgLruIdeal.nD Cert.RgLruIdeal.τ).loc Cert.RgLruIdeal.main_arg3)
      ∧ r.2.mem ((c.tc : Thread Cert.RgLruIdeal.nD Cert.RgLruIdeal.τ).loc Cert.RgLruIdeal.main_arg4) = m ((c.tc : Thread Cert.RgLruIdeal.nD Cert.RgLruIdeal.τ).loc Cert.RgLruIdeal.main_arg4)
      ∧ r.2.mem ((c.tc : Thread Cert.RgLruIdeal.nD Cert.RgLruIdeal.τ).loc Cert.RgLruIdeal.main_arg5) = m ((c.tc : Thread Cert.RgLruIdeal.nD Cert.RgLruIdeal.τ).loc Cert.RgLruIdeal.main_arg5)
      ∧ r.2.mem ((c.tc : Thread Cert.RgLruIdeal.nD Cert.RgLruIdeal.τ).loc Cert.RgLruIdeal.main_arg6) = m ((c.tc : Thread Cert.RgLruIdeal.nD Cert.RgLruIdeal.τ).loc Cert.RgLruIdeal.main_arg6)
      ∧ r.2.mem ((c.tc : Thread Cert.RgLruIdeal.nD Cert.RgLruIdeal.τ).loc Cert.RgLruIdeal.main_arg7) = m ((c.tc : Thread Cert.RgLruIdeal.nD Cert.RgLruIdeal.τ).loc Cert.RgLruIdeal.main_arg7)
      ∧ r.2.mem ((c.tc : Thread Cert.RgLruIdeal.nD Cert.RgLruIdeal.τ).loc Cert.RgLruIdeal.main_arg8) = m ((c.tc : Thread Cert.RgLruIdeal.nD Cert.RgLruIdeal.τ).loc Cert.RgLruIdeal.main_arg8)
      ∧ r.2.mem ((c.tc : Thread Cert.RgLruIdeal.nD Cert.RgLruIdeal.τ).loc Cert.RgLruIdeal.main_arg9) = m ((c.tc : Thread Cert.RgLruIdeal.nD Cert.RgLruIdeal.τ).loc Cert.RgLruIdeal.main_arg9)
      ∧ r.2.mem ((c.tc : Thread Cert.RgLruIdeal.nD Cert.RgLruIdeal.τ).loc Cert.RgLruIdeal.main_arg10) = m ((c.tc : Thread Cert.RgLruIdeal.nD Cert.RgLruIdeal.τ).loc Cert.RgLruIdeal.main_arg10)
      ∧ r.2.mem ((c.tc : Thread Cert.RgLruIdeal.nD Cert.RgLruIdeal.τ).loc Cert.RgLruIdeal.main_arg11) = m ((c.tc : Thread Cert.RgLruIdeal.nD Cert.RgLruIdeal.τ).loc Cert.RgLruIdeal.main_arg11)
      ∧ r.2.mem ((c.tc : Thread Cert.RgLruIdeal.nD Cert.RgLruIdeal.τ).loc Cert.RgLruIdeal.main_arg12) = m ((c.tc : Thread Cert.RgLruIdeal.nD Cert.RgLruIdeal.τ).loc Cert.RgLruIdeal.main_arg12)
      ∧ r.2.mem ((c.tc : Thread Cert.RgLruIdeal.nD Cert.RgLruIdeal.τ).loc Cert.RgLruIdeal.main_arg13) = m ((c.tc : Thread Cert.RgLruIdeal.nD Cert.RgLruIdeal.τ).loc Cert.RgLruIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_GmlpConvIdeal_on_on_gmlp_conv [hKernelIdeal : Cert.KernelIdeal.Facts] [hGmlpConvIdeal : Cert.GmlpConvIdeal.Facts] [hOn_on_gmlp_conv : Cert.On_on_gmlp_conv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.GmlpConvIdeal.nD Cert.GmlpConvIdeal.τ Cert.GmlpConvIdeal.sig) → Buf (Elt Ideal) ℓ) (g' : Dev Cert.GmlpConvIdeal.nD → PrngReg), Pre_KernelIdeal m →
    (∀ c : Dev Cert.KernelIdeal.nD,
      m' ((c.tc : Thread Cert.GmlpConvIdeal.nD Cert.GmlpConvIdeal.τ).loc Cert.GmlpConvIdeal.main_arg0) = m ((c.tc : Thread Cert.KernelIdeal.nD Cert.KernelIdeal.τ).loc Cert.KernelIdeal.main_arg0)
      ∧ m' ((c.tc : Thread Cert.GmlpConvIdeal.nD Cert.GmlpConvIdeal.τ).loc Cert.GmlpConvIdeal.main_arg1) = m ((c.tc : Thread Cert.KernelIdeal.nD Cert.KernelIdeal.τ).loc Cert.KernelIdeal.main_arg1)
      ∧ m' ((c.tc : Thread Cert.GmlpConvIdeal.nD Cert.GmlpConvIdeal.τ).loc Cert.GmlpConvIdeal.main_arg2) = m ((c.tc : Thread Cert.KernelIdeal.nD Cert.KernelIdeal.τ).loc Cert.KernelIdeal.main_arg2)
      ∧ m' ((c.tc : Thread Cert.GmlpConvIdeal.nD Cert.GmlpConvIdeal.τ).loc Cert.GmlpConvIdeal.main_arg3) = m ((c.tc : Thread Cert.KernelIdeal.nD Cert.KernelIdeal.τ).loc Cert.KernelIdeal.main_arg3)
      ∧ m' ((c.tc : Thread Cert.GmlpConvIdeal.nD Cert.GmlpConvIdeal.τ).loc Cert.GmlpConvIdeal.main_arg4) = m ((c.tc : Thread Cert.KernelIdeal.nD Cert.KernelIdeal.τ).loc Cert.KernelIdeal.main_arg4)
      ∧ m' ((c.tc : Thread Cert.GmlpConvIdeal.nD Cert.GmlpConvIdeal.τ).loc Cert.GmlpConvIdeal.main_arg5) = m ((c.tc : Thread Cert.KernelIdeal.nD Cert.KernelIdeal.τ).loc Cert.KernelIdeal.main_arg5)
      ∧ m' ((c.tc : Thread Cert.GmlpConvIdeal.nD Cert.GmlpConvIdeal.τ).loc Cert.GmlpConvIdeal.main_arg6) = m ((c.tc : Thread Cert.KernelIdeal.nD Cert.KernelIdeal.τ).loc Cert.KernelIdeal.main_arg6)
      ∧ m' ((c.tc : Thread Cert.GmlpConvIdeal.nD Cert.GmlpConvIdeal.τ).loc Cert.GmlpConvIdeal.main_arg7) = m ((c.tc : Thread Cert.KernelIdeal.nD Cert.KernelIdeal.τ).loc Cert.KernelIdeal.main_arg7)
      ∧ m' ((c.tc : Thread Cert.GmlpConvIdeal.nD Cert.GmlpConvIdeal.τ).loc Cert.GmlpConvIdeal.main_arg8) = m ((c.tc : Thread Cert.KernelIdeal.nD Cert.KernelIdeal.τ).loc Cert.KernelIdeal.main_arg8)
      ∧ m' ((c.tc : Thread Cert.GmlpConvIdeal.nD Cert.GmlpConvIdeal.τ).loc Cert.GmlpConvIdeal.main_arg9) = m ((c.tc : Thread Cert.KernelIdeal.nD Cert.KernelIdeal.τ).loc Cert.KernelIdeal.main_arg9)
      ∧ m' ((c.tc : Thread Cert.GmlpConvIdeal.nD Cert.GmlpConvIdeal.τ).loc Cert.GmlpConvIdeal.main_arg10) = m ((c.tc : Thread Cert.KernelIdeal.nD Cert.KernelIdeal.τ).loc Cert.KernelIdeal.main_arg10)
      ∧ m' ((c.tc : Thread Cert.GmlpConvIdeal.nD Cert.GmlpConvIdeal.τ).loc Cert.GmlpConvIdeal.main_arg11) = m ((c.tc : Thread Cert.KernelIdeal.nD Cert.KernelIdeal.τ).loc Cert.KernelIdeal.main_arg11)
      ∧ m' ((c.tc : Thread Cert.GmlpConvIdeal.nD Cert.GmlpConvIdeal.τ).loc Cert.GmlpConvIdeal.main_arg12) = m ((c.tc : Thread Cert.KernelIdeal.nD Cert.KernelIdeal.τ).loc Cert.KernelIdeal.main_arg12)
      ∧ m' ((c.tc : Thread Cert.GmlpConvIdeal.nD Cert.GmlpConvIdeal.τ).loc Cert.GmlpConvIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 8192, 1024]⟩ : Shape).Idx, (Cert.On_on_gmlp_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) i = 1#1 → r.2.mem ((c.tc : Thread Cert.KernelIdeal.nD Cert.KernelIdeal.τ).loc Cert.KernelIdeal.main_v14) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.GmlpConvIdeal.defs (F := Ideal)) (onTc (τ := Cert.GmlpConvIdeal.τ) (Cert.GmlpConvIdeal.main (F := Ideal))) ⟨m', fun _ => 0, g'⟩ (fun r => ∀ c : Dev Cert.GmlpConvIdeal.nD,
          (∀ i : (⟨3, ![4, 8192, 1024]⟩ : Shape).Idx, (Cert.On_on_gmlp_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) i = 1#1 → r.2.mem ((c.tc : Thread Cert.GmlpConvIdeal.nD Cert.GmlpConvIdeal.τ).loc Cert.GmlpConvIdeal.main_v97) i = v0 c i)
          ∧ r.2.mem ((c.tc : Thread Cert.GmlpConvIdeal.nD Cert.GmlpConvIdeal.τ).loc Cert.GmlpConvIdeal.main_arg0) = m' ((c.tc : Thread Cert.GmlpConvIdeal.nD Cert.GmlpConvIdeal.τ).loc Cert.GmlpConvIdeal.main_arg0)
          ∧ r.2.mem ((c.tc : Thread Cert.GmlpConvIdeal.nD Cert.GmlpConvIdeal.τ).loc Cert.GmlpConvIdeal.main_arg1) = m' ((c.tc : Thread Cert.GmlpConvIdeal.nD Cert.GmlpConvIdeal.τ).loc Cert.GmlpConvIdeal.main_arg1)
          ∧ r.2.mem ((c.tc : Thread Cert.GmlpConvIdeal.nD Cert.GmlpConvIdeal.τ).loc Cert.GmlpConvIdeal.main_arg2) = m' ((c.tc : Thread Cert.GmlpConvIdeal.nD Cert.GmlpConvIdeal.τ).loc Cert.GmlpConvIdeal.main_arg2)
          ∧ r.2.mem ((c.tc : Thread Cert.GmlpConvIdeal.nD Cert.GmlpConvIdeal.τ).loc Cert.GmlpConvIdeal.main_arg3) = m' ((c.tc : Thread Cert.GmlpConvIdeal.nD Cert.GmlpConvIdeal.τ).loc Cert.GmlpConvIdeal.main_arg3)
          ∧ r.2.mem ((c.tc : Thread Cert.GmlpConvIdeal.nD Cert.GmlpConvIdeal.τ).loc Cert.GmlpConvIdeal.main_arg4) = m' ((c.tc : Thread Cert.GmlpConvIdeal.nD Cert.GmlpConvIdeal.τ).loc Cert.GmlpConvIdeal.main_arg4)
          ∧ r.2.mem ((c.tc : Thread Cert.GmlpConvIdeal.nD Cert.GmlpConvIdeal.τ).loc Cert.GmlpConvIdeal.main_arg5) = m' ((c.tc : Thread Cert.GmlpConvIdeal.nD Cert.GmlpConvIdeal.τ).loc Cert.GmlpConvIdeal.main_arg5)
          ∧ r.2.mem ((c.tc : Thread Cert.GmlpConvIdeal.nD Cert.GmlpConvIdeal.τ).loc Cert.GmlpConvIdeal.main_arg6) = m' ((c.tc : Thread Cert.GmlpConvIdeal.nD Cert.GmlpConvIdeal.τ).loc Cert.GmlpConvIdeal.main_arg6)
          ∧ r.2.mem ((c.tc : Thread Cert.GmlpConvIdeal.nD Cert.GmlpConvIdeal.τ).loc Cert.GmlpConvIdeal.main_arg7) = m' ((c.tc : Thread Cert.GmlpConvIdeal.nD Cert.GmlpConvIdeal.τ).loc Cert.GmlpConvIdeal.main_arg7)
          ∧ r.2.mem ((c.tc : Thread Cert.GmlpConvIdeal.nD Cert.GmlpConvIdeal.τ).loc Cert.GmlpConvIdeal.main_arg8) = m' ((c.tc : Thread Cert.GmlpConvIdeal.nD Cert.GmlpConvIdeal.τ).loc Cert.GmlpConvIdeal.main_arg8)
          ∧ r.2.mem ((c.tc : Thread Cert.GmlpConvIdeal.nD Cert.GmlpConvIdeal.τ).loc Cert.GmlpConvIdeal.main_arg9) = m' ((c.tc : Thread Cert.GmlpConvIdeal.nD Cert.GmlpConvIdeal.τ).loc Cert.GmlpConvIdeal.main_arg9)
          ∧ r.2.mem ((c.tc : Thread Cert.GmlpConvIdeal.nD Cert.GmlpConvIdeal.τ).loc Cert.GmlpConvIdeal.main_arg10) = m' ((c.tc : Thread Cert.GmlpConvIdeal.nD Cert.GmlpConvIdeal.τ).loc Cert.GmlpConvIdeal.main_arg10)
          ∧ r.2.mem ((c.tc : Thread Cert.GmlpConvIdeal.nD Cert.GmlpConvIdeal.τ).loc Cert.GmlpConvIdeal.main_arg11) = m' ((c.tc : Thread Cert.GmlpConvIdeal.nD Cert.GmlpConvIdeal.τ).loc Cert.GmlpConvIdeal.main_arg11)
          ∧ r.2.mem ((c.tc : Thread Cert.GmlpConvIdeal.nD Cert.GmlpConvIdeal.τ).loc Cert.GmlpConvIdeal.main_arg12) = m' ((c.tc : Thread Cert.GmlpConvIdeal.nD Cert.GmlpConvIdeal.τ).loc Cert.GmlpConvIdeal.main_arg12)
          ∧ r.2.mem ((c.tc : Thread Cert.GmlpConvIdeal.nD Cert.GmlpConvIdeal.τ).loc Cert.GmlpConvIdeal.main_arg13) = m' ((c.tc : Thread Cert.GmlpConvIdeal.nD Cert.GmlpConvIdeal.τ).loc Cert.GmlpConvIdeal.main_arg13))

def algebraic_KernelIdeal_RgLruIdeal_on_on_rglru [hKernelIdeal : Cert.KernelIdeal.Facts] [hRgLruIdeal : Cert.RgLruIdeal.Facts] [hOn_on_rglru : Cert.On_on_rglru.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RgLruIdeal.nD Cert.RgLruIdeal.τ Cert.RgLruIdeal.sig) → Buf (Elt Ideal) ℓ) (g' : Dev Cert.RgLruIdeal.nD → PrngReg), Pre_KernelIdeal m →
    (∀ c : Dev Cert.KernelIdeal.nD,
      m' ((c.tc : Thread Cert.RgLruIdeal.nD Cert.RgLruIdeal.τ).loc Cert.RgLruIdeal.main_arg0) = m ((c.tc : Thread Cert.KernelIdeal.nD Cert.KernelIdeal.τ).loc Cert.KernelIdeal.main_arg0)
      ∧ m' ((c.tc : Thread Cert.RgLruIdeal.nD Cert.RgLruIdeal.τ).loc Cert.RgLruIdeal.main_arg1) = m ((c.tc : Thread Cert.KernelIdeal.nD Cert.KernelIdeal.τ).loc Cert.KernelIdeal.main_arg1)
      ∧ m' ((c.tc : Thread Cert.RgLruIdeal.nD Cert.RgLruIdeal.τ).loc Cert.RgLruIdeal.main_arg2) = m ((c.tc : Thread Cert.KernelIdeal.nD Cert.KernelIdeal.τ).loc Cert.KernelIdeal.main_arg2)
      ∧ m' ((c.tc : Thread Cert.RgLruIdeal.nD Cert.RgLruIdeal.τ).loc Cert.RgLruIdeal.main_arg3) = m ((c.tc : Thread Cert.KernelIdeal.nD Cert.KernelIdeal.τ).loc Cert.KernelIdeal.main_arg3)
      ∧ m' ((c.tc : Thread Cert.RgLruIdeal.nD Cert.RgLruIdeal.τ).loc Cert.RgLruIdeal.main_arg4) = m ((c.tc : Thread Cert.KernelIdeal.nD Cert.KernelIdeal.τ).loc Cert.KernelIdeal.main_arg4)
      ∧ m' ((c.tc : Thread Cert.RgLruIdeal.nD Cert.RgLruIdeal.τ).loc Cert.RgLruIdeal.main_arg5) = m ((c.tc : Thread Cert.KernelIdeal.nD Cert.KernelIdeal.τ).loc Cert.KernelIdeal.main_arg5)
      ∧ m' ((c.tc : Thread Cert.RgLruIdeal.nD Cert.RgLruIdeal.τ).loc Cert.RgLruIdeal.main_arg6) = m ((c.tc : Thread Cert.KernelIdeal.nD Cert.KernelIdeal.τ).loc Cert.KernelIdeal.main_arg6)
      ∧ m' ((c.tc : Thread Cert.RgLruIdeal.nD Cert.RgLruIdeal.τ).loc Cert.RgLruIdeal.main_arg7) = m ((c.tc : Thread Cert.KernelIdeal.nD Cert.KernelIdeal.τ).loc Cert.KernelIdeal.main_arg7)
      ∧ m' ((c.tc : Thread Cert.RgLruIdeal.nD Cert.RgLruIdeal.τ).loc Cert.RgLruIdeal.main_arg8) = m ((c.tc : Thread Cert.KernelIdeal.nD Cert.KernelIdeal.τ).loc Cert.KernelIdeal.main_arg8)
      ∧ m' ((c.tc : Thread Cert.RgLruIdeal.nD Cert.RgLruIdeal.τ).loc Cert.RgLruIdeal.main_arg9) = m ((c.tc : Thread Cert.KernelIdeal.nD Cert.KernelIdeal.τ).loc Cert.KernelIdeal.main_arg9)
      ∧ m' ((c.tc : Thread Cert.RgLruIdeal.nD Cert.RgLruIdeal.τ).loc Cert.RgLruIdeal.main_arg10) = m ((c.tc : Thread Cert.KernelIdeal.nD Cert.KernelIdeal.τ).loc Cert.KernelIdeal.main_arg10)
      ∧ m' ((c.tc : Thread Cert.RgLruIdeal.nD Cert.RgLruIdeal.τ).loc Cert.RgLruIdeal.main_arg11) = m ((c.tc : Thread Cert.KernelIdeal.nD Cert.KernelIdeal.τ).loc Cert.KernelIdeal.main_arg11)
      ∧ m' ((c.tc : Thread Cert.RgLruIdeal.nD Cert.RgLruIdeal.τ).loc Cert.RgLruIdeal.main_arg12) = m ((c.tc : Thread Cert.KernelIdeal.nD Cert.KernelIdeal.τ).loc Cert.KernelIdeal.main_arg12)
      ∧ m' ((c.tc : Thread Cert.RgLruIdeal.nD Cert.RgLruIdeal.τ).loc Cert.RgLruIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 8192, 1024]⟩ : Shape).Idx, (Cert.On_on_rglru.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) i = 1#1 → r.2.mem ((c.tc : Thread Cert.KernelIdeal.nD Cert.KernelIdeal.τ).loc Cert.KernelIdeal.main_v14) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.RgLruIdeal.defs (F := Ideal)) (onTc (τ := Cert.RgLruIdeal.τ) (Cert.RgLruIdeal.main (F := Ideal))) ⟨m', fun _ => 0, g'⟩ (fun r => ∀ c : Dev Cert.RgLruIdeal.nD,
          (∀ i : (⟨3, ![4, 8192, 1024]⟩ : Shape).Idx, (Cert.On_on_rglru.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) i = 1#1 → r.2.mem ((c.tc : Thread Cert.RgLruIdeal.nD Cert.RgLruIdeal.τ).loc Cert.RgLruIdeal.main_v112) i = v0 c i)
          ∧ r.2.mem ((c.tc : Thread Cert.RgLruIdeal.nD Cert.RgLruIdeal.τ).loc Cert.RgLruIdeal.main_arg0) = m' ((c.tc : Thread Cert.RgLruIdeal.nD Cert.RgLruIdeal.τ).loc Cert.RgLruIdeal.main_arg0)
          ∧ r.2.mem ((c.tc : Thread Cert.RgLruIdeal.nD Cert.RgLruIdeal.τ).loc Cert.RgLruIdeal.main_arg1) = m' ((c.tc : Thread Cert.RgLruIdeal.nD Cert.RgLruIdeal.τ).loc Cert.RgLruIdeal.main_arg1)
          ∧ r.2.mem ((c.tc : Thread Cert.RgLruIdeal.nD Cert.RgLruIdeal.τ).loc Cert.RgLruIdeal.main_arg2) = m' ((c.tc : Thread Cert.RgLruIdeal.nD Cert.RgLruIdeal.τ).loc Cert.RgLruIdeal.main_arg2)
          ∧ r.2.mem ((c.tc : Thread Cert.RgLruIdeal.nD Cert.RgLruIdeal.τ).loc Cert.RgLruIdeal.main_arg3) = m' ((c.tc : Thread Cert.RgLruIdeal.nD Cert.RgLruIdeal.τ).loc Cert.RgLruIdeal.main_arg3)
          ∧ r.2.mem ((c.tc : Thread Cert.RgLruIdeal.nD Cert.RgLruIdeal.τ).loc Cert.RgLruIdeal.main_arg4) = m' ((c.tc : Thread Cert.RgLruIdeal.nD Cert.RgLruIdeal.τ).loc Cert.RgLruIdeal.main_arg4)
          ∧ r.2.mem ((c.tc : Thread Cert.RgLruIdeal.nD Cert.RgLruIdeal.τ).loc Cert.RgLruIdeal.main_arg5) = m' ((c.tc : Thread Cert.RgLruIdeal.nD Cert.RgLruIdeal.τ).loc Cert.RgLruIdeal.main_arg5)
          ∧ r.2.mem ((c.tc : Thread Cert.RgLruIdeal.nD Cert.RgLruIdeal.τ).loc Cert.RgLruIdeal.main_arg6) = m' ((c.tc : Thread Cert.RgLruIdeal.nD Cert.RgLruIdeal.τ).loc Cert.RgLruIdeal.main_arg6)
          ∧ r.2.mem ((c.tc : Thread Cert.RgLruIdeal.nD Cert.RgLruIdeal.τ).loc Cert.RgLruIdeal.main_arg7) = m' ((c.tc : Thread Cert.RgLruIdeal.nD Cert.RgLruIdeal.τ).loc Cert.RgLruIdeal.main_arg7)
          ∧ r.2.mem ((c.tc : Thread Cert.RgLruIdeal.nD Cert.RgLruIdeal.τ).loc Cert.RgLruIdeal.main_arg8) = m' ((c.tc : Thread Cert.RgLruIdeal.nD Cert.RgLruIdeal.τ).loc Cert.RgLruIdeal.main_arg8)
          ∧ r.2.mem ((c.tc : Thread Cert.RgLruIdeal.nD Cert.RgLruIdeal.τ).loc Cert.RgLruIdeal.main_arg9) = m' ((c.tc : Thread Cert.RgLruIdeal.nD Cert.RgLruIdeal.τ).loc Cert.RgLruIdeal.main_arg9)
          ∧ r.2.mem ((c.tc : Thread Cert.RgLruIdeal.nD Cert.RgLruIdeal.τ).loc Cert.RgLruIdeal.main_arg10) = m' ((c.tc : Thread Cert.RgLruIdeal.nD Cert.RgLruIdeal.τ).loc Cert.RgLruIdeal.main_arg10)
          ∧ r.2.mem ((c.tc : Thread Cert.RgLruIdeal.nD Cert.RgLruIdeal.τ).loc Cert.RgLruIdeal.main_arg11) = m' ((c.tc : Thread Cert.RgLruIdeal.nD Cert.RgLruIdeal.τ).loc Cert.RgLruIdeal.main_arg11)
          ∧ r.2.mem ((c.tc : Thread Cert.RgLruIdeal.nD Cert.RgLruIdeal.τ).loc Cert.RgLruIdeal.main_arg12) = m' ((c.tc : Thread Cert.RgLruIdeal.nD Cert.RgLruIdeal.τ).loc Cert.RgLruIdeal.main_arg12)
          ∧ r.2.mem ((c.tc : Thread Cert.RgLruIdeal.nD Cert.RgLruIdeal.τ).loc Cert.RgLruIdeal.main_arg13) = m' ((c.tc : Thread Cert.RgLruIdeal.nD Cert.RgLruIdeal.τ).loc Cert.RgLruIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_v38) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hGmlpConvIdeal : Cert.GmlpConvIdeal.Facts) (hRgLruIdeal : Cert.RgLruIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hOn_on_gmlp_conv : Cert.On_on_gmlp_conv.Facts) (hOn_on_rglru : Cert.On_on_rglru.Facts),
    quiescent_Kernel (hKernel := hKernel)
    ∧ quiescent_KernelIdeal (hKernelIdeal := hKernelIdeal)
    ∧ quiescent_GmlpConvIdeal (hGmlpConvIdeal := hGmlpConvIdeal)
    ∧ quiescent_RgLruIdeal (hRgLruIdeal := hRgLruIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_GmlpConvIdeal_on_on_gmlp_conv (hKernelIdeal := hKernelIdeal) (hGmlpConvIdeal := hGmlpConvIdeal) (hOn_on_gmlp_conv := hOn_on_gmlp_conv)
    ∧ algebraic_KernelIdeal_RgLruIdeal_on_on_rglru (hKernelIdeal := hKernelIdeal) (hRgLruIdeal := hRgLruIdeal) (hOn_on_rglru := hOn_on_rglru)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_on_gmlp_conv.lean ====
abbrev S8192x14336 : Shape := ⟨2, ![8192, 14336]⟩
abbrev S8192x16 : Shape := ⟨2, ![8192, 16]⟩
abbrev S2x16 : Shape := ⟨2, ![2, 16]⟩
abbrev S2x1024 : Shape := ⟨2, ![2, 1024]⟩
abbrev S2x8x128x128 : Shape := ⟨4, ![2, 8, 128, 128]⟩
abbrev S2x8x128 : Shape := ⟨3, ![2, 8, 128]⟩
abbrev S2x4x1024 : Shape := ⟨3, ![2, 4, 1024]⟩
abbrev S2x8x128x256 : Shape := ⟨4, ![2, 8, 128, 256]⟩
abbrev S2x2048 : Shape := ⟨2, ![2, 2048]⟩
abbrev S2x3x1024 : Shape := ⟨3, ![2, 3, 1024]⟩
abbrev S4x8192x1024 : Shape := ⟨3, ![4, 8192, 1024]⟩
abbrev S_ : Shape := ⟨0, ![]⟩

class Facts : Prop where
  bcast_S_S4x8192x1024 : S_.BroadcastsInDim S4x8192x1024 (![] : Fin 0 → Fin S4x8192x1024.rank)

variable [Facts]

def fn {F : FTy → Type} [FloatOps F] (main_arg0 : FVec F S8192x14336 .f32) (main_arg1 : FVec F S8192x16 .f32) (main_arg2 : FVec F S2x16 .f32) (main_arg3 : FVec F S2x1024 .f32) (main_arg4 : FVec F S2x1024 .f32) (main_arg5 : FVec F S2x1024 .f32) (main_arg6 : FVec F S2x8x128x128 .f32) (main_arg7 : FVec F S2x8x128 .f32) (main_arg8 : FVec F S2x4x1024 .f32) (main_arg9 : FVec F S2x1024 .f32) (main_arg10 : FVec F S2x8x128x256 .f32) (main_arg11 : FVec F S2x2048 .f32) (main_arg12 : FVec F S2x1024 .f32) (main_arg13 : FVec F S2x3x1024 .f32) : IVec S4x8192x1024 1 :=
  let main_v0 : IVec S4x8192x1024 32 := iotaInDim S4x8192x1024 32 0
  let main_c : IVec S_ 32 := constantI S_ 32 1#32
  let main_v1 : IVec S4x8192x1024 32 := broadcastInDim S4x8192x1024 ![] bcast_S_S4x8192x1024 main_c
  let main_v2 : IVec S4x8192x1024 1 := cmpi .eq main_v0 main_v1
  let main_v3 : IVec S4x8192x1024 32 := iotaInDim S4x8192x1024 32 0
  let main_c_0 : IVec S_ 32 := constantI S_ 32 3#32
  let main_v4 : IVec S4x8192x1024 32 := broadcastInDim S4x8192x1024 ![] bcast_S_S4x8192x1024 main_c_0
  let main_v5 : IVec S4x8192x1024 1 := cmpi .eq main_v3 main_v4
  let main_v6 : IVec S4x8192x1024 1 := ori main_v2 main_v5
  main_v6
-- ==== On_on_rglru.lean ====
abbrev S8192x14336 : Shape := ⟨2, ![8192, 14336]⟩
abbrev S8192x16 : Shape := ⟨2, ![8192, 16]⟩
abbrev S2x16 : Shape := ⟨2, ![2, 16]⟩
abbrev S2x1024 : Shape := ⟨2, ![2, 1024]⟩
abbrev S2x8x128x128 : Shape := ⟨4, ![2, 8, 128, 128]⟩
abbrev S2x8x128 : Shape := ⟨3, ![2, 8, 128]⟩
abbrev S2x4x1024 : Shape := ⟨3, ![2, 4, 1024]⟩
abbrev S2x8x128x256 : Shape := ⟨4, ![2, 8, 128, 256]⟩
abbrev S2x2048 : Shape := ⟨2, ![2, 2048]⟩
abbrev S2x3x1024 : Shape := ⟨3, ![2, 3, 1024]⟩
abbrev S4x8192x1024 : Shape := ⟨3, ![4, 8192, 1024]⟩
abbrev S_ : Shape := ⟨0, ![]⟩

class Facts : Prop where
  bcast_S_S4x8192x1024 : S_.BroadcastsInDim S4x8192x1024 (![] : Fin 0 → Fin S4x8192x1024.rank)

variable [Facts]

def fn {F : FTy → Type} [FloatOps F] (main_arg0 : FVec F S8192x14336 .f32) (main_arg1 : FVec F S8192x16 .f32) (main_arg2 : FVec F S2x16 .f32) (main_arg3 : FVec F S2x1024 .f32) (main_arg4 : FVec F S2x1024 .f32) (main_arg5 : FVec F S2x1024 .f32) (main_arg6 : FVec F S2x8x128x128 .f32) (main_arg7 : FVec F S2x8x128 .f32) (main_arg8 : FVec F S2x4x1024 .f32) (main_arg9 : FVec F S2x1024 .f32) (main_arg10 : FVec F S2x8x128x256 .f32) (main_arg11 : FVec F S2x2048 .f32) (main_arg12 : FVec F S2x1024 .f32) (main_arg13 : FVec F S2x3x1024 .f32) : IVec S4x8192x1024 1 :=
  let main_v0 : IVec S4x8192x1024 32 := iotaInDim S4x8192x1024 32 0
  let main_c : IVec S_ 32 := constantI S_ 32 2#32
  let main_v1 : IVec S4x8192x1024 32 := broadcastInDim S4x8192x1024 ![] bcast_S_S4x8192x1024 main_c
  let main_v2 : IVec S4x8192x1024 1 := cmpi .eq main_v0 main_v1
  main_v2
-- ==== Kernel.lean ====
abbrev S8192x14336 : Shape := ⟨2, ![8192, 14336]⟩
abbrev S8192x16 : Shape := ⟨2, ![8192, 16]⟩
abbrev S2x16 : Shape := ⟨2, ![2, 16]⟩
abbrev S2x1024 : Shape := ⟨2, ![2, 1024]⟩
abbrev S2x8x128x128 : Shape := ⟨4, ![2, 8, 128, 128]⟩
abbrev S2x8x128 : Shape := ⟨3, ![2, 8, 128]⟩
abbrev S2x4x1024 : Shape := ⟨3, ![2, 4, 1024]⟩
abbrev S2x8x128x256 : Shape := ⟨4, ![2, 8, 128, 256]⟩
abbrev S2x2048 : Shape := ⟨2, ![2, 2048]⟩
abbrev S2x3x1024 : Shape := ⟨3, ![2, 3, 1024]⟩
abbrev S2x1x1024 : Shape := ⟨3, ![2, 1, 1024]⟩
abbrev S2x1x2048 : Shape := ⟨3, ![2, 1, 2048]⟩
abbrev S_ : Shape := ⟨0, ![]⟩
abbrev S2x128 : Shape := ⟨2, ![2, 128]⟩
abbrev S2x128x8 : Shape := ⟨3, ![2, 128, 8]⟩
abbrev S8192x128 : Shape := ⟨2, ![8192, 128]⟩
abbrev S1x128 : Shape := ⟨2, ![1, 128]⟩
abbrev S128 : Shape := ⟨1, ![128]⟩
abbrev S1x128x8 : Shape := ⟨3, ![1, 128, 8]⟩
abbrev S128x8 : Shape := ⟨2, ![128, 8]⟩
abbrev S4x8192x1024 : Shape := ⟨3, ![4, 8192, 1024]⟩
abbrev S256x1024 : Shape := ⟨2, ![256, 1024]⟩
abbrev S256x128 : Shape := ⟨2, ![256, 128]⟩
abbrev S1x1x1024 : Shape := ⟨3, ![1, 1, 1024]⟩
abbrev S1x8x128x128 : Shape := ⟨4, ![1, 8, 128, 128]⟩
abbrev S1x4x1024 : Shape := ⟨3, ![1, 4, 1024]⟩
abbrev S1x8x128x256 : Shape := ⟨4, ![1, 8, 128, 256]⟩
abbrev S1x1x2048 : Shape := ⟨3, ![1, 1, 2048]⟩
abbrev S1x3x1024 : Shape := ⟨3, ![1, 3, 1024]⟩
abbrev S4x256x1024 : Shape := ⟨3, ![4, 256, 1024]⟩
abbrev S8x128x256 : Shape := ⟨3, ![8, 128, 256]⟩
abbrev S8x1024 : Shape := ⟨2, ![8, 1024]⟩
abbrev S1x1024 : Shape := ⟨2, ![1, 1024]⟩
abbrev S128x128 : Shape := ⟨2, ![128, 128]⟩
abbrev S8x128 : Shape := ⟨2, ![8, 128]⟩
abbrev S120x128 : Shape := ⟨2, ![120, 128]⟩
abbrev S16x128 : Shape := ⟨2, ![16, 128]⟩
abbrev S112x128 : Shape := ⟨2, ![112, 128]⟩
abbrev S32x128 : Shape := ⟨2, ![32, 128]⟩
abbrev S96x128 : Shape := ⟨2, ![96, 128]⟩
abbrev S64x128 : Shape := ⟨2, ![64, 128]⟩
abbrev S1x3x128 : Shape := ⟨3, ![1, 3, 128]⟩
abbrev S3x128 : Shape := ⟨2, ![3, 128]⟩
abbrev S248x128 : Shape := ⟨2, ![248, 128]⟩
abbrev S1x256x1024 : Shape := ⟨3, ![1, 256, 1024]⟩
abbrev S1x256x128 : Shape := ⟨3, ![1, 256, 128]⟩
abbrev S256 : Shape := ⟨1, ![256]⟩
abbrev S256x1 : Shape := ⟨2, ![256, 1]⟩
abbrev S1x4x128 : Shape := ⟨3, ![1, 4, 128]⟩
abbrev S4x128 : Shape := ⟨2, ![4, 128]⟩
abbrev S1x1x128 : Shape := ⟨3, ![1, 1, 128]⟩
abbrev S1x1x128x256 : Shape := ⟨4, ![1, 1, 128, 256]⟩
abbrev S128x256 : Shape := ⟨2, ![128, 256]⟩
abbrev S256x256 : Shape := ⟨2, ![256, 256]⟩
abbrev S32x8x128 : Shape := ⟨3, ![32, 8, 128]⟩
abbrev S1x8x128 : Shape := ⟨3, ![1, 8, 128]⟩
abbrev S1x128x256 : Shape := ⟨3, ![1, 128, 256]⟩
abbrev S128x1 : Shape := ⟨2, ![128, 1]⟩
abbrev S1x1x128x128 : Shape := ⟨4, ![1, 1, 128, 128]⟩
abbrev S1x128x128 : Shape := ⟨3, ![1, 128, 128]⟩
abbrev S1x1 : Shape := ⟨2, ![1, 1]⟩

abbrev nBuf : Space → Nat
  | .hbm => 33
  | .vmem => 49
  | .smem => 0
  | _ => 0

abbrev bufTy : (tb : Table) → Fin (tcTables nBuf tb) → BufTy
  | .hbm, ⟨0, _⟩ => ⟨S8192x14336, .f32⟩
  | .hbm, ⟨1, _⟩ => ⟨S8192x16, .f32⟩
  | .hbm, ⟨2, _⟩ => ⟨S2x16, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x8x128x128, .f32⟩
  | .hbm, ⟨7, _⟩ => ⟨S2x8x128, .f32⟩
  | .hbm, ⟨8, _⟩ => ⟨S2x4x1024, .f32⟩
  | .hbm, ⟨9, _⟩ => ⟨S2x1024, .f32⟩
  | .hbm, ⟨10, _⟩ => ⟨S2x8x128x256, .f32⟩
  | .hbm, ⟨11, _⟩ => ⟨S2x2048, .f32⟩
  | .hbm, ⟨12, _⟩ => ⟨S2x1024, .f32⟩
  | .hbm, ⟨13, _⟩ => ⟨S2x3x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x2048, .f32⟩
  | .hbm, ⟨19, _⟩ => ⟨S2x1x1024, .f32⟩
  | .hbm, ⟨20, _⟩ => ⟨S_, .i32⟩
  | .hbm, ⟨21, _⟩ => ⟨S_, .f32⟩
  | .hbm, ⟨22, _⟩ => ⟨S2x128, .f32⟩
  | .hbm, ⟨23, _⟩ => ⟨S2x128x8, .f32⟩
  | .hbm, ⟨24, _⟩ => ⟨S_, .i32⟩
  | .hbm, ⟨25, _⟩ => ⟨S_, .f32⟩
  | .hbm, ⟨26, _⟩ => ⟨S8192x128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S1x128x8, .f32⟩
  | .hbm, ⟨31, _⟩ => ⟨S128x8, .f32⟩
  | .hbm, ⟨32, _⟩ => ⟨S4x8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x128, .f32⟩
  | .local _ .vmem, ⟨29, _⟩ => ⟨S256x128, .f32⟩
  | .local _ .vmem, ⟨30, _⟩ => ⟨S1x128, .f32⟩
  | .local _ .vmem, ⟨31, _⟩ => ⟨S1x1x1024, .f32⟩
  | .local _ .vmem, ⟨32, _⟩ => ⟨S1x1x1024, .f32⟩
  | .local _ .vmem, ⟨33, _⟩ => ⟨S1x1x1024, .f32⟩
  | .local _ .vmem, ⟨34, _⟩ => ⟨S1x8x128x128, .f32⟩
  | .local _ .vmem, ⟨35, _⟩ => ⟨S128x8, .f32⟩
  | .local _ .vmem, ⟨36, _⟩ => ⟨S1x4x1024, .f32⟩
  | .local _ .vmem, ⟨37, _⟩ => ⟨S1x1x1024, .f32⟩
  | .local _ .vmem, ⟨38, _⟩ => ⟨S1x8x128x256, .f32⟩
  | .local _ .vmem, ⟨39, _⟩ => ⟨S1x1x2048, .f32⟩
  | .local _ .vmem, ⟨40, _⟩ => ⟨S1x1x1024, .f32⟩
  | .local _ .vmem, ⟨41, _⟩ => ⟨S1x3x1024, .f32⟩
  | .local _ .vmem, ⟨42, _⟩ => ⟨S4x256x1024, .bf16⟩
  | .local _ .vmem, ⟨43, _⟩ => ⟨S4x256x1024, .bf16⟩
  | .local _ .vmem, ⟨44, _⟩ => ⟨S8x128x256, .f32⟩
  | .local _ .vmem, ⟨45, _⟩ => ⟨S1x128, .f32⟩
  | .local _ .vmem, ⟨46, _⟩ => ⟨S8x1024, .f32⟩
  | .local _ .vmem, ⟨47, _⟩ => ⟨S1x1024, .f32⟩
  | .local _ .vmem, ⟨48, _⟩ => ⟨S8x1024, .f32⟩
  | _, _ => ⟨S8192x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_call1_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_stg25_0 : Ref sig .tc := ⟨.vmem, 40, rfl⟩
abbrev cc0_stg26_0 : Ref sig .tc := ⟨.vmem, 41, rfl⟩
abbrev cc0_stg27_0 : Ref sig .tc := ⟨.vmem, 42, rfl⟩
abbrev cc0_stg27_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem19_0 : DmaSem sig := 34
abbrev cc0_sem20_0 : DmaSem sig := 35
abbrev cc0_sem21_0 : DmaSem sig := 36
abbrev cc0_sem22_0 : DmaSem sig := 37
abbrev cc0_sem23_0 : DmaSem sig := 38
abbrev cc0_sem24_0 : DmaSem sig := 39
abbrev cc0_sem25_0 : DmaSem sig := 40
abbrev cc0_sem26_0 : DmaSem sig := 41
abbrev cc0_sem27_0 : DmaSem sig := 42
abbrev cc0_sem27_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_9 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_10 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_11 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_12 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_13 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x8x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x4x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x8x128x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x3x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S4x256x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== GmlpConvIdeal.lean ====
abbrev S8192x14336 : Shape := ⟨2, ![8192, 14336]⟩
abbrev S8192x16 : Shape := ⟨2, ![8192, 16]⟩
abbrev S2x16 : Shape := ⟨2, ![2, 16]⟩
abbrev S2x1024 : Shape := ⟨2, ![2, 1024]⟩
abbrev S2x8x128x128 : Shape := ⟨4, ![2, 8, 128, 128]⟩
abbrev S2x8x128 : Shape := ⟨3, ![2, 8, 128]⟩
abbrev S2x4x1024 : Shape := ⟨3, ![2, 4, 1024]⟩
abbrev S2x8x128x256 : Shape := ⟨4, ![2, 8, 128, 256]⟩
abbrev S2x2048 : Shape := ⟨2, ![2, 2048]⟩
abbrev S2x3x1024 : Shape := ⟨3, ![2, 3, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x8x128x128 : Shape := ⟨4, ![1, 8, 128, 128]⟩
abbrev S8x128x128 : Shape := ⟨3, ![8, 128, 128]⟩
abbrev S8x64x128x128 : Shape := ⟨4, ![8, 64, 128, 128]⟩
abbrev S1x8x128 : Shape := ⟨3, ![1, 8, 128]⟩
abbrev S8x128 : Shape := ⟨2, ![8, 128]⟩
abbrev S128x8 : Shape := ⟨2, ![128, 8]⟩
abbrev S1x128x8x1 : Shape := ⟨4, ![1, 128, 8, 1]⟩
abbrev S1x3x1024 : Shape := ⟨3, ![1, 3, 1024]⟩
abbrev S3x1024 : Shape := ⟨2, ![3, 1024]⟩
abbrev S8194x1024 : Shape := ⟨2, ![8194, 1024]⟩
abbrev S1x8192x1024 : Shape := ⟨3, ![1, 8192, 1024]⟩
abbrev S4x8192x1024 : Shape := ⟨3, ![4, 8192, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8192x14336, .f32⟩
  | .hbm, ⟨1, _⟩ => ⟨S8192x16, .f32⟩
  | .hbm, ⟨2, _⟩ => ⟨S2x16, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x8x128x128, .f32⟩
  | .hbm, ⟨7, _⟩ => ⟨S2x8x128, .f32⟩
  | .hbm, ⟨8, _⟩ => ⟨S2x4x1024, .f32⟩
  | .hbm, ⟨9, _⟩ => ⟨S2x1024, .f32⟩
  | .hbm, ⟨10, _⟩ => ⟨S2x8x128x256, .f32⟩
  | .hbm, ⟨11, _⟩ => ⟨S2x2048, .f32⟩
  | .hbm, ⟨12, _⟩ => ⟨S2x1024, .f32⟩
  | .hbm, ⟨13, _⟩ => ⟨S2x3x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S64x128x8x128, .f32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S1x8x128x128, .f32⟩
  | .hbm, ⟨53, _⟩ => ⟨S8x128x128, .f32⟩
  | .hbm, ⟨54, _⟩ => ⟨S_, .f32⟩
  | .hbm, ⟨55, _⟩ => ⟨S_, .f32⟩
  | .hbm, ⟨56, _⟩ => ⟨S8x128x128, .i1⟩
  | .hbm, ⟨57, _⟩ => ⟨S8x128x128, .f32⟩
  | .hbm, ⟨58, _⟩ => ⟨S8x128x128, .f32⟩
  | .hbm, ⟨59, _⟩ => ⟨S8x64x128x128, .f32⟩
  | .hbm, ⟨60, _⟩ => ⟨S64x128x8x128, .f32⟩
  | .hbm, ⟨61, _⟩ => ⟨S1x8x128, .f32⟩
  | .hbm, ⟨62, _⟩ => ⟨S8x128, .f32⟩
  | .hbm, ⟨63, _⟩ => ⟨S128x8, .f32⟩
  | .hbm, ⟨64, _⟩ => ⟨S1x128x8x1, .f32⟩
  | .hbm, ⟨65, _⟩ => ⟨S64x128x8x128, .f32⟩
  | .hbm, ⟨66, _⟩ => ⟨S64x128x8x128, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S1x3x1024, .f32⟩
  | .hbm, ⟨85, _⟩ => ⟨S3x1024, .f32⟩
  | .hbm, ⟨86, _⟩ => ⟨S_, .i32⟩
  | .hbm, ⟨87, _⟩ => ⟨S_, .f32⟩
  | .hbm, ⟨88, _⟩ => ⟨S8194x1024, .f32⟩
  | .hbm, ⟨89, _⟩ => ⟨S8192x1024, .f32⟩
  | .hbm, ⟨90, _⟩ => ⟨S1x1024, .f32⟩
  | .hbm, ⟨91, _⟩ => ⟨S1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S1x1024, .f32⟩
  | .hbm, ⟨97, _⟩ => ⟨S1024, .f32⟩
  | .hbm, ⟨98, _⟩ => ⟨S1x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S1x1024, .f32⟩
  | .hbm, ⟨104, _⟩ => ⟨S1024, .f32⟩
  | .hbm, ⟨105, _⟩ => ⟨S1x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S_, .f32⟩
  | .hbm, ⟨113, _⟩ => ⟨S8192x1024, .f32⟩
  | .hbm, ⟨114, _⟩ => ⟨S8192x1024, .f32⟩
  | .hbm, ⟨115, _⟩ => ⟨S_, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S_, .f32⟩
  | .hbm, ⟨121, _⟩ => ⟨S8192x1024, .f32⟩
  | .hbm, ⟨122, _⟩ => ⟨S1x8192x1024, .f32⟩
  | .hbm, ⟨123, _⟩ => ⟨S1x8192x1024, .f32⟩
  | .hbm, ⟨124, _⟩ => ⟨S1x8192x1024, .f32⟩
  | .hbm, ⟨125, _⟩ => ⟨S1x8192x1024, .f32⟩
  | .hbm, ⟨126, _⟩ => ⟨S4x8192x1024, .f32⟩
  | .hbm, ⟨127, _⟩ => ⟨S4x8192x1024, .bf16⟩
  | _, _ => ⟨S8192x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_7 : Ref sig .tc := ⟨.hbm, 112, rfl⟩
abbrev main_v85 : Ref sig .tc := ⟨.hbm, 113, rfl⟩
abbrev main_v86 : Ref sig .tc := ⟨.hbm, 114, rfl⟩
abbrev main_cst_8 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_9 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩

abbrev nD : Nat := 1
abbrev τ : Topo := Topo.v7x

variable {F : FTy → Type} [FloatOps F]
-- ==== RgLruIdeal.lean ====
abbrev S8192x14336 : Shape := ⟨2, ![8192, 14336]⟩
abbrev S8192x16 : Shape := ⟨2, ![8192, 16]⟩
abbrev S2x16 : Shape := ⟨2, ![2, 16]⟩
abbrev S2x1024 : Shape := ⟨2, ![2, 1024]⟩
abbrev S2x8x128x128 : Shape := ⟨4, ![2, 8, 128, 128]⟩
abbrev S2x8x128 : Shape := ⟨3, ![2, 8, 128]⟩
abbrev S2x4x1024 : Shape := ⟨3, ![2, 4, 1024]⟩
abbrev S2x8x128x256 : Shape := ⟨4, ![2, 8, 128, 256]⟩
abbrev S2x2048 : Shape := ⟨2, ![2, 2048]⟩
abbrev S2x3x1024 : Shape := ⟨3, ![2, 3, 1024]⟩
abbrev S8192x1024 : Shape := ⟨2, ![8192, 1024]⟩
abbrev S1x4x1024 : Shape := ⟨3, ![1, 4, 1024]⟩
abbrev S4x1024 : Shape := ⟨2, ![4, 1024]⟩
abbrev S_ : Shape := ⟨0, ![]⟩
abbrev S8195x1024 : Shape := ⟨2, ![8195, 1024]⟩
abbrev S1x1024 : Shape := ⟨2, ![1, 1024]⟩
abbrev S1024 : Shape := ⟨1, ![1024]⟩
abbrev S8192x8x128 : Shape := ⟨3, ![8192, 8, 128]⟩
abbrev S1x8x128x256 : Shape := ⟨4, ![1, 8, 128, 256]⟩
abbrev S8x128x256 : Shape := ⟨3, ![8, 128, 256]⟩
abbrev S8x256x8192 : Shape := ⟨3, ![8, 256, 8192]⟩
abbrev S8192x8x256 : Shape := ⟨3, ![8192, 8, 256]⟩
abbrev S1x8192x1024 : Shape := ⟨3, ![1, 8192, 1024]⟩
abbrev S4x8192x1024 : Shape := ⟨3, ![4, 8192, 1024]⟩

abbrev nBuf : Space → Nat
  | .hbm => 165
  | .vmem => 0
  | .smem => 0
  | _ => 0

abbrev hbmTy0_0 (i : Nat) : BufTy := match i % 128 with
  | 0 => ⟨S8192x14336, .f32⟩
  | 1 => ⟨S8192x16, .f32⟩
  | 2 => ⟨S2x16, .f32⟩
  | 3 => ⟨S2x1024, .f32⟩
  | 4 => ⟨S2x1024, .f32⟩
  | 5 => ⟨S2x1024, .f32⟩
  | 6 => ⟨S2x8x128x128, .f32⟩
  | 7 => ⟨S2x8x128, .f32⟩
  | 8 => ⟨S2x4x1024, .f32⟩
  | 9 => ⟨S2x1024, .f32⟩
  | 10 => ⟨S2x8x128x256, .f32⟩
  | 11 => ⟨S2x2048, .f32⟩
  | 12 => ⟨S2x1024, .f32⟩
  | 13 => ⟨S2x3x1024, .f32⟩
  | 14 => ⟨S8192x1024, .f32⟩
  | 15 => ⟨S1x4x1024, .f32⟩
  | 16 => ⟨S4x1024, .f32⟩
  | 17 => ⟨S_, .i32⟩
  | 18 => ⟨S_, .f32⟩
  | 19 => ⟨S8195x1024, .f32⟩
  | 20 => ⟨S8192x1024, .f32⟩
  | 21 => ⟨S1x1024, .f32⟩
  | 22 => ⟨S1024, .f32⟩
  | 23 => ⟨S1x1024, .f32⟩
  | 24 => ⟨S8192x1024, .f32⟩
  | 25 => ⟨S8192x1024, .f32⟩
  | 26 => ⟨S8192x1024, .f32⟩
  | 27 => ⟨S1x1024, .f32⟩
  | 28 => ⟨S1024, .f32⟩
  | 29 => ⟨S1x1024, .f32⟩
  | 30 => ⟨S8192x1024, .f32⟩
  | 31 => ⟨S8192x1024, .f32⟩
  | 32 => ⟨S8192x1024, .f32⟩
  | 33 => ⟨S8192x1024, .f32⟩
  | 34 => ⟨S1x1024, .f32⟩
  | 35 => ⟨S1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S1x1024, .f32⟩
  | 42 => ⟨S1024, .f32⟩
  | 43 => ⟨S1x1024, .f32⟩
  | 44 => ⟨S8192x1024, .f32⟩
  | 45 => ⟨S8192x1024, .f32⟩
  | 46 => ⟨S8192x1024, .f32⟩
  | 47 => ⟨S1x1024, .f32⟩
  | 48 => ⟨S1024, .f32⟩
  | 49 => ⟨S1x1024, .f32⟩
  | 50 => ⟨S8192x1024, .f32⟩
  | 51 => ⟨S8192x1024, .f32⟩
  | 52 => ⟨S8192x8x128, .f32⟩
  | 53 => ⟨S1x8x128x256, .f32⟩
  | 54 => ⟨S8x128x256, .f32⟩
  | 55 => ⟨S8x256x8192, .f32⟩
  | 56 => ⟨S8192x8x256, .f32⟩
  | 57 => ⟨S8192x8x128, .f32⟩
  | 58 => ⟨S8192x1024, .f32⟩
  | 59 => ⟨S1x1024, .f32⟩
  | 60 => ⟨S1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x8x128, .f32⟩
  | 73 => ⟨S8192x1024, .f32⟩
  | 74 => ⟨S1x1024, .f32⟩
  | 75 => ⟨S1024, .f32⟩
  | 76 => ⟨S1x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S1x1024, .f32⟩
  | 91 => ⟨S1024, .f32⟩
  | 92 => ⟨S1024, .f32⟩
  | 93 => ⟨S_, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .i32⟩
  | 112 => ⟨S_, .i32⟩
  | 113 => ⟨S8192x1024, .i32⟩
  | 114 => ⟨S8192x1024, .i1⟩
  | 115 => ⟨S_, .f32⟩
  | 116 => ⟨S_, .f32⟩
  | 117 => ⟨S8192x1024, .f32⟩
  | 118 => ⟨S8192x1024, .f32⟩
  | 119 => ⟨S8192x1024, .f32⟩
  | 120 => ⟨S8192x1024, .f32⟩
  | 121 => ⟨S_, .f32⟩
  | 122 => ⟨S1024, .f32⟩
  | 123 => ⟨S_, .f32⟩
  | 124 => ⟨S8192x1024, .f32⟩
  | 125 => ⟨S_, .i32⟩
  | 126 => ⟨S8192x1024, .f32⟩
  | 127 => ⟨S8192x1024, .f32⟩
  | _ => ⟨S8192x14336, .f32⟩

abbrev hbmTy0_1 (i : Nat) : BufTy := match i % 128 with
  | 0 => ⟨S_, .i32⟩
  | 1 => ⟨S1024, .f32⟩
  | 2 => ⟨S8192x1024, .f32⟩
  | 3 => ⟨S_, .i32⟩
  | 4 => ⟨S_, .i1⟩
  | 5 => ⟨S_, .i32⟩
  | 6 => ⟨S1x1024, .f32⟩
  | 7 => ⟨S1024, .f32⟩
  | 8 => ⟨S_, .i32⟩
  | 9 => ⟨S1x1024, .f32⟩
  | 10 => ⟨S1024, .f32⟩
  | 11 => ⟨S1024, .f32⟩
  | 12 => ⟨S1024, .f32⟩
  | 13 => ⟨S1x1024, .f32⟩
  | 14 => ⟨S_, .i32⟩
  | 15 => ⟨S8192x1024, .f32⟩
  | 16 => ⟨S_, .i32⟩
  | 17 => ⟨S_, .i32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S1x8192x1024, .f32⟩
  | 32 => ⟨S1x8192x1024, .f32⟩
  | 33 => ⟨S1x8192x1024, .f32⟩
  | 34 => ⟨S1x8192x1024, .f32⟩
  | 35 => ⟨S4x8192x1024, .f32⟩
  | 36 => ⟨S4x8192x1024, .bf16⟩
  | _ => ⟨S8192x14336, .f32⟩

abbrev hbmTy (i : Nat) : BufTy := match i / 128 with
  | 0 => hbmTy0_0 i
  | 1 => hbmTy0_1 i
  | _ => ⟨S8192x14336, .f32⟩

abbrev bufTy : (tb : Table) → Fin (tcTables nBuf tb) → BufTy
  | .hbm, ⟨i, _⟩ => hbmTy i
  | _, _ => ⟨S8192x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_call0_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst : Ref sig .tc := ⟨.hbm, 66, rfl⟩
abbrev main_v50 : Ref sig .tc := ⟨.hbm, 67, rfl⟩
abbrev main_v51 : Ref sig .tc := ⟨.hbm, 68, rfl⟩
abbrev main_cst_0 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_1 : Ref sig .tc := ⟨.hbm, 81, rfl⟩
abbrev main_v63 : Ref sig .tc := ⟨.hbm, 82, rfl⟩
abbrev main_v64 : Ref sig .tc := ⟨.hbm, 83, rfl⟩
abbrev main_cst_2 : Ref sig .tc := ⟨.hbm, 84, rfl⟩
abbrev main_v65 : Ref sig .tc := ⟨.hbm, 85, rfl⟩
abbrev main_v66 : Ref sig .tc := ⟨.hbm, 86, rfl⟩
abbrev main_cst_3 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_4 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_5 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_c_6 : Ref sig .tc := ⟨.hbm, 112, rfl⟩
abbrev main_v89 : Ref sig .tc := ⟨.hbm, 113, rfl⟩
abbrev main_v90 : Ref sig .tc := ⟨.hbm, 114, rfl⟩
abbrev main_cst_7 : Ref sig .tc := ⟨.hbm, 115, rfl⟩
abbrev main_call1_v0 : Ref sig .tc := ⟨.hbm, 116, rfl⟩
abbrev main_call1_v1 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_8 : Ref sig .tc := ⟨.hbm, 121, rfl⟩
abbrev main_v94 : Ref sig .tc := ⟨.hbm, 122, rfl⟩
abbrev main_cst_9 : Ref sig .tc := ⟨.hbm, 123, rfl⟩
abbrev main_v95 : Ref sig .tc := ⟨.hbm, 124, rfl⟩
abbrev main_c_10 : Ref sig .tc := ⟨.hbm, 125, rfl⟩
abbrev main_v96_0 : Ref sig .tc := ⟨.hbm, 126, rfl⟩
abbrev main_v96_1 : Ref sig .tc := ⟨.hbm, 127, rfl⟩
abbrev main_v96_2 : Ref sig .tc := ⟨.hbm, 128, rfl⟩
abbrev main_v96_3 : Ref sig .tc := ⟨.hbm, 129, rfl⟩
abbrev main_v96_4 : Ref sig .tc := ⟨.hbm, 130, rfl⟩
abbrev main_while0c_c_18 : Ref sig .tc := ⟨.hbm, 131, rfl⟩
abbrev main_while0c_v113 : Ref sig .tc := ⟨.hbm, 132, rfl⟩
abbrev main_while0b_call2_c : Ref sig .tc := ⟨.hbm, 133, rfl⟩
abbrev main_while0b_call2_v0 : Ref sig .tc := ⟨.hbm, 134, rfl⟩
abbrev main_while0b_v113 : Ref sig .tc := ⟨.hbm, 135, rfl⟩
abbrev main_while0b_call3_c : Ref sig .tc := ⟨.hbm, 136, rfl⟩
abbrev main_while0b_call3_v0 : Ref sig .tc := ⟨.hbm, 137, rfl⟩
abbrev main_while0b_v114 : Ref sig .tc := ⟨.hbm, 138, rfl⟩
abbrev main_while0b_v115 : Ref sig .tc := ⟨.hbm, 139, rfl⟩
abbrev main_while0b_v116 : Ref sig .tc := ⟨.hbm, 140, rfl⟩
abbrev main_while0b_call4_v0 : Ref sig .tc := ⟨.hbm, 141, rfl⟩
abbrev main_while0b_call4_c : Ref sig .tc := ⟨.hbm, 142, rfl⟩
abbrev main_while0b_v117 : Ref sig .tc := ⟨.hbm, 143, rfl⟩
abbrev main_while0b_c_18 : Ref sig .tc := ⟨.hbm, 144, rfl⟩
abbrev main_while0b_v118 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_11 : Ref sig .tc := ⟨.hbm, 149, rfl⟩
abbrev main_v100 : Ref sig .tc := ⟨.hbm, 150, rfl⟩
abbrev main_v101 : Ref sig .tc := ⟨.hbm, 151, rfl⟩
abbrev main_cst_12 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_13 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S8192x4096 : Shape := ⟨2, ![8192, 4096]⟩
abbrev S4x8192x1024 : Shape := ⟨3, ![4, 8192, 1024]⟩
abbrev S2x4096x30736 : Shape := ⟨3, ![2, 4096, 30736]⟩
abbrev S2x4x1024x4096 : Shape := ⟨4, ![2, 4, 1024, 4096]⟩
abbrev S2x30736x4096 : Shape := ⟨3, ![2, 30736, 4096]⟩
abbrev S1024x4096 : Shape := ⟨2, ![1024, 4096]⟩
abbrev S1x1024x1024 : Shape := ⟨3, ![1, 1024, 1024]⟩
abbrev S1x512x4096 : Shape := ⟨3, ![1, 512, 4096]⟩
abbrev S1x1x1024x512 : Shape := ⟨4, ![1, 1, 1024, 512]⟩
abbrev S1024x512 : Shape := ⟨2, ![1024, 512]⟩
abbrev S2x1024x512 : Shape := ⟨3, ![2, 1024, 512]⟩
abbrev S1x1024x512 : Shape := ⟨3, ![1, 1024, 512]⟩
abbrev S1024x1024 : Shape := ⟨2, ![1024, 1024]⟩
abbrev S512x4096 : Shape := ⟨2, ![512, 4096]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4x8192x1024, .bf16⟩
  | .hbm, ⟨2, _⟩ => ⟨S2x4096x30736, .f32⟩
  | .hbm, ⟨3, _⟩ => ⟨S2x4x1024x4096, .f32⟩
  | .hbm, ⟨4, _⟩ => ⟨S2x30736x4096, .f32⟩
  | .hbm, ⟨5, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x512x4096, .f32⟩
  | .local _ .vmem, ⟨5, _⟩ => ⟨S1x512x4096, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1024x512, .bf16⟩
  | .local _ .vmem, ⟨9, _⟩ => ⟨S1024x512, .bf16⟩
  | .local _ .vmem, ⟨10, _⟩ => ⟨S2x1024x512, .f32⟩
  | .local _ .vmem, ⟨11, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![257], ![false]⟩

def k0_off1 (i : grid0.Coords) : Fin 3 → Nat :=
  let arg0 : BitVec 32 := BitVec.ofNat 32 (i 0).val
  let c1_i32_2 : BitVec 32 := 1#32
  let v6 : BitVec 32 := Scalar.addi arg0 c1_i32_2
  let c2_i32 : BitVec 32 := 2#32
  let v7 : BitVec 32 := Scalar.remsi v6 c2_i32
  let v8 : Index := Scalar.indexCast v7
  let c0 : Index := 0#32
  let c0_3 : Index := 0#32
  ![v8.toNat, 0, 0]
def k0_off2 (i : grid0.Coords) : Fin 3 → Nat :=
  let arg0 : BitVec 32 := BitVec.ofNat 32 (i 0).val
  let c2_i32_26 : BitVec 32 := 2#32
  let v38 : BitVec 32 := Scalar.remsi arg0 c2_i32_26
  let v39 : Index := Scalar.indexCast v38
  let c0_27 : Index := 0#32
  let c0_28 : Index := 0#32
  ![v39.toNat, 0, 0]
def k0_cond2 (i : grid0.Coords) : BitVec 1 :=
  let arg0 : BitVec 32 := BitVec.ofNat 32 (i 0).val
  let c1_i32 : BitVec 32 := 1#32
  let v3 : BitVec 32 := Scalar.subi arg0 c1_i32
  let c0_i32_1 : BitVec 32 := 0#32
  let v4 : BitVec 32 := Scalar.maxsi v3 c0_i32_1
  let c4_i32 : BitVec 32 := 4#32
  let v5 : BitVec 32 := Scalar.remsi v4 c4_i32
  let c3_i32 : BitVec 32 := 3#32
  let v43 : BitVec 1 := Scalar.cmpi .eq v5 c3_i32
  let v44 : BitVec 32 := Scalar.extui v43
  let c0_i32_29 : BitVec 32 := 0#32
  let v45 : BitVec 1 := Scalar.cmpi .ne v44 c0_i32_29
  v45

def cc0_transform_0 (i : grid0.Coords) : Fin 2 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.divsi v0 c4_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c4_i32 c0_i32_6
  let v25 : BitVec 32 := Scalar.extui v24
  let c0_i32_7 : BitVec 32 := 0#32
  let v26 : BitVec 1 := Scalar.cmpi .slt c4_i32 c0_i32_7
  let v27 : BitVec 32 := Scalar.extui v26
  let v28 : BitVec 32 := Scalar.subi v25 v27
  let v29 : BitVec 1 := Scalar.cmpi .ne v23 v28
  let v30 : BitVec 32 := Scalar.remsi v0 c4_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c8_i32 : BitVec 32 := 8#32
  let v35 : BitVec 32 := Scalar.remsi v34 c8_i32
  let c4_i32_10 : BitVec 32 := 4#32
  let v36 : BitVec 32 := Scalar.remsi v0 c4_i32_10
  let c0_i32_11 : BitVec 32 := 0#32
  let c0_i32_12 : BitVec 32 := 0#32
  ![v17.toNat, c0_i32_11.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32 : BitVec 32 := 4#32
  let v19 : BitVec 32 := Scalar.divsi v1 c4_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c4_i32 c0_i32_8
  let v26 : BitVec 32 := Scalar.extui v25
  let c0_i32_9 : BitVec 32 := 0#32
  let v27 : BitVec 1 := Scalar.cmpi .slt c4_i32 c0_i32_9
  let v28 : BitVec 32 := Scalar.extui v27
  let v29 : BitVec 32 := Scalar.subi v26 v28
  let v30 : BitVec 1 := Scalar.cmpi .ne v24 v29
  let v31 : BitVec 32 := Scalar.remsi v1 c4_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c8_i32 : BitVec 32 := 8#32
  let v36 : BitVec 32 := Scalar.remsi v35 c8_i32
  let c4_i32_12 : BitVec 32 := 4#32
  let v37 : BitVec 32 := Scalar.remsi v1 c4_i32_12
  let c1_i32_13 : BitVec 32 := 1#32
  let v38 : BitVec 32 := Scalar.subi arg0 c1_i32_13
  let c0_i32_14 : BitVec 32 := 0#32
  let v39 : BitVec 32 := Scalar.maxsi v38 c0_i32_14
  let c32_i32_15 : BitVec 32 := 32#32
  let v40 : BitVec 32 := Scalar.divsi v39 c32_i32_15
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c0_i32_18 : BitVec 32 := 0#32
  let v46 : BitVec 1 := Scalar.cmpi .sgt c32_i32_15 c0_i32_18
  let v47 : BitVec 32 := Scalar.extui v46
  let c0_i32_19 : BitVec 32 := 0#32
  let v48 : BitVec 1 := Scalar.cmpi .slt c32_i32_15 c0_i32_19
  let v49 : BitVec 32 := Scalar.extui v48
  let v50 : BitVec 32 := Scalar.subi v47 v49
  let v51 : BitVec 1 := Scalar.cmpi .ne v45 v50
  let v52 : BitVec 32 := Scalar.remsi v39 c32_i32_15
  let c0_i32_20 : BitVec 32 := 0#32
  let v53 : BitVec 1 := Scalar.cmpi .ne v52 c0_i32_20
  let v54 : BitVec 1 := Scalar.andi v51 v53
  let c1_i32_21 : BitVec 32 := 1#32
  let v55 : BitVec 32 := Scalar.subi v40 c1_i32_21
  let v56 : BitVec 32 := Scalar.select v54 v55 v40
  let c4_i32_22 : BitVec 32 := 4#32
  let v57 : BitVec 32 := Scalar.divsi v39 c4_i32_22
  let c0_i32_23 : BitVec 32 := 0#32
  let v58 : BitVec 1 := Scalar.cmpi .sgt v39 c0_i32_23
  let v59 : BitVec 32 := Scalar.extui v58
  let c0_i32_24 : BitVec 32 := 0#32
  let v60 : BitVec 1 := Scalar.cmpi .slt v39 c0_i32_24
  let v61 : BitVec 32 := Scalar.extui v60
  let v62 : BitVec 32 := Scalar.subi v59 v61
  let c0_i32_25 : BitVec 32 := 0#32
  let v63 : BitVec 1 := Scalar.cmpi .sgt c4_i32_22 c0_i32_25
  let v64 : BitVec 32 := Scalar.extui v63
  let c0_i32_26 : BitVec 32 := 0#32
  let v65 : BitVec 1 := Scalar.cmpi .slt c4_i32_22 c0_i32_26
  let v66 : BitVec 32 := Scalar.extui v65
  let v67 : BitVec 32 := Scalar.subi v64 v66
  let v68 : BitVec 1 := Scalar.cmpi .ne v62 v67
  let v69 : BitVec 32 := Scalar.remsi v39 c4_i32_22
  let c0_i32_27 : BitVec 32 := 0#32
  let v70 : BitVec 1 := Scalar.cmpi .ne v69 c0_i32_27
  let v71 : BitVec 1 := Scalar.andi v68 v70
  let c1_i32_28 : BitVec 32 := 1#32
  let v72 : BitVec 32 := Scalar.subi v57 c1_i32_28
  let v73 : BitVec 32 := Scalar.select v71 v72 v57
  let c8_i32_29 : BitVec 32 := 8#32
  let v74 : BitVec 32 := Scalar.remsi v73 c8_i32_29
  let c4_i32_30 : BitVec 32 := 4#32
  let v75 : BitVec 32 := Scalar.remsi v39 c4_i32_30
  let c0_i32_31 : BitVec 32 := 0#32
  let c0_i32_32 : BitVec 32 := 0#32
  ![v37.toNat, v56.toNat, c0_i32_31.toNat]

def cc0_transform_2 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.divsi v0 c4_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c4_i32 c0_i32_6
  let v25 : BitVec 32 := Scalar.extui v24
  let c0_i32_7 : BitVec 32 := 0#32
  let v26 : BitVec 1 := Scalar.cmpi .slt c4_i32 c0_i32_7
  let v27 : BitVec 32 := Scalar.extui v26
  let v28 : BitVec 32 := Scalar.subi v25 v27
  let v29 : BitVec 1 := Scalar.cmpi .ne v23 v28
  let v30 : BitVec 32 := Scalar.remsi v0 c4_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c8_i32 : BitVec 32 := 8#32
  let v35 : BitVec 32 := Scalar.remsi v34 c8_i32
  let c4_i32_10 : BitVec 32 := 4#32
  let v36 : BitVec 32 := Scalar.remsi v0 c4_i32_10
  let c8_i32_11 : BitVec 32 := 8#32
  let v37 : BitVec 32 := Scalar.muli v36 c8_i32_11
  let v38 : BitVec 32 := Scalar.addi v37 v35
  let c64_i32 : BitVec 32 := 64#32
  let v39 : BitVec 32 := Scalar.muli v38 c64_i32
  let c1794_i32 : BitVec 32 := 1794#32
  let v40 : BitVec 32 := Scalar.addi c1794_i32 v39
  let c8_i32_12 : BitVec 32 := 8#32
  let v41 : BitVec 32 := Scalar.muli v40 c8_i32_12
  let c0_i32_13 : BitVec 32 := 0#32
  let c0_i32_14 : BitVec 32 := 0#32
  let c0_i32_15 : BitVec 32 := 0#32
  ![c0_i32_13.toNat, v41.toNat, c0_i32_14.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32 : BitVec 32 := 4#32
  let v19 : BitVec 32 := Scalar.divsi v1 c4_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c4_i32 c0_i32_8
  let v26 : BitVec 32 := Scalar.extui v25
  let c0_i32_9 : BitVec 32 := 0#32
  let v27 : BitVec 1 := Scalar.cmpi .slt c4_i32 c0_i32_9
  let v28 : BitVec 32 := Scalar.extui v27
  let v29 : BitVec 32 := Scalar.subi v26 v28
  let v30 : BitVec 1 := Scalar.cmpi .ne v24 v29
  let v31 : BitVec 32 := Scalar.remsi v1 c4_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c8_i32 : BitVec 32 := 8#32
  let v36 : BitVec 32 := Scalar.remsi v35 c8_i32
  let c4_i32_12 : BitVec 32 := 4#32
  let v37 : BitVec 32 := Scalar.remsi v1 c4_i32_12
  let c1_i32_13 : BitVec 32 := 1#32
  let v38 : BitVec 32 := Scalar.subi arg0 c1_i32_13
  let c0_i32_14 : BitVec 32 := 0#32
  let v39 : BitVec 32 := Scalar.maxsi v38 c0_i32_14
  let c32_i32_15 : BitVec 32 := 32#32
  let v40 : BitVec 32 := Scalar.divsi v39 c32_i32_15
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c0_i32_18 : BitVec 32 := 0#32
  let v46 : BitVec 1 := Scalar.cmpi .sgt c32_i32_15 c0_i32_18
  let v47 : BitVec 32 := Scalar.extui v46
  let c0_i32_19 : BitVec 32 := 0#32
  let v48 : BitVec 1 := Scalar.cmpi .slt c32_i32_15 c0_i32_19
  let v49 : BitVec 32 := Scalar.extui v48
  let v50 : BitVec 32 := Scalar.subi v47 v49
  let v51 : BitVec 1 := Scalar.cmpi .ne v45 v50
  let v52 : BitVec 32 := Scalar.remsi v39 c32_i32_15
  let c0_i32_20 : BitVec 32 := 0#32
  let v53 : BitVec 1 := Scalar.cmpi .ne v52 c0_i32_20
  let v54 : BitVec 1 := Scalar.andi v51 v53
  let c1_i32_21 : BitVec 32 := 1#32
  let v55 : BitVec 32 := Scalar.subi v40 c1_i32_21
  let v56 : BitVec 32 := Scalar.select v54 v55 v40
  let c4_i32_22 : BitVec 32 := 4#32
  let v57 : BitVec 32 := Scalar.divsi v39 c4_i32_22
  let c0_i32_23 : BitVec 32 := 0#32
  let v58 : BitVec 1 := Scalar.cmpi .sgt v39 c0_i32_23
  let v59 : BitVec 32 := Scalar.extui v58
  let c0_i32_24 : BitVec 32 := 0#32
  let v60 : BitVec 1 := Scalar.cmpi .slt v39 c0_i32_24
  let v61 : BitVec 32 := Scalar.extui v60
  let v62 : BitVec 32 := Scalar.subi v59 v61
  let c0_i32_25 : BitVec 32 := 0#32
  let v63 : BitVec 1 := Scalar.cmpi .sgt c4_i32_22 c0_i32_25
  let v64 : BitVec 32 := Scalar.extui v63
  let c0_i32_26 : BitVec 32 := 0#32
  let v65 : BitVec 1 := Scalar.cmpi .slt c4_i32_22 c0_i32_26
  let v66 : BitVec 32 := Scalar.extui v65
  let v67 : BitVec 32 := Scalar.subi v64 v66
  let v68 : BitVec 1 := Scalar.cmpi .ne v62 v67
  let v69 : BitVec 32 := Scalar.remsi v39 c4_i32_22
  let c0_i32_27 : BitVec 32 := 0#32
  let v70 : BitVec 1 := Scalar.cmpi .ne v69 c0_i32_27
  let v71 : BitVec 1 := Scalar.andi v68 v70
  let c1_i32_28 : BitVec 32 := 1#32
  let v72 : BitVec 32 := Scalar.subi v57 c1_i32_28
  let v73 : BitVec 32 := Scalar.select v71 v72 v57
  let c8_i32_29 : BitVec 32 := 8#32
  let v74 : BitVec 32 := Scalar.remsi v73 c8_i32_29
  let c4_i32_30 : BitVec 32 := 4#32
  let v75 : BitVec 32 := Scalar.remsi v39 c4_i32_30
  let c0_i32_31 : BitVec 32 := 0#32
  let c0_i32_32 : BitVec 32 := 0#32
  let c0_i32_33 : BitVec 32 := 0#32
  ![c0_i32_31.toNat, v37.toNat, c0_i32_32.toNat, v74.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32 : BitVec 32 := 4#32
  let v19 : BitVec 32 := Scalar.divsi v1 c4_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c4_i32 c0_i32_8
  let v26 : BitVec 32 := Scalar.extui v25
  let c0_i32_9 : BitVec 32 := 0#32
  let v27 : BitVec 1 := Scalar.cmpi .slt c4_i32 c0_i32_9
  let v28 : BitVec 32 := Scalar.extui v27
  let v29 : BitVec 32 := Scalar.subi v26 v28
  let v30 : BitVec 1 := Scalar.cmpi .ne v24 v29
  let v31 : BitVec 32 := Scalar.remsi v1 c4_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c8_i32 : BitVec 32 := 8#32
  let v36 : BitVec 32 := Scalar.remsi v35 c8_i32
  let c4_i32_12 : BitVec 32 := 4#32
  let v37 : BitVec 32 := Scalar.remsi v1 c4_i32_12
  let c1_i32_13 : BitVec 32 := 1#32
  let v38 : BitVec 32 := Scalar.subi arg0 c1_i32_13
  let c0_i32_14 : BitVec 32 := 0#32
  let v39 : BitVec 32 := Scalar.maxsi v38 c0_i32_14
  let c32_i32_15 : BitVec 32 := 32#32
  let v40 : BitVec 32 := Scalar.divsi v39 c32_i32_15
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c0_i32_18 : BitVec 32 := 0#32
  let v46 : BitVec 1 := Scalar.cmpi .sgt c32_i32_15 c0_i32_18
  let v47 : BitVec 32 := Scalar.extui v46
  let c0_i32_19 : BitVec 32 := 0#32
  let v48 : BitVec 1 := Scalar.cmpi .slt c32_i32_15 c0_i32_19
  let v49 : BitVec 32 := Scalar.extui v48
  let v50 : BitVec 32 := Scalar.subi v47 v49
  let v51 : BitVec 1 := Scalar.cmpi .ne v45 v50
  let v52 : BitVec 32 := Scalar.remsi v39 c32_i32_15
  let c0_i32_20 : BitVec 32 := 0#32
  let v53 : BitVec 1 := Scalar.cmpi .ne v52 c0_i32_20
  let v54 : BitVec 1 := Scalar.andi v51 v53
  let c1_i32_21 : BitVec 32 := 1#32
  let v55 : BitVec 32 := Scalar.subi v40 c1_i32_21
  let v56 : BitVec 32 := Scalar.select v54 v55 v40
  let c4_i32_22 : BitVec 32 := 4#32
  let v57 : BitVec 32 := Scalar.divsi v39 c4_i32_22
  let c0_i32_23 : BitVec 32 := 0#32
  let v58 : BitVec 1 := Scalar.cmpi .sgt v39 c0_i32_23
  let v59 : BitVec 32 := Scalar.extui v58
  let c0_i32_24 : BitVec 32 := 0#32
  let v60 : BitVec 1 := Scalar.cmpi .slt v39 c0_i32_24
  let v61 : BitVec 32 := Scalar.extui v60
  let v62 : BitVec 32 := Scalar.subi v59 v61
  let c0_i32_25 : BitVec 32 := 0#32
  let v63 : BitVec 1 := Scalar.cmpi .sgt c4_i32_22 c0_i32_25
  let v64 : BitVec 32 := Scalar.extui v63
  let c0_i32_26 : BitVec 32 := 0#32
  let v65 : BitVec 1 := Scalar.cmpi .slt c4_i32_22 c0_i32_26
  let v66 : BitVec 32 := Scalar.extui v65
  let v67 : BitVec 32 := Scalar.subi v64 v66
  let v68 : BitVec 1 := Scalar.cmpi .ne v62 v67
  let v69 : BitVec 32 := Scalar.remsi v39 c4_i32_22
  let c0_i32_27 : BitVec 32 := 0#32
  let v70 : BitVec 1 := Scalar.cmpi .ne v69 c0_i32_27
  let v71 : BitVec 1 := Scalar.andi v68 v70
  let c1_i32_28 : BitVec 32 := 1#32
  let v72 : BitVec 32 := Scalar.subi v57 c1_i32_28
  let v73 : BitVec 32 := Scalar.select v71 v72 v57
  let c8_i32_29 : BitVec 32 := 8#32
  let v74 : BitVec 32 := Scalar.remsi v73 c8_i32_29
  let c4_i32_30 : BitVec 32 := 4#32
  let v75 : BitVec 32 := Scalar.remsi v39 c4_i32_30
  let c0_i32_31 : BitVec 32 := 0#32
  ![v18.toNat, v74.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x4096 : Shape := ⟨2, ![8192, 4096]⟩
abbrev S4x8192x1024 : Shape := ⟨3, ![4, 8192, 1024]⟩
abbrev S2x4096x30736 : Shape := ⟨3, ![2, 4096, 30736]⟩
abbrev S2x4x1024x4096 : Shape := ⟨4, ![2, 4, 1024, 4096]⟩
abbrev S1x4096x30736 : Shape := ⟨3, ![1, 4096, 30736]⟩
abbrev S4096x30736 : Shape := ⟨2, ![4096, 30736]⟩
abbrev S8192x30736 : Shape := ⟨2, ![8192, 30736]⟩
abbrev S8192x16384 : Shape := ⟨2, ![8192, 16384]⟩
abbrev S1x4x1024x4096 : Shape := ⟨4, ![1, 4, 1024, 4096]⟩
abbrev S4x1024x4096 : Shape := ⟨3, ![4, 1024, 4096]⟩
abbrev S4x4096x8192 : Shape := ⟨3, ![4, 4096, 8192]⟩
abbrev S8192x4x4096 : Shape := ⟨3, ![8192, 4, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x8192x1024, .bf16⟩
  | .hbm, ⟨2, _⟩ => ⟨S2x4096x30736, .f32⟩
  | .hbm, ⟨3, _⟩ => ⟨S2x4x1024x4096, .f32⟩
  | .hbm, ⟨4, _⟩ => ⟨S8192x4096, .f32⟩
  | .hbm, ⟨5, _⟩ => ⟨S1x4096x30736, .f32⟩
  | .hbm, ⟨6, _⟩ => ⟨S4096x30736, .f32⟩
  | .hbm, ⟨7, _⟩ => ⟨S8192x30736, .f32⟩
  | .hbm, ⟨8, _⟩ => ⟨S8192x16384, .f32⟩
  | .hbm, ⟨9, _⟩ => ⟨S4x8192x1024, .f32⟩
  | .hbm, ⟨10, _⟩ => ⟨S1x4x1024x4096, .f32⟩
  | .hbm, ⟨11, _⟩ => ⟨S4x1024x4096, .f32⟩
  | .hbm, ⟨12, _⟩ => ⟨S4x4096x8192, .f32⟩
  | .hbm, ⟨13, _⟩ => ⟨S8192x4x4096, .f32⟩
  | .hbm, ⟨14, _⟩ => ⟨S8192x4x4096, .f32⟩
  | .hbm, ⟨15, _⟩ => ⟨S8192x4x4096, .f32⟩
  | .hbm, ⟨16, _⟩ => ⟨S8192x4x4096, .f32⟩
  | .hbm, ⟨17, _⟩ => ⟨S_, .f32⟩
  | .hbm, ⟨18, _⟩ => ⟨S8192x4x4096, .f32⟩
  | .hbm, ⟨19, _⟩ => ⟨S8192x4x4096, .f32⟩
  | .hbm, ⟨20, _⟩ => ⟨S_, .f32⟩
  | .hbm, ⟨21, _⟩ => ⟨S8192x4x4096, .f32⟩
  | .hbm, ⟨22, _⟩ => ⟨S8192x4x4096, .f32⟩
  | .hbm, ⟨23, _⟩ => ⟨S8192x4x4096, .f32⟩
  | .hbm, ⟨24, _⟩ => ⟨S_, .f32⟩
  | .hbm, ⟨25, _⟩ => ⟨S8192x4096, .f32⟩
  | .hbm, ⟨26, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S8192x4096 : Shape := ⟨2, ![8192, 4096]⟩
abbrev S2x4096x30736 : Shape := ⟨3, ![2, 4096, 30736]⟩
abbrev S2x30736x4096 : Shape := ⟨3, ![2, 30736, 4096]⟩
abbrev S8192x14336 : Shape := ⟨2, ![8192, 14336]⟩
abbrev S2048x4096 : Shape := ⟨2, ![2048, 4096]⟩
abbrev S1x512x4096 : Shape := ⟨3, ![1, 512, 4096]⟩
abbrev S2048x512 : Shape := ⟨2, ![2048, 512]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2x4096x30736, .f32⟩
  | .hbm, ⟨2, _⟩ => ⟨S2x30736x4096, .f32⟩
  | .hbm, ⟨3, _⟩ => ⟨S8192x14336, .f32⟩
  | .local _ .vmem, ⟨0, _⟩ => ⟨S2048x4096, .bf16⟩
  | .local _ .vmem, ⟨1, _⟩ => ⟨S1x512x4096, .f32⟩
  | .local _ .vmem, ⟨2, _⟩ => ⟨S1x512x4096, .f32⟩
  | .local _ .vmem, ⟨3, _⟩ => ⟨S2048x512, .f32⟩
  | .local _ .vmem, ⟨4, _⟩ => ⟨S2048x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c10_i32 : BitVec 32 := 10#32
  let v1 : BitVec 1 := Scalar.cmpi .sge arg1 c10_i32
  let c2_i32 : BitVec 32 := 2#32
  let c0_i32 : BitVec 32 := 0#32
  let v2 : BitVec 32 := Scalar.select v1 c2_i32 c0_i32
  let v3 : BitVec 32 := Scalar.addi v0 v2
  let c8_i32 : BitVec 32 := 8#32
  let v4 : BitVec 32 := Scalar.muli v3 c8_i32
  let c0_i32_0 : BitVec 32 := 0#32
  let c0_i32_1 : BitVec 32 := 0#32
  let c0_i32_2 : BitVec 32 := 0#32
  ![c0_i32_0.toNat, v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S2x4096x30736 : Shape := ⟨3, ![2, 4096, 30736]⟩
abbrev S1x4096x30736 : Shape := ⟨3, ![1, 4096, 30736]⟩
abbrev S4096x30736 : Shape := ⟨2, ![4096, 30736]⟩
abbrev S8192x30736 : Shape := ⟨2, ![8192, 30736]⟩
abbrev S8192x5120 : Shape := ⟨2, ![8192, 5120]⟩
abbrev S8192x9216 : Shape := ⟨2, ![8192, 9216]⟩
abbrev S8192x14336 : Shape := ⟨2, ![8192, 14336]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x30736, .f32⟩
  | .hbm, ⟨2, _⟩ => ⟨S8192x4096, .f32⟩
  | .hbm, ⟨3, _⟩ => ⟨S1x4096x30736, .f32⟩
  | .hbm, ⟨4, _⟩ => ⟨S4096x30736, .f32⟩
  | .hbm, ⟨5, _⟩ => ⟨S8192x30736, .f32⟩
  | .hbm, ⟨6, _⟩ => ⟨S8192x5120, .f32⟩
  | .hbm, ⟨7, _⟩ => ⟨S8192x9216, .f32⟩
  | .hbm, ⟨8, _⟩ => ⟨S8192x14336, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x4096 : Shape := ⟨2, ![8192, 4096]⟩
abbrev S2x4096 : Shape := ⟨2, ![2, 4096]⟩
abbrev S2x1x4096 : Shape := ⟨3, ![2, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩
abbrev S1x4096 : Shape := ⟨2, ![1, 4096]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4096, .f32⟩
  | .hbm, ⟨3, _⟩ => ⟨S2x1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x4096 : Shape := ⟨2, ![8192, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4096, .f32⟩
  | .hbm, ⟨3, _⟩ => ⟨S1x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S8192x4096 : Shape := ⟨2, ![8192, 4096]⟩
abbrev S2x4096 : Shape := ⟨2, ![2, 4096]⟩
abbrev S2x4096x30736 : Shape := ⟨3, ![2, 4096, 30736]⟩
abbrev S2x30736x4096 : Shape := ⟨3, ![2, 30736, 4096]⟩
abbrev S2x1x4096 : Shape := ⟨3, ![2, 1, 4096]⟩
abbrev S8192x128 : Shape := ⟨2, ![8192, 128]⟩
abbrev S256x4096 : Shape := ⟨2, ![256, 4096]⟩
abbrev S1x1x4096 : Shape := ⟨3, ![1, 1, 4096]⟩
abbrev S1x128x4096 : Shape := ⟨3, ![1, 128, 4096]⟩
abbrev S256x128 : Shape := ⟨2, ![256, 128]⟩
abbrev S256 : Shape := ⟨1, ![256]⟩
abbrev S256x1 : Shape := ⟨2, ![256, 1]⟩
abbrev S1x4096 : Shape := ⟨2, ![1, 4096]⟩
abbrev S128x4096 : Shape := ⟨2, ![128, 4096]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S2x4096x30736, .f32⟩
  | .hbm, ⟨3, _⟩ => ⟨S2x30736x4096, .f32⟩
  | .hbm, ⟨4, _⟩ => ⟨S2x1x4096, .f32⟩
  | .hbm, ⟨5, _⟩ => ⟨S8192x4096, .bf16⟩
  | .hbm, ⟨6, _⟩ => ⟨S8192x128, .f32⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x128x4096, .f32⟩
  | .local _ .vmem, ⟨4, _⟩ => ⟨S256x4096, .bf16⟩
  | .local _ .vmem, ⟨5, _⟩ => ⟨S256x4096, .bf16⟩
  | .local _ .vmem, ⟨6, _⟩ => ⟨S256x128, .f32⟩
  | .local _ .vmem, ⟨7, _⟩ => ⟨S256x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c5120_i32 : BitVec 32 := 5120#32
  let c0_i32_0 : BitVec 32 := 0#32
  let c0_i32_1 : BitVec 32 := 0#32
  ![c0_i32.toNat, c5120_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x4096 : Shape := ⟨2, ![8192, 4096]⟩
abbrev S2x4096 : Shape := ⟨2, ![2, 4096]⟩
abbrev S2x4096x30736 : Shape := ⟨3, ![2, 4096, 30736]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096x30736 : Shape := ⟨3, ![1, 4096, 30736]⟩
abbrev S4096x30736 : Shape := ⟨2, ![4096, 30736]⟩
abbrev S4096x5136 : Shape := ⟨2, ![4096, 5136]⟩
abbrev S8192x5136 : Shape := ⟨2, ![8192, 5136]⟩
abbrev S8192x16 : Shape := ⟨2, ![8192, 16]⟩
abbrev S8192x128 : Shape := ⟨2, ![8192, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S2x4096x30736, .f32⟩
  | .hbm, ⟨3, _⟩ => ⟨S1x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .bf16⟩
  | .hbm, ⟨22, _⟩ => ⟨S1x4096x30736, .f32⟩
  | .hbm, ⟨23, _⟩ => ⟨S4096x30736, .f32⟩
  | .hbm, ⟨24, _⟩ => ⟨S8192x4096, .f32⟩
  | .hbm, ⟨25, _⟩ => ⟨S4096x5136, .f32⟩
  | .hbm, ⟨26, _⟩ => ⟨S8192x5136, .f32⟩
  | .hbm, ⟨27, _⟩ => ⟨S8192x16, .f32⟩
  | .hbm, ⟨28, _⟩ => ⟨S_, .i32⟩
  | .hbm, ⟨29, _⟩ => ⟨S_, .f32⟩
  | .hbm, ⟨30, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel7.lean ====
abbrev S8192x4096 : Shape := ⟨2, ![8192, 4096]⟩
abbrev S2x4096 : Shape := ⟨2, ![2, 4096]⟩
abbrev S2x4096x30736 : Shape := ⟨3, ![2, 4096, 30736]⟩
abbrev S2x30736x4096 : Shape := ⟨3, ![2, 30736, 4096]⟩
abbrev S2x1x4096 : Shape := ⟨3, ![2, 1, 4096]⟩
abbrev S8192x128 : Shape := ⟨2, ![8192, 128]⟩
abbrev S256x4096 : Shape := ⟨2, ![256, 4096]⟩
abbrev S1x1x4096 : Shape := ⟨3, ![1, 1, 4096]⟩
abbrev S1x128x4096 : Shape := ⟨3, ![1, 128, 4096]⟩
abbrev S256x128 : Shape := ⟨2, ![256, 128]⟩
abbrev S256 : Shape := ⟨1, ![256]⟩
abbrev S256x1 : Shape := ⟨2, ![256, 1]⟩
abbrev S1x4096 : Shape := ⟨2, ![1, 4096]⟩
abbrev S128x4096 : Shape := ⟨2, ![128, 4096]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4096, .f32⟩
  | .hbm, ⟨3, _⟩ => ⟨S2x4096, .f32⟩
  | .hbm, ⟨4, _⟩ => ⟨S2x4096x30736, .f32⟩
  | .hbm, ⟨5, _⟩ => ⟨S2x30736x4096, .f32⟩
  | .hbm, ⟨6, _⟩ => ⟨S2x1x4096, .f32⟩
  | .hbm, ⟨7, _⟩ => ⟨S2x1x4096, .f32⟩
  | .hbm, ⟨8, _⟩ => ⟨S8192x4096, .f32⟩
  | .hbm, ⟨9, _⟩ => ⟨S8192x4096, .bf16⟩
  | .hbm, ⟨10, _⟩ => ⟨S8192x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x128x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S256x128, .f32⟩
  | .local _ .vmem, ⟨12, _⟩ => ⟨S256x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c5120_i32 : BitVec 32 := 5120#32
  let c0_i32 : BitVec 32 := 0#32
  let c0_i32_0 : BitVec 32 := 0#32
  ![c1_i32.toNat, c5120_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S8192x4096 : Shape := ⟨2, ![8192, 4096]⟩
abbrev S2x4096 : Shape := ⟨2, ![2, 4096]⟩
abbrev S2x4096x30736 : Shape := ⟨3, ![2, 4096, 30736]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096x30736 : Shape := ⟨3, ![1, 4096, 30736]⟩
abbrev S4096x30736 : Shape := ⟨2, ![4096, 30736]⟩
abbrev S4096x5136 : Shape := ⟨2, ![4096, 5136]⟩
abbrev S8192x5136 : Shape := ⟨2, ![8192, 5136]⟩
abbrev S8192x16 : Shape := ⟨2, ![8192, 16]⟩
abbrev S8192x128 : Shape := ⟨2, ![8192, 128]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4096, .f32⟩
  | .hbm, ⟨3, _⟩ => ⟨S2x4096, .f32⟩
  | .hbm, ⟨4, _⟩ => ⟨S2x4096x30736, .f32⟩
  | .hbm, ⟨5, _⟩ => ⟨S1x4096, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S4096, .f32⟩
  | .hbm, ⟨26, _⟩ => ⟨S8192x4096, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S8192x4096, .bf16⟩
  | .hbm, ⟨43, _⟩ => ⟨S1x4096x30736, .f32⟩
  | .hbm, ⟨44, _⟩ => ⟨S4096x30736, .f32⟩
  | .hbm, ⟨45, _⟩ => ⟨S8192x4096, .f32⟩
  | .hbm, ⟨46, _⟩ => ⟨S4096x5136, .f32⟩
  | .hbm, ⟨47, _⟩ => ⟨S8192x5136, .f32⟩
  | .hbm, ⟨48, _⟩ => ⟨S8192x16, .f32⟩
  | .hbm, ⟨49, _⟩ => ⟨S_, .i32⟩
  | .hbm, ⟨50, _⟩ => ⟨S_, .f32⟩
  | .hbm, ⟨51, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_call0_v0 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Proj.lean ====
/-
  The in-projection of the mixers' columns: 4 × 28 tiles of 2048 rows and 512 columns, each the product of a block of rows
  with a block of the first layer's transposed weights, whose place skips the sixteen gate columns.  Every tile of the
  result is the sum over the 4096 inner indices that the reference takes at the same row and column.
-/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit.Basic

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The column of the weights that column `j` of the result is taken from: the sixteen gate columns from 5120 on are left out. -/
def wcol (j : Fin 14336) : Fin 30736 := if j.val < 5120 then ⟨j.val, by omega⟩ else ⟨j.val + 16, by omega⟩

/-- The product at row `r` and column `j`: the normed rows against the first layer's weights. -/
def prodAt (a : S8192x4096.Idx → EReal) (w : S2x4096x30736.Idx → EReal) (r : Fin 8192) (j : Fin 14336) : EReal :=
  ∑ k : Fin 4096, a (ix2 r k) * w (ix3 0 k (wcol j))

/-- The result. -/
def outArr (c : Dev nD) : S8192x14336.Idx → EReal := fun i =>
  prodAt (m ((c : Thread nD τ).loc main_arg0)) (m ((c : Thread nD τ).loc main_arg1)) (i 0) (i 1)

/-- The weights as the host hands them over: transposed. -/
theorem V_v0 (c : Dev nD) : V m c main_v0 = transpose S2x30736x4096 [0, 2, 1] (m ((c : Thread nD τ).loc main_arg1)) transposes_S2x4096x30736_S2x30736x4096_0_2_1 := by
  show StableHlo.after hostOps0 _ (Proc.devRef .tc main_v0) = _
  simp only [hostOps0]
  after_results

/-- A tile is the product of its two blocks. -/
theorem tile_at (x : Vec Ideal S2048x4096 .bf16) (w : Vec Ideal S1x512x4096 .f32) (r : Fin 2048) (j : Fin 512) :
    out0_2 x w (ix2 r j) = ∑ k : Fin 4096, x (ix2 r k) * w (ix3 0 j k) := by
  unfold out0_2
  rw [View.canon_cons_unit_lit _ _ _ (by decide), View.ld_unit_lit _ _ (by decide), View.ld_unit_lit _ _ (by decide)]
  pointwise [k0_pay1]

theorem index0 : ∀ t : Fin cfg0.N, win0_0.index t (0 : Fin 2) = t.val / 28 ∧ win0_0.index t (1 : Fin 2) = 0 :=
  (by decide +kernel : ∀ t : Fin grid0.N, _)
theorem index1 : ∀ t : Fin cfg0.N, cc0_transform_1 (grid0.coords t) (0 : Fin 3) = 0
    ∧ cc0_transform_1 (grid0.coords t) (1 : Fin 3) = 512 * (t.val % 28) + (if t.val % 28 < 10 then 0 else 16)
    ∧ cc0_transform_1 (grid0.coords t) (2 : Fin 3) = 0 :=
  (by decide +kernel : ∀ t : Fin grid0.N, _)
theorem index2 : ∀ t : Fin cfg0.N, win0_2.index t (0 : Fin 2) = t.val / 28 ∧ win0_2.index t (1 : Fin 2) = t.val % 28 :=
  (by decide +kernel : ∀ t : Fin grid0.N, _)

/-- Row `r` of tile `t`. -/
def row (t : Fin cfg0.N) (r : Fin 2048) : Fin 8192 := ⟨2048 * (t.val / 28) + r.val, by have : t.val < 112 := t.isLt; omega⟩
/-- Column `j` of tile `t`. -/
def col (t : Fin cfg0.N) (j : Fin 512) : Fin 14336 := ⟨512 * (t.val % 28) + j.val, by omega⟩

theorem block0 (c : Dev nD) (t : Fin cfg0.N) (r : Fin 2048) (k : Fin 4096) :
    (iblk m c 0 t : Vec Ideal S2048x4096 .bf16) (ix2 r k) = m ((c : Thread nD τ).loc main_arg0) (ix2 (row t r) k) := by
  obtain ⟨e0, e1⟩ := index0 t
  exact congrArg (V m c main_arg0) (funext fun a => Fin.ext (match a with
    | ⟨0, _⟩ => by show win0_0.index t (0 : Fin 2) * 2048 + 1 * r.val = 2048 * (t.val / 28) + r.val; omega
    | ⟨1, _⟩ => by show win0_0.index t (1 : Fin 2) * 4096 + 1 * k.val = k.val; omega))

theorem block1 (c : Dev nD) (t : Fin cfg0.N) (j : Fin 512) (k : Fin 4096) :
    (iblk m c 1 t : Vec Ideal S1x512x4096 .f32) (ix3 0 j k) = m ((c : Thread nD τ).loc main_arg1) (ix3 0 k (wcol (col t j))) := by
  obtain ⟨e0, e1, e2⟩ := index1 t
  have e : (V m c main_v0 : S2x30736x4096.Idx → EReal) (ix3 0 (wcol (col t j)) k) = m ((c : Thread nD τ).loc main_arg1) (ix3 0 k (wcol (col t j))) := by
    rw [V_v0]; pointwise
  refine Eq.trans ?_ e
  exact congrArg (V m c main_v0) (funext fun a => Fin.ext (match a with
    | ⟨0, _⟩ => by show cc0_transform_1 (grid0.coords t) (0 : Fin 3) + 1 * 0 = 0; omega
    | ⟨1, _⟩ => by
      show cc0_transform_1 (grid0.coords t) (1 : Fin 3) + 1 * j.val = (wcol (col t j)).val
      have hc : (col t j).val = 512 * (t.val % 28) + j.val := rfl
      unfold wcol
      rw [e1]
      have := j.isLt
      split <;> split <;> (try dsimp only) <;> omega
    | ⟨2, _⟩ => by show cc0_transform_1 (grid0.coords t) (2 : Fin 3) + 1 * k.val = k.val; omega))

theorem emb2 (t : Fin cfg0.N) (y : S2048x512.Idx) :
    (((cfg0.win 2).blk t).view.emb y : S8192x14336.Idx) = ix2 (row t (y 0)) (col t (y 1)) := by
  obtain ⟨e0, e1⟩ := index2 t
  funext a; apply Fin.ext
  match a with
  | ⟨0, _⟩ => show win0_2.index t (0 : Fin 2) * 2048 + 1 * (y 0).val = 2048 * (t.val / 28) + (y 0).val; omega
  | ⟨1, _⟩ => show win0_2.index t (1 : Fin 2) * 512 + 1 * (y 1).val = 512 * (t.val % 28) + (y 1).val; omega

theorem flushed2 (c : Dev nD) (t : Fin cfg0.N) :
    (dats m 0 c).flushed 2 t = ((cfg0.win 2).blk t).view.read (Elt Ideal) (outArr m c) := by
  rw [Value.flushed2]
  funext (y : S2048x512.Idx)
  show out0_2 (iblk m c 0 t) (iblk m c 1 t) y = outArr m c (((cfg0.win 2).blk t).view.emb y)
  rw [emb2 t y]
  refine (congrArg (out0_2 (iblk m c 0 t) (iblk m c 1 t)) (ix2_eta y).symm).trans ((tile_at _ _ (y 0) (y 1)).trans ?_)
  exact Finset.sum_congr rfl fun k _ => congrArg₂ (fun a b : EReal => a * b) (block0 m c t _ k) (block1 m c t _ k)

theorem mem2 (t : Fin cfg0.N) (i : S8192x14336.Idx) : i ∈ ((cfg0.win 2).blk t).view.set ↔
    ∀ a : Fin 2, win0_2.index t a * S2048x512.size a ≤ (i a).val ∧ (i a).val < win0_2.index t a * S2048x512.size a + S2048x512.size a := by
  show i ∈ ((View.whole main_v1).slice (win0_2.rect t)).set ↔ _
  rw [View.set_slice_whole, Rect.mem_set_unit]
  exact Iff.rfl

theorem cover2 (i : S8192x14336.Idx) : ∃ t : Fin cfg0.N, (cfg0.win 2).flush t = true ∧ i ∈ ((cfg0.win 2).blk t).view.set := by
  have h0 : (i 0).val < 8192 := (i 0).isLt
  have h1 : (i 1).val < 14336 := (i 1).isLt
  refine ⟨⟨28 * ((i 0).val / 2048) + (i 1).val / 512, by show _ < 112; omega⟩, flush0_2 _, (mem2 _ i).2 fun a => ?_⟩
  obtain ⟨e0, e1⟩ := index2 ⟨28 * ((i 0).val / 2048) + (i 1).val / 512, by show _ < 112; omega⟩
  match a with
  | ⟨0, _⟩ =>
    rw [show (⟨0, _⟩ : Fin 2) = 0 from rfl, e0]
    show (28 * ((i 0).val / 2048) + (i 1).val / 512) / 28 * 2048 ≤ (i 0).val ∧ (i 0).val < (28 * ((i 0).val / 2048) + (i 1).val / 512) / 28 * 2048 + 2048; omega
  | ⟨1, _⟩ =>
    rw [show (⟨1, _⟩ : Fin 2) = 1 from rfl, e1]
    show (28 * ((i 0).val / 2048) + (i 1).val / 512) % 28 * 512 ≤ (i 1).val ∧ (i 1).val < (28 * ((i 0).val / 2048) + (i 1).val / 512) % 28 * 512 + 512; omega

theorem final2 (c : Dev nD) : (dats m 0 c).arrAt 2 cfg0.N = outArr m c :=
  (dats m 0 c).arrAt_eq_of_cover 2 _ (fun t _ => flushed2 m c t) cover2

/-- The reference's value, read at a row and a column. -/
theorem ref_at (a : Vec Ideal S8192x4096 .bf16) (w : Vec Ideal S2x4096x30736 .f32) (r : Fin 8192) (j : Fin 14336) :
    Cert.Reference3Ideal.Read.val_main_v6 (F := Ideal) a w (ix2 r j) = prodAt a w r j := by
  unfold prodAt
  pointwise [Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0]
  unfold wcol
  split
  · rfl
  · refine Finset.sum_congr rfl fun k _ => ?_
    exact congrArg (fun q => a (ix2 r k) * w (ix3 0 k q)) (Fin.ext (by show 5136 + (j.val - 5120) = j.val + 16; omega))

theorem ref_eq (a : Vec Ideal S8192x4096 .bf16) (w : Vec Ideal S2x4096x30736 .f32) (i : S8192x14336.Idx) :
    Cert.Reference3Ideal.Read.val_main_v6 (F := Ideal) a w i = prodAt a w (i 0) (i 1) := by
  conv_lhs => rw [← ix2_eta i]
  exact ref_at a w (i 0) (i 1)

end Cert.Kernel3Ideal.Own

end
-- ==== Proof.OutProj.lean ====
/-
  The output projection: 8 × 8 tiles of 1024 rows and 512 columns, each the product of a block of rows with a block of the
  first layer's columns.  Every tile of the result is the sum over the 4096 inner indices that the reference takes at the
  same row and column.
-/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit.Basic

@[expose] public section

set_option maxRecDepth 16384

noncomputable section

namespace Cert.Kernel4Ideal.Own

open Cert.Kernel4Ideal Cert.Kernel4Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The product at row `r` and column `j`: the merged rows against the first layer's weights. -/
def prodAt (a : S8192x4096.Idx → EReal) (w : S2x4096x4096.Idx → EReal) (r : Fin 8192) (j : Fin 4096) : EReal :=
  ∑ k : Fin 4096, a (ix2 r k) * w (ix3 0 k j)

/-- The result. -/
def outArr (c : Dev nD) : S8192x4096.Idx → EReal := fun i =>
  prodAt (m ((c : Thread nD τ).loc main_arg0)) (m ((c : Thread nD τ).loc main_arg1)) (i 0) (i 1)

/-- A tile is the product of its two blocks. -/
theorem tile_at (x : Vec Ideal S1024x4096 .bf16) (w : Vec Ideal S1x4096x512 .f32) (r : Fin 1024) (j : Fin 512) :
    out0_2 x w (ix2 r j) = ∑ k : Fin 4096, x (ix2 r k) * w (ix3 0 k j) := by
  unfold out0_2
  rw [View.canon_cons_unit_lit _ _ _ (by decide), View.ld_unit_lit _ _ (by decide), View.ld_unit_lit _ _ (by decide)]
  pointwise [k0_pay1]

theorem index0 : ∀ t : Fin cfg0.N, win0_0.index t (0 : Fin 2) = t.val / 8 ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = t.val % 8 :=
  (by decide +kernel : ∀ t : Fin grid0.N, _)
theorem index2 : ∀ t : Fin cfg0.N, win0_2.index t (0 : Fin 2) = t.val / 8 ∧ win0_2.index t (1 : Fin 2) = t.val % 8 :=
  (by decide +kernel : ∀ t : Fin grid0.N, _)

/-- Row `r` of tile `t`. -/
def row (t : Fin cfg0.N) (r : Fin 1024) : Fin 8192 := ⟨1024 * (t.val / 8) + r.val, by have : t.val < 64 := t.isLt; omega⟩
/-- Column `j` of tile `t`. -/
def col (t : Fin cfg0.N) (j : Fin 512) : Fin 4096 := ⟨512 * (t.val % 8) + j.val, by omega⟩

theorem block0 (c : Dev nD) (t : Fin cfg0.N) (r : Fin 1024) (k : Fin 4096) :
    (iblk m c 0 t : Vec Ideal S1024x4096 .bf16) (ix2 r k) = m ((c : Thread nD τ).loc main_arg0) (ix2 (row t r) k) := by
  obtain ⟨e0, e1⟩ := index0 t
  exact congrArg (V m c main_arg0) (funext fun a => Fin.ext (match a with
    | ⟨0, _⟩ => by show win0_0.index t (0 : Fin 2) * 1024 + 1 * r.val = 1024 * (t.val / 8) + r.val; omega
    | ⟨1, _⟩ => by show win0_0.index t (1 : Fin 2) * 4096 + 1 * k.val = k.val; omega))

theorem block1 (c : Dev nD) (t : Fin cfg0.N) (k : Fin 4096) (j : Fin 512) :
    (iblk m c 1 t : Vec Ideal S1x4096x512 .f32) (ix3 0 k j) = m ((c : Thread nD τ).loc main_arg1) (ix3 0 k (col t j)) := by
  obtain ⟨e0, e1, e2⟩ := index1 t
  exact congrArg (V m c main_arg1) (funext fun a => Fin.ext (match a with
    | ⟨0, _⟩ => by show win0_1.index t (0 : Fin 3) * 1 + 1 * 0 = 0; omega
    | ⟨1, _⟩ => by show win0_1.index t (1 : Fin 3) * 4096 + 1 * k.val = k.val; omega
    | ⟨2, _⟩ => by show win0_1.index t (2 : Fin 3) * 512 + 1 * j.val = 512 * (t.val % 8) + j.val; omega))

theorem emb2 (t : Fin cfg0.N) (y : S1024x512.Idx) :
    (((cfg0.win 2).blk t).view.emb y : S8192x4096.Idx) = ix2 (row t (y 0)) (col t (y 1)) := by
  obtain ⟨e0, e1⟩ := index2 t
  funext a; apply Fin.ext
  match a with
  | ⟨0, _⟩ => show win0_2.index t (0 : Fin 2) * 1024 + 1 * (y 0).val = 1024 * (t.val / 8) + (y 0).val; omega
  | ⟨1, _⟩ => show win0_2.index t (1 : Fin 2) * 512 + 1 * (y 1).val = 512 * (t.val % 8) + (y 1).val; omega

theorem flushed2 (c : Dev nD) (t : Fin cfg0.N) :
    (dats m 0 c).flushed 2 t = ((cfg0.win 2).blk t).view.read (Elt Ideal) (outArr m c) := by
  rw [Value.flushed2]
  funext (y : S1024x512.Idx)
  show out0_2 (iblk m c 0 t) (iblk m c 1 t) y = outArr m c (((cfg0.win 2).blk t).view.emb y)
  rw [emb2 t y]
  refine (congrArg (out0_2 (iblk m c 0 t) (iblk m c 1 t)) (ix2_eta y).symm).trans ((tile_at _ _ (y 0) (y 1)).trans ?_)
  exact Finset.sum_congr rfl fun k _ => congrArg₂ (fun a b : EReal => a * b) (block0 m c t _ k) (block1 m c t k _)

theorem mem2 (t : Fin cfg0.N) (i : S8192x4096.Idx) : i ∈ ((cfg0.win 2).blk t).view.set ↔
    ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

theorem cover2 (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  refine ⟨⟨8 * ((i 0).val / 1024) + (i 1).val / 512, by show _ < 64; omega⟩, flush0_2 _, (mem2 _ i).2 fun a => ?_⟩
  obtain ⟨e0, e1⟩ := index2 ⟨8 * ((i 0).val / 1024) + (i 1).val / 512, by show _ < 64; omega⟩
  match a with
  | ⟨0, _⟩ =>
    rw [show (⟨0, _⟩ : Fin 2) = 0 from rfl, e0]
    show (8 * ((i 0).val / 1024) + (i 1).val / 512) / 8 * 1024 ≤ (i 0).val ∧ (i 0).val < (8 * ((i 0).val / 1024) + (i 1).val / 512) / 8 * 1024 + 1024; omega
  | ⟨1, _⟩ =>
    rw [show (⟨1, _⟩ : Fin 2) = 1 from rfl, e1]
    show (8 * ((i 0).val / 1024) + (i 1).val / 512) % 8 * 512 ≤ (i 1).val ∧ (i 1).val < (8 * ((i 0).val / 1024) + (i 1).val / 512) % 8 * 512 + 512; omega

theorem final2 (c : Dev nD) : (dats m 0 c).arrAt 2 cfg0.N = outArr m c :=
  (dats m 0 c).arrAt_eq_of_cover 2 _ (fun t _ => flushed2 m c t) cover2

/-- The reference's value, read at a row and a column. -/
theorem ref_at (a : Vec Ideal S8192x4096 .bf16) (w : Vec Ideal S2x4096x4096 .f32) (r : Fin 8192) (j : Fin 4096) :
    Cert.Reference4Ideal.Read.val_main_v3 (F := Ideal) a w (ix2 r j) = prodAt a w r j := by
  unfold prodAt
  pointwise [Cert.Reference4Ideal.Read.val_main_v3, Cert.Reference4Ideal.Read.val_main_v2, Cert.Reference4Ideal.Read.val_main_v1, Cert.Reference4Ideal.Read.val_main_v0]

theorem ref_eq (a : Vec Ideal S8192x4096 .bf16) (w : Vec Ideal S2x4096x4096 .f32) (i : S8192x4096.Idx) :
    Cert.Reference4Ideal.Read.val_main_v3 (F := Ideal) a w i = prodAt a w (i 0) (i 1) := by
  conv_lhs => rw [← ix2_eta i]
  exact ref_at a w (i 0) (i 1)

end Cert.Kernel4Ideal.Own

end
-- ==== Proof.Merge.Body.lean ====
/-
  The body of the merge, run once.  A step reads one half of the two-row buffer of gate products, turns it into gates,
  multiplies them into the branch's product and adds the result to the running sum (which starts anew with branch 0);
  it then puts its own gate product into the other half, and after the last branch stores the sum, rounded.
  The text is over any format of values `F`.
-/
module

public import proofs.«01_k».proof.Proof.Gen.Kernel2Ideal.Frame
public import Idealize.ShloMosaic.Lib.Pipeline.FrameBody
public import Idealize.ShloMosaic.Lib.Pipeline.ValueKit.Basic
public import Idealize.ShloMosaic.Lib.VecWindow
public import Idealize.ShloMosaic.Lib.Claim
public import Idealize.ShloMosaic.Lib.Tactic

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch of the item before step `i`, as the body computes it: the remainder by 4 of `max (i − 1) 0`. -/
abbrev prevBranch (i : grid0.Coords) : BitVec 32 :=
  Scalar.remsi (Scalar.maxsi (Scalar.subi (BitVec.ofNat 32 (i 0).val) 1#32) 0#32) 4#32

/-- The condition of the first step, as the body computes it. -/
abbrev atStart (i : grid0.Coords) : BitVec 1 :=
  Scalar.cmpi .ne (Scalar.extui (Scalar.cmpi .eq (BitVec.ofNat 32 (i 0).val) 0#32) : BitVec 32) 0#32

/-- The gate of a gate product times the product of a branch's rows and its weights. -/
def term (p : Vec F S1x1024x512 .f32) (y : Vec F S1x1024x1024 .bf16) (wb : Vec F S1x1x1024x512 .f32) : FVec F S1024x512 .f32 :=
  mulf
    (divf (broadcast S1024x512 (Scalar.ofBits .f32 0x3F800000#32))
      (addf (broadcast S1024x512 (Scalar.ofBits .f32 0x3F800000#32))
        (exp (subf (broadcast S1024x512 (Scalar.ofBits .f32 0x00000000#32)) (shapeCast S1024x512 p shapeCasts_S1x1024x512_S1024x512)))))
    (matmul dot_S1024x1024_S1024x512_S1024x512_1_0_0_1_n_n none (shapeCast S1024x1024 y shapeCasts_S1x1024x1024_S1024x1024)
      (truncf .bf16 (shapeCast S1024x512 wb shapeCasts_S1x1x1024x512_S1024x512) bitsLt_bf16_f32) (constant S1024x512 .f32 0x00000000#32))

/-- The running sum after step `i`. -/
def accNext (i : grid0.Coords) (p : Vec F S1x1024x512 .f32) (y : Vec F S1x1024x1024 .bf16) (wb : Vec F S1x1x1024x512 .f32)
    (a : Vec F S1024x512 .f32) : Vec F S1024x512 .f32 :=
  addf (term p y wb) (Scalar.select (Scalar.cmpi .eq (prevBranch i) 0#32) (broadcast S1024x512 (Scalar.ofBits .f32 0x00000000#32)) a)

/-- The gate product of a step. -/
def gateProd (h : Vec F S1024x4096 .bf16) (wg : Vec F S1x512x4096 .f32) : Vec F S1x1024x512 .f32 :=
  shapeCast S1x1024x512
    (matmul dot_S1024x4096_S512x4096_S1024x512_1_1_0_0_n_n none h
      (truncf .bf16 (shapeCast S512x4096 wg shapeCasts_S1x512x4096_S512x4096) bitsLt_bf16_f32) (constant S1024x512 .f32 0x00000000#32))
    shapeCasts_S1024x512_S1x1024x512

/-- The half of the gate products step `i` reads. -/
def readHalf (i : grid0.Coords) (p : Vec F S2x1024x512 .f32) : Vec F S1x1024x512 .f32 :=
  View.ld p (Rect.unit (s := S2x1024x512) (k0_off1 i) S1x1024x512.size (k0_off1_inb i))

/-- The gate products with step `i`'s half replaced. -/
def putHalf (i : grid0.Coords) (p : Vec F S2x1024x512 .f32) (w : Vec F S1x1024x512 .f32) : Vec F S2x1024x512 .f32 :=
  VecWindow.put p (k0_off2 i) S1x1024x512.size w

/-- A whole buffer of zeros, of the gate products -/
def zeroPre : Vec F S2x1024x512 .f32 := broadcast S2x1024x512 (Scalar.ofBits .f32 0x00000000#32)

/-- and of the running sum. -/
def zeroAcc : Vec F S1024x512 .f32 := broadcast S1024x512 (Scalar.ofBits .f32 0x00000000#32)

/-- The output buffer after step `i` that found it at `o`. -/
def outNext (i : grid0.Coords) (o : Vec F S1024x512 .bf16) (a : Vec F S1024x512 .f32) : Vec F S1024x512 .bf16 :=
  if k0_cond2 i = 1#1 then truncf .bf16 a bitsLt_bf16_f32 else o

/-- The body's buffers at given contents: the activations, the branch's rows, the gate's and the branch's weights, the
    output, the gate products and the running sum. -/
def Held (c : Dev nD) (arg1 : Memref sig .tc .vmem S1024x4096 .bf16) (arg2 : Memref sig .tc .vmem S1x1024x1024 .bf16)
    (arg3 : Memref sig .tc .vmem S1x512x4096 .f32) (arg4 : Memref sig .tc .vmem S1x1x1024x512 .f32)
    (arg5 : Memref sig .tc .vmem S1024x512 .bf16) (arg6 : Memref sig .tc .vmem S2x1024x512 .f32) (arg7 : Memref sig .tc .vmem S1024x512 .f32)
    (h : Vec F S1024x4096 .bf16) (y : Vec F S1x1024x1024 .bf16) (wg : Vec F S1x512x4096 .f32) (wb : Vec F S1x1x1024x512 .f32)
    (o : Vec F S1024x512 .bf16) (p : Vec F S2x1024x512 .f32) (a : Vec F S1024x512 .f32) : sProp 𝕄 :=
  iprop(owns (c : Thread nD τ) arg1 fullShare h ∗ owns (c : Thread nD τ) arg2 fullShare y ∗ owns (c : Thread nD τ) arg3 fullShare wg
    ∗ owns (c : Thread nD τ) arg4 fullShare wb ∗ owns (c : Thread nD τ) arg5 fullShare o ∗ owns (c : Thread nD τ) arg6 fullShare p
    ∗ owns (c : Thread nD τ) arg7 fullShare a)

/-- The gate product of what the views read. -/
theorem gateProd_of_views (v1 : View sig .tc .vmem S1024x4096 .bf16) (v3 : View sig .tc .vmem S1x512x4096 .f32)
    (f1 : v1.ty.Contents (Elt F)) (f3 : v3.ty.Contents (Elt F)) :
    gateProd
        (v1.readAt (Elt F) (Rect.unit (s := S1024x4096) ![0, 0] S1024x4096.size inb_S1024x4096_S1024x4096_0_0).toLoadRect f1)
        (v3.readAt (Elt F) (Rect.unit (s := S1x512x4096) ![0, 0, 0] S1x512x4096.size inb_S1x512x4096_S1x512x4096_0_0_0).toLoadRect f3)
      = gateProd (v1.read (Elt F) f1) (v3.read (Elt F) f3) := by
  rw [View.readAt_full, View.readAt_full]

/-- The running sum of what the views read. -/
theorem accNext_of_views (i : grid0.Coords) (v2 : View sig .tc .vmem S1x1024x1024 .bf16) (v4 : View sig .tc .vmem S1x1x1024x512 .f32)
    (f2 : v2.ty.Contents (Elt F)) (f4 : v4.ty.Contents (Elt F)) (p p' : Vec F S1x1024x512 .f32) (a a' : Vec F S1024x512 .f32)
    (hp : p = p') (ha : a = a') :
    accNext i p
        (v2.readAt (Elt F) (Rect.unit (s := S1x1024x1024) ![0, 0, 0] S1x1024x1024.size inb_S1x1024x1024_S1x1024x1024_0_0_0).toLoadRect f2)
        (v4.readAt (Elt F) (Rect.unit (s := S1x1x1024x512) ![0, 0, 0, 0] S1x1x1024x512.size inb_S1x1x1024x512_S1x1x1024x512_0_0_0_0).toLoadRect f4)
        a
      = accNext i p' (v2.read (Elt F) f2) (v4.read (Elt F) f4) a' := by
  rw [View.readAt_full, View.readAt_full, hp, ha]

set_option maxHeartbeats 4000000 in
/-- A later step, not after the last branch: the output stays. -/
theorem run_mid (c : Dev nD) (E : Set ℕ) (i : grid0.Coords)
    (arg1 : Memref sig .tc .vmem S1024x4096 .bf16) (harg1 : arg1.IsWhole) (arg2 : Memref sig .tc .vmem S1x1024x1024 .bf16) (harg2 : arg2.IsWhole)
    (arg3 : Memref sig .tc .vmem S1x512x4096 .f32) (harg3 : arg3.IsWhole) (arg4 : Memref sig .tc .vmem S1x1x1024x512 .f32) (harg4 : arg4.IsWhole)
    (arg5 : Memref sig .tc .vmem S1024x512 .bf16) (harg5 : arg5.IsWhole) (arg6 : Memref sig .tc .vmem S2x1024x512 .f32) (harg6 : arg6.IsWhole)
    (arg7 : Memref sig .tc .vmem S1024x512 .f32) (harg7 : arg7.IsWhole)
    (h : Vec F S1024x4096 .bf16) (y : Vec F S1x1024x1024 .bf16) (wg : Vec F S1x512x4096 .f32) (wb : Vec F S1x1x1024x512 .f32)
    (o : Vec F S1024x512 .bf16) (p : Vec F S2x1024x512 .f32) (a : Vec F S1024x512 .f32)
    (h1 : ¬atStart i = 1#1) (h2 : ¬k0_cond2 i = 1#1) (K : PUnit → sProp 𝕄) :
    iprop(Held c arg1 arg2 arg3 arg4 arg5 arg6 arg7 h y wg wb o p a
        ∗ (Held c arg1 arg2 arg3 arg4 arg5 arg6 arg7 h y wg wb o (putHalf i p (gateProd h wg)) (accNext i (readHalf i p) y wb a) -∗ K ⟨⟩))
      ⊢ wp frame (wpE (defs₀ (F := F)) Variants.none c none) E
          (cc0_merge i arg1 harg1 arg2 harg2 arg3 harg3 arg4 harg4 arg5 harg5 arg6 harg6 arg7 harg7) K := by
  unfold cc0_merge k0_part1 Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf1 hf2 hf3 hf4 hf5 hf6 hf7
  sl_exec (disch := first | sl_exact h1 | sl_exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rfl
  isplitl [H6]
  · iexists _; isplitr
    swap; · iexact H6
    ipureintro
    rw [View.read_writes_cons_put _ _ _ _ _ rfl, View.writes_nil]
    exact congrArg (VecWindow.put _ _ _) (gateProd_of_views arg1.view arg3.view f1 f3)
  iexists _; isplitr
  swap; · iexact H7
  ipureintro
  rw [View.read_writes_full]
  exact (shapeCast_self _ _).trans (accNext_of_views i arg2.view arg4.view f2 f4 _ _ _ _ rfl (View.readAt_full _ _ _))

set_option maxHeartbeats 4000000 in
/-- A later step, after the last branch: the running sum goes out, rounded. -/
theorem run_last (c : Dev nD) (E : Set ℕ) (i : grid0.Coords)
    (arg1 : Memref sig .tc .vmem S1024x4096 .bf16) (harg1 : arg1.IsWhole) (arg2 : Memref sig .tc .vmem S1x1024x1024 .bf16) (harg2 : arg2.IsWhole)
    (arg3 : Memref sig .tc .vmem S1x512x4096 .f32) (harg3 : arg3.IsWhole) (arg4 : Memref sig .tc .vmem S1x1x1024x512 .f32) (harg4 : arg4.IsWhole)
    (arg5 : Memref sig .tc .vmem S1024x512 .bf16) (harg5 : arg5.IsWhole) (arg6 : Memref sig .tc .vmem S2x1024x512 .f32) (harg6 : arg6.IsWhole)
    (arg7 : Memref sig .tc .vmem S1024x512 .f32) (harg7 : arg7.IsWhole)
    (h : Vec F S1024x4096 .bf16) (y : Vec F S1x1024x1024 .bf16) (wg : Vec F S1x512x4096 .f32) (wb : Vec F S1x1x1024x512 .f32)
    (o : Vec F S1024x512 .bf16) (p : Vec F S2x1024x512 .f32) (a : Vec F S1024x512 .f32)
    (h1 : ¬atStart i = 1#1) (h2 : k0_cond2 i = 1#1) (K : PUnit → sProp 𝕄) :
    iprop(Held c arg1 arg2 arg3 arg4 arg5 arg6 arg7 h y wg wb o p a
        ∗ (Held c arg1 arg2 arg3 arg4 arg5 arg6 arg7 h y wg wb (truncf .bf16 (accNext i (readHalf i p) y wb a) bitsLt_bf16_f32) (putHalf i p (gateProd h wg)) (accNext i (readHalf i p) y wb a) -∗ K ⟨⟩))
      ⊢ wp frame (wpE (defs₀ (F := F)) Variants.none c none) E
          (cc0_merge i arg1 harg1 arg2 harg2 arg3 harg3 arg4 harg4 arg5 harg5 arg6 harg6 arg7 harg7) K := by
  unfold cc0_merge k0_part1 Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf1 hf2 hf3 hf4 hf5 hf6 hf7
  sl_exec (disch := first | sl_exact h1 | sl_exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_full]
    exact congrArg (fun q => truncf .bf16 q bitsLt_bf16_f32) (accNext_of_views i arg2.view arg4.view f2 f4 _ _ _ _ rfl (View.readAt_full _ _ _))
  isplitl [H6]
  · iexists _; isplitr
    swap; · iexact H6
    ipureintro
    rw [View.read_writes_cons_put _ _ _ _ _ rfl, View.writes_nil]
    exact congrArg (VecWindow.put _ _ _) (gateProd_of_views arg1.view arg3.view f1 f3)
  iexists _; isplitr
  swap; · iexact H7
  ipureintro
  rw [View.read_writes_full]
  exact (shapeCast_self _ _).trans (accNext_of_views i arg2.view arg4.view f2 f4 _ _ _ _ rfl (View.readAt_full _ _ _))

set_option maxHeartbeats 4000000 in
/-- The first step: the gate products and the running sum are cleared before. -/
theorem run_start (c : Dev nD) (E : Set ℕ) (i : grid0.Coords)
    (arg1 : Memref sig .tc .vmem S1024x4096 .bf16) (harg1 : arg1.IsWhole) (arg2 : Memref sig .tc .vmem S1x1024x1024 .bf16) (harg2 : arg2.IsWhole)
    (arg3 : Memref sig .tc .vmem S1x512x4096 .f32) (harg3 : arg3.IsWhole) (arg4 : Memref sig .tc .vmem S1x1x1024x512 .f32) (harg4 : arg4.IsWhole)
    (arg5 : Memref sig .tc .vmem S1024x512 .bf16) (harg5 : arg5.IsWhole) (arg6 : Memref sig .tc .vmem S2x1024x512 .f32) (harg6 : arg6.IsWhole)
    (arg7 : Memref sig .tc .vmem S1024x512 .f32) (harg7 : arg7.IsWhole)
    (h : Vec F S1024x4096 .bf16) (y : Vec F S1x1024x1024 .bf16) (wg : Vec F S1x512x4096 .f32) (wb : Vec F S1x1x1024x512 .f32)
    (o : Vec F S1024x512 .bf16) (p : Vec F S2x1024x512 .f32) (a : Vec F S1024x512 .f32)
    (h1 : atStart i = 1#1) (h2 : ¬k0_cond2 i = 1#1) (K : PUnit → sProp 𝕄) :
    iprop(Held c arg1 arg2 arg3 arg4 arg5 arg6 arg7 h y wg wb o p a
        ∗ (Held c arg1 arg2 arg3 arg4 arg5 arg6 arg7 h y wg wb o (putHalf i zeroPre (gateProd h wg)) (accNext i (readHalf i zeroPre) y wb zeroAcc) -∗ K ⟨⟩))
      ⊢ wp frame (wpE (defs₀ (F := F)) Variants.none c none) E
          (cc0_merge i arg1 harg1 arg2 harg2 arg3 harg3 arg4 harg4 arg5 harg5 arg6 harg6 arg7 harg7) K := by
  unfold cc0_merge k0_part1 Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf1 hf2 hf3 hf4 hf5 hf6 hf7
  sl_exec (disch := first | sl_exact h1 | sl_exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rfl
  isplitl [H6]
  · iexists _; isplitr
    swap; · iexact H6
    ipureintro
    rw [View.read_writes_cons_put _ _ _ _ _ rfl]
    refine (congrArg (fun q => VecWindow.put q _ _ _) ?_).trans (congrArg (VecWindow.put zeroPre _ _) (gateProd_of_views arg1.view arg3.view f1 f3))
    unfold run_start.sl.H6_1
    rw [View.read_writes_full]
    exact shapeCast_self _ _
  iexists _; isplitr
  swap; · iexact H7
  ipureintro
  rw [View.read_writes_full]
  refine (shapeCast_self _ _).trans (accNext_of_views i arg2.view arg4.view f2 f4 _ _ _ _ ?_ ?_)
  · refine (View.readCov_eq_canon' _ _ _).trans (funext fun j => ?_)
    unfold run_start.sl.H6_1
    rw [View.canon_cons_unit_lit _ _ _ (by decide)]
    exact congrFun (shapeCast_self _ _) _
  · refine (View.readCov_eq_canon' _ _ _).trans (funext fun j => ?_)
    unfold run_start.sl.H7_1
    rw [View.canon_cons_unit_lit _ _ _ (by decide)]
    exact congrFun (shapeCast_self _ _) _

end Cert.Kernel2Ideal.Own

end
-- ==== Proof.Merge.Frame.lean ====
/-
  The frame of the merge: the pipeline of 257 steps runs to its end, its arguments unchanged, every semaphore counter at
  zero.  A step works off item `s − 1` and prepares the gate product of item `s`; the gate products and the running sum
  are carried from step to step, and the output goes out at every fourth step.  The text is over any format of values
  `F`: the printed program's frame (at `Bits`) is this one too.
-/
module

public import proofs.«01_k».proof.Proof.Merge.Body

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule: which step is the first, and at which steps the output goes out -/

theorem atStart_iff : ∀ t : Fin cfg0.N, atStart (grid0.coords t) = 1#1 ↔ t.val = 0 := by
  decide +kernel

theorem last_iff : ∀ t : Fin cfg0.N, k0_cond2 (grid0.coords t) = 1#1 ↔ (t.val % 4 = 0 ∧ t.val ≠ 0) := by
  decide +kernel

theorem flush_iff : ∀ t : Fin cfg0.N, (cfg0.win 4).flush t = true ↔ (t.val % 4 = 0 ∧ t.val ≠ 0) := by
  decide +kernel

/-! ## What is carried -/

/-- What a step carries on: the gate products and the running sum. -/
abbrev Left (F : FTy → Type) [FloatOps F] := Vec F S2x1024x512 .f32 × Vec F S1024x512 .f32

/-- What step `t` leaves over `s`. -/
def step (c : Dev nD) (t : Fin cfg0.N) (s : Left F) : Left F :=
  (putHalf (grid0.coords t) s.1 (gateProd (iblk m c 0 t) (iblk m c 2 t)),
    accNext (grid0.coords t) (readHalf (grid0.coords t) s.1) (iblk m c 1 t) (iblk m c 3 t) s.2)

/-- What step `n` leaves; the first one starts from zeros. -/
def left (c : Dev nD) : (n : ℕ) → n < cfg0.N → Left F
  | 0, h => step m c ⟨0, h⟩ (zeroPre, zeroAcc)
  | n + 1, h => step m c ⟨n + 1, h⟩ (left c n (Nat.lt_of_succ_lt h))

/-- The carried buffers. -/
abbrev scPre : Memref sig .tc .vmem S2x1024x512 .f32 := Memref.whole cc0_scratch0
abbrev scAcc : Memref sig .tc .vmem S1024x512 .f32 := Memref.whole cc0_scratch1

/-- The carried buffers at `s`, and the generator at some state. -/
def Carried (c : Dev nD) (s : Left F) : sProp 𝕄 :=
  iprop((owns (c : Thread nD τ) scPre fullShare s.1 ∗ owns (c : Thread nD τ) scAcc fullShare s.2) ∗ (∃ r, prngReg c r))

theorem PhiA_eq (c : Dev nD) :
    (Pipeline.ΦA spec0 c : sProp 𝕄)
      = iprop(iprop((∃ d, owns (c : Thread nD τ) scPre fullShare d) ∗ (∃ d, owns (c : Thread nD τ) scAcc fullShare d)) ∗ (∃ r, prngReg c r)) := by
  unfold Pipeline.ΦA; rw [scopedRest0_eq]; simp only [scPre, scAcc, owns_whole]; try rfl

/-- The invariant before step `n`: the carried buffers at anything, then at what the step before left. -/
def Inv (c : Dev nD) : (n : ℕ) → n ≤ cfg0.N → sProp 𝕄
  | 0, _ => Pipeline.ΦA spec0 c
  | n + 1, h => Carried c (left m c n h)

/-- The pipeline's proof data: a step leaves its inputs as they were, and its output, where it stores one, at the running
    sum, rounded. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => truncf .bf16 (left m c t.val t.isLt).2 bitsLt_bf16_f32
    | ⟨_ + 5, h⟩ => absurd h (Nat.not_lt.2 (Nat.le_add_left _ _))
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after_out (c : Dev nD) (t : Fin cfg0.N) :
    (dats m 0 c).after 4 t = truncf .bf16 (left m c t.val t.isLt).2 bitsLt_bf16_f32 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body's obligation -/

/-- The inputs' buffers at step `t` hold their blocks. -/
def Inputs (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t))

/-- What the output's buffer is left at: at a step that stores nothing, at what it was found at. -/
theorem out_idle (c : Dev nD) (t : Fin cfg0.N) (h : ¬k0_cond2 (grid0.coords t) = 1#1) :
    (dats m 0 c).leavesExact 4 t = iprop(∃ d, owns (c : Thread nD τ) (st0_4 t) fullShare ((dats m 0 c).before 4 t d)) :=
  (dats m 0 c).leavesExact_idle 4 t
    (by show (!(k0_cond2 (grid0.coords t) == 1#1)) = true
        rw [Bool.not_eq_true', beq_eq_false_iff_ne]; exact h)
    (Bool.eq_false_iff.mpr fun hf => h ((last_iff t).mpr ((flush_iff t).mp hf)))

/-- At a step that stores, at the running sum, rounded. -/
theorem out_live (c : Dev nD) (t : Fin cfg0.N) (h : k0_cond2 (grid0.coords t) = 1#1) :
    (dats m 0 c).leavesExact 4 t = owns (c : Thread nD τ) (st0_4 t) fullShare (truncf .bf16 (left m c t.val t.isLt).2 bitsLt_bf16_f32) := by
  have hi : cfg0.idle 4 (cfg0.grid.coords t) = false := by
    show (!(k0_cond2 (grid0.coords t) == 1#1)) = false
    rw [Bool.not_eq_false', beq_iff_eq]; exact h
  rw [← after_out]
  unfold Dat.leavesExact
  rw [hi]

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The body's run at a step between: the output's buffer goes through. -/
theorem sound_mid (c : Dev nD) (t : Fin cfg0.N) (s : Left F) (o : Vec F S1024x512 .bf16) (K : PUnit → sProp 𝕄)
    (h1 : ¬atStart (grid0.coords t) = 1#1) (h2 : ¬k0_cond2 (grid0.coords t) = 1#1) :
    iprop(Held c (st0_0 t) (st0_1 t) (st0_2 t) (st0_3 t) (st0_4 t) scPre scAcc (iblk m c 0 t) (iblk m c 1 t) (iblk m c 2 t) (iblk m c 3 t) o s.1 s.2
        ∗ (Held c (st0_0 t) (st0_1 t) (st0_2 t) (st0_3 t) (st0_4 t) scPre scAcc (iblk m c 0 t) (iblk m c 1 t) (iblk m c 2 t) (iblk m c 3 t) o
            (step m c t s).1 (step m c t s).2 -∗ K ⟨⟩))
      ⊢ wp frame (wpE (defs₀ (F := F)) Variants.none c none) Set.univ (bodyAt0 t) K :=
  run_mid c Set.univ (grid0.coords t) _ _ _ _ _ _ _ _ _ _ _ _ _ _ _ _ _ _ _ _ _ h1 h2 K

/-- The body's run at a step after the last branch. -/
theorem sound_last (c : Dev nD) (t : Fin cfg0.N) (s : Left F) (o : Vec F S1024x512 .bf16) (K : PUnit → sProp 𝕄)
    (h1 : ¬atStart (grid0.coords t) = 1#1) (h2 : k0_cond2 (grid0.coords t) = 1#1) :
    iprop(Held c (st0_0 t) (st0_1 t) (st0_2 t) (st0_3 t) (st0_4 t) scPre scAcc (iblk m c 0 t) (iblk m c 1 t) (iblk m c 2 t) (iblk m c 3 t) o s.1 s.2
        ∗ (Held c (st0_0 t) (st0_1 t) (st0_2 t) (st0_3 t) (st0_4 t) scPre scAcc (iblk m c 0 t) (iblk m c 1 t) (iblk m c 2 t) (iblk m c 3 t)
            (truncf .bf16 (step m c t s).2 bitsLt_bf16_f32) (step m c t s).1 (step m c t s).2 -∗ K ⟨⟩))
      ⊢ wp frame (wpE (defs₀ (F := F)) Variants.none c none) Set.univ (bodyAt0 t) K :=
  run_last c Set.univ (grid0.coords t) _ _ _ _ _ _ _ _ _ _ _ _ _ _ _ _ _ _ _ _ _ h1 h2 K

/-- The body's run at the first step. -/
theorem sound_start (c : Dev nD) (t : Fin cfg0.N) (s : Left F) (o : Vec F S1024x512 .bf16) (K : PUnit → sProp 𝕄)
    (h1 : atStart (grid0.coords t) = 1#1) (h2 : ¬k0_cond2 (grid0.coords t) = 1#1) :
    iprop(Held c (st0_0 t) (st0_1 t) (st0_2 t) (st0_3 t) (st0_4 t) scPre scAcc (iblk m c 0 t) (iblk m c 1 t) (iblk m c 2 t) (iblk m c 3 t) o s.1 s.2
        ∗ (Held c (st0_0 t) (st0_1 t) (st0_2 t) (st0_3 t) (st0_4 t) scPre scAcc (iblk m c 0 t) (iblk m c 1 t) (iblk m c 2 t) (iblk m c 3 t) o
            (step m c t (zeroPre, zeroAcc)).1 (step m c t (zeroPre, zeroAcc)).2 -∗ K ⟨⟩))
      ⊢ wp frame (wpE (defs₀ (F := F)) Variants.none c none) Set.univ (bodyAt0 t) K :=
  run_start c Set.univ (grid0.coords t) _ _ _ _ _ _ _ _ _ _ _ _ _ _ _ _ _ _ _ _ _ h1 h2 K

set_option maxHeartbeats 4000000 in
/-- The body at every step. -/
theorem sound_body (c : Dev nD) (t : Fin cfg0.N) :
    bodyPre m c t ⊢ wp frame (wpE (defs₀ (F := F)) Variants.none c none) Set.univ (bodyAt0 t) (fun _ => bodyPost m c t) := by
  obtain ⟨n, ht⟩ := t
  unfold bodyPre bodyPost
  simp only [before0, before1, before2, before3]
  rw [inv_castSucc, show (dats m 0 c).Φ (Fin.succ ⟨n, ht⟩) = Carried c (left m c n ht) from rfl,
    show (dats m 0 c).owesAt () (Fin.succ ⟨n, ht⟩) = (dats m 0 c).owesAt () (Fin.castSucc ⟨n, ht⟩) from rfl,
    after0, after1, after2, after3]
  cases n with
  | zero =>
    have h1 : atStart (grid0.coords ⟨0, ht⟩) = 1#1 := (atStart_iff _).mpr rfl
    have h2 : ¬k0_cond2 (grid0.coords ⟨0, ht⟩) = 1#1 := fun h => ((last_iff _).mp h).2 rfl
    rw [out_idle m c _ h2, show Inv m c 0 (Nat.le_of_lt ht) = Pipeline.ΦA spec0 c from rfl, PhiA_eq]
    unfold Carried
    iintro ⟨⟨⟨⟨%p, HS0⟩, ⟨%a, HS1⟩⟩, Hg⟩, Ho, ⟨%d0, H0⟩, ⟨%d1, H1⟩, ⟨%d2, H2⟩, ⟨%d3, H3⟩, ⟨%d4, H4⟩⟩
    iapply (sound_start m c ⟨0, ht⟩ (p, a) _ _ h1 h2)
    unfold Held
    isplitl [H0 H1 H2 H3 H4 HS0 HS1]
    · isplitl [H0]; · iexact H0
      isplitl [H1]; · iexact H1
      isplitl [H2]; · iexact H2
      isplitl [H3]; · iexact H3
      isplitl [H4]; · iexact H4
      isplitl [HS0]; · iexact HS0
      iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists d4; iexact H4
  | succ n =>
    have h1 : ¬atStart (grid0.coords ⟨n + 1, ht⟩) = 1#1 := fun h => Nat.succ_ne_zero n ((atStart_iff _).mp h)
    rw [show Inv m c (n + 1) (Nat.le_of_lt ht) = Carried c (left m c n (Nat.lt_of_succ_lt ht)) from rfl]
    unfold Carried
    by_cases h2 : k0_cond2 (grid0.coords ⟨n + 1, ht⟩) = 1#1
    · rw [out_live m c _ h2]
      iintro ⟨⟨⟨HS0, HS1⟩, Hg⟩, Ho, ⟨%d0, H0⟩, ⟨%d1, H1⟩, ⟨%d2, H2⟩, ⟨%d3, H3⟩, ⟨%d4, H4⟩⟩
      iapply (sound_last m c ⟨n + 1, ht⟩ (left m c n (Nat.lt_of_succ_lt ht)) _ _ h1 h2)
      unfold Held
      isplitl [H0 H1 H2 H3 H4 HS0 HS1]
      · isplitl [H0]; · iexact H0
        isplitl [H1]; · iexact H1
        isplitl [H2]; · iexact H2
        isplitl [H3]; · iexact H3
        isplitl [H4]; · iexact H4
        isplitl [HS0]; · iexact HS0
        iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · rw [out_idle m c _ h2]
      iintro ⟨⟨⟨HS0, HS1⟩, Hg⟩, Ho, ⟨%d0, H0⟩, ⟨%d1, H1⟩, ⟨%d2, H2⟩, ⟨%d3, H3⟩, ⟨%d4, H4⟩⟩
      iapply (sound_mid m c ⟨n + 1, ht⟩ (left m c n (Nat.lt_of_succ_lt ht)) _ _ h1 h2)
      unfold Held
      isplitl [H0 H1 H2 H3 H4 HS0 HS1]
      · isplitl [H0]; · iexact H0
        isplitl [H1]; · iexact H1
        isplitl [H2]; · iexact H2
        isplitl [H3]; · iexact H3
        isplitl [H4]; · iexact H4
        isplitl [HS0]; · iexact HS0
        iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists d4; iexact H4

/-- The body table's row at the slots of step `t` is the body at that step. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's obligation of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ (dats m 0 c).Φ 0 := by
  rw [show (dats m 0 c).Φ 0 = Pipeline.ΦA spec0 c from rfl]

/-- After the last step the carried buffers' contents are forgotten. -/
theorem inv_out (c : Dev nD) : (dats m 0 c).Φ (Fin.last cfg0.N) ⊢ Pipeline.ΦA spec0 c := by
  rw [show (dats m 0 c).Φ (Fin.last cfg0.N) = Carried c (left m c 256 (by rw [show cfg0.N = 257 from N_0]; omega)) from rfl, PhiA_eq]
  unfold Carried
  iintro ⟨⟨HS0, HS1⟩, Hg⟩
  isplitl [HS0 HS1]
  · isplitl [HS0]
    · iexists _; iexact HS0
    iexists _; iexact HS1
  iexact Hg

set_option backward.isDefEq.respectTransparency.types false in
/-- The launch: the arrays end at what the proof data says, the counters at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; dsimp only [dats]; split <;> rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.Kernel2Ideal.Own

end
-- ==== Proof.Merge.Final.lean ====
/-
  What the merge computes: at row `r` and column `j` the sum over the four branches of the gate — the logistic function of
  the activations' product with the branch's gate column — times the branch's product with its weights.  Step `s` leaves
  item `s`'s gate product in one half of the carried buffer, and the partial sum of item `s − 1`'s branches so far.
-/
module

public import proofs.«01_k».proof.Proof.Merge.Frame
public import Idealize.ShloMosaic.Lib.Pointwise

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-! ## The result, written out -/

/-- The logistic function. -/
def gate (x : EReal) : EReal := Ideal.div 1 (1 + Ideal.exp (-x))

/-- The column of the weights that gates branch `g`'s column `j`. -/
def gcol (g : Fin 4) (j : Fin 4096) : Fin 30736 := ⟨14352 + (g.val * 4096 + j.val), by omega⟩

/-- The gate product. -/
def gateDot (a : S8192x4096.Idx → EReal) (w : S2x4096x30736.Idx → EReal) (r : Fin 8192) (g : Fin 4) (j : Fin 4096) : EReal :=
  ∑ k : Fin 4096, a (ix2 r k) * w (ix3 0 k (gcol g j))

/-- The branch's product. -/
def branchDot (y : S4x8192x1024.Idx → EReal) (b : S2x4x1024x4096.Idx → EReal) (r : Fin 8192) (g : Fin 4) (j : Fin 4096) : EReal :=
  ∑ k : Fin 1024, y (ix3 g r k) * b (ix4 0 g k j)

/-- One branch's share of the result. -/
def share (a : S8192x4096.Idx → EReal) (y : S4x8192x1024.Idx → EReal) (w : S2x4096x30736.Idx → EReal) (b : S2x4x1024x4096.Idx → EReal)
    (r : Fin 8192) (j : Fin 4096) (g : Fin 4) : EReal :=
  gate (gateDot a w r g j) * branchDot y b r g j

/-- The result. -/
def mergeAt (a : S8192x4096.Idx → EReal) (y : S4x8192x1024.Idx → EReal) (w : S2x4096x30736.Idx → EReal) (b : S2x4x1024x4096.Idx → EReal)
    (i : S8192x4096.Idx) : EReal :=
  ∑ g : Fin 4, share a y w b (i 0) (i 1) g

/-! ## The operations of a step, read at an index -/

theorem term_at (p : Vec Ideal S1x1024x512 .f32) (y : Vec Ideal S1x1024x1024 .bf16) (wb : Vec Ideal S1x1x1024x512 .f32) (r : Fin 1024) (j : Fin 512) :
    term p y wb (ix2 r j) = gate (p (ix3 0 r j)) * ∑ k : Fin 1024, y (ix3 0 r k) * wb (ix4 0 0 k j) := by
  unfold gate
  pointwise [term]
  rw [zero_sub]

theorem gateProd_at (h : Vec Ideal S1024x4096 .bf16) (wg : Vec Ideal S1x512x4096 .f32) (r : Fin 1024) (j : Fin 512) :
    gateProd h wg (ix3 0 r j) = ∑ k : Fin 4096, h (ix2 r k) * wg (ix3 0 j k) := by
  pointwise [gateProd]

/-! ## The schedule -/

/-- The half of the carried buffer that step `t` fills. -/
def half (t : Fin cfg0.N) : Fin 2 := ⟨t.val % 2, Nat.mod_lt _ (by norm_num)⟩

theorem off1 : ∀ t : Fin cfg0.N, k0_off1 (grid0.coords t) (0 : Fin 3) = (t.val + 1) % 2 ∧ k0_off1 (grid0.coords t) (1 : Fin 3) = 0
    ∧ k0_off1 (grid0.coords t) (2 : Fin 3) = 0 :=
  (by decide +kernel : ∀ t : Fin grid0.N, _)
theorem off2 : ∀ t : Fin cfg0.N, k0_off2 (grid0.coords t) (0 : Fin 3) = t.val % 2 ∧ k0_off2 (grid0.coords t) (1 : Fin 3) = 0
    ∧ k0_off2 (grid0.coords t) (2 : Fin 3) = 0 :=
  (by decide +kernel : ∀ t : Fin grid0.N, _)
/-- Branch 0's steps start the sum anew. -/
theorem anew_iff : ∀ t : Fin cfg0.N, Scalar.cmpi .eq (prevBranch (grid0.coords t)) 0#32 = 1#1 ↔ (t.val - 1) % 4 = 0 :=
  (by decide +kernel : ∀ t : Fin grid0.N, _)
theorem index0 : ∀ t : Fin cfg0.N, win0_0.index t (0 : Fin 2) = min t.val 255 / 32 ∧ win0_0.index t (1 : Fin 2) = 0 :=
  (by decide +kernel : ∀ t : Fin grid0.N, _)
theorem index1 : ∀ t : Fin cfg0.N, win0_1.index t (0 : Fin 3) = (t.val - 1) % 4 ∧ win0_1.index t (1 : Fin 3) = (t.val - 1) / 32
    ∧ win0_1.index t (2 : Fin 3) = 0 :=
  (by decide +kernel : ∀ t : Fin grid0.N, _)
theorem index2 : ∀ t : Fin cfg0.N, cc0_transform_2 (grid0.coords t) (0 : Fin 3) = 0
    ∧ cc0_transform_2 (grid0.coords t) (1 : Fin 3) = 14352 + (4096 * (min t.val 255 % 4) + 512 * (min t.val 255 / 4 % 8))
    ∧ cc0_transform_2 (grid0.coords t) (2 : Fin 3) = 0 :=
  (by decide +kernel : ∀ t : Fin grid0.N, _)
theorem index3 : ∀ t : Fin cfg0.N, win0_3.index t (0 : Fin 4) = 0 ∧ win0_3.index t (1 : Fin 4) = (t.val - 1) % 4
    ∧ win0_3.index t (2 : Fin 4) = 0 ∧ win0_3.index t (3 : Fin 4) = (t.val - 1) / 4 % 8 :=
  (by decide +kernel : ∀ t : Fin grid0.N, _)
theorem index4 : ∀ t : Fin cfg0.N, win0_4.index t (0 : Fin 2) = (t.val - 1) / 32 ∧ win0_4.index t (1 : Fin 2) = (t.val - 1) / 4 % 8 :=
  (by decide +kernel : ∀ t : Fin grid0.N, _)

/-- Item `n`'s branch, -/
def br (n : ℕ) : Fin 4 := ⟨n % 4, Nat.mod_lt _ (by norm_num)⟩
/-- its row `r`, -/
def row (n : ℕ) (h : n < 256) (r : Fin 1024) : Fin 8192 := ⟨1024 * (n / 32) + r.val, by omega⟩
/-- its column `j`. -/
def col (n : ℕ) (j : Fin 512) : Fin 4096 := ⟨512 * (n / 4 % 8) + j.val, by omega⟩

/-! ## The blocks -/

/-- The weights as the host hands them over: transposed. -/
theorem V_v0 (c : Dev nD) : V m c main_v0 = transpose S2x30736x4096 [0, 2, 1] (m ((c : Thread nD τ).loc main_arg2)) transposes_S2x4096x30736_S2x30736x4096_0_2_1 := by
  show StableHlo.after hostOps0 _ (Proc.devRef .tc main_v0) = _
  simp only [hostOps0]
  after_results

theorem block0 (c : Dev nD) (t : Fin cfg0.N) (n : ℕ) (hn : n < 256) (e : n = min t.val 255) (r : Fin 1024) (k : Fin 4096) :
    (iblk m c 0 t : Vec Ideal S1024x4096 .bf16) (ix2 r k) = m ((c : Thread nD τ).loc main_arg0) (ix2 (row n hn r) k) := by
  obtain ⟨e0, e1⟩ := index0 t
  rw [← V_main_arg0 m c]
  exact congrArg (V m c main_arg0) (funext fun a => Fin.ext (match a with
    | ⟨0, _⟩ => by show win0_0.index t (0 : Fin 2) * 1024 + 1 * r.val = 1024 * (n / 32) + r.val; rw [e0, ← e]; omega
    | ⟨1, _⟩ => by show win0_0.index t (1 : Fin 2) * 4096 + 1 * k.val = k.val; omega))

theorem block1 (c : Dev nD) (t : Fin cfg0.N) (n : ℕ) (hn : n < 256) (e : n = t.val - 1) (r : Fin 1024) (k : Fin 1024) :
    (iblk m c 1 t : Vec Ideal S1x1024x1024 .bf16) (ix3 0 r k) = m ((c : Thread nD τ).loc main_arg1) (ix3 (br n) (row n hn r) k) := by
  obtain ⟨e0, e1, e2⟩ := index1 t
  rw [← V_main_arg1 m c]
  exact congrArg (V m c main_arg1) (funext fun a => Fin.ext (match a with
    | ⟨0, _⟩ => by show win0_1.index t (0 : Fin 3) * 1 + 1 * 0 = n % 4; rw [e0, ← e]; omega
    | ⟨1, _⟩ => by show win0_1.index t (1 : Fin 3) * 1024 + 1 * r.val = 1024 * (n / 32) + r.val; rw [e1, ← e]; omega
    | ⟨2, _⟩ => by show win0_1.index t (2 : Fin 3) * 1024 + 1 * k.val = k.val; omega))

theorem block2 (c : Dev nD) (t : Fin cfg0.N) (n : ℕ) (e : n = min t.val 255) (j : Fin 512) (k : Fin 4096) :
    (iblk m c 2 t : Vec Ideal S1x512x4096 .f32) (ix3 0 j k) = m ((c : Thread nD τ).loc main_arg2) (ix3 0 k (gcol (br n) (col n j))) := by
  obtain ⟨e0, e1, e2⟩ := index2 t
  have ew : (V m c main_v0 : S2x30736x4096.Idx → EReal) (ix3 0 (gcol (br n) (col n j)) k) = m ((c : Thread nD τ).loc main_arg2) (ix3 0 k (gcol (br n) (col n j))) := by
    rw [V_v0]; pointwise
  refine Eq.trans ?_ ew
  exact congrArg (V m c main_v0) (funext fun a => Fin.ext (match a with
    | ⟨0, _⟩ => by show cc0_transform_2 (grid0.coords t) (0 : Fin 3) + 1 * 0 = 0; omega
    | ⟨1, _⟩ => by
      show cc0_transform_2 (grid0.coords t) (1 : Fin 3) + 1 * j.val = 14352 + (n % 4 * 4096 + (512 * (n / 4 % 8) + j.val))
      rw [e1, ← e]; omega
    | ⟨2, _⟩ => by show cc0_transform_2 (grid0.coords t) (2 : Fin 3) + 1 * k.val = k.val; omega))

theorem block3 (c : Dev nD) (t : Fin cfg0.N) (n : ℕ) (e : n = t.val - 1) (k : Fin 1024) (j : Fin 512) :
    (iblk m c 3 t : Vec Ideal S1x1x1024x512 .f32) (ix4 0 0 k j) = m ((c : Thread nD τ).loc main_arg3) (ix4 0 (br n) k (col n j)) := by
  obtain ⟨e0, e1, e2, e3⟩ := index3 t
  rw [← V_main_arg3 m c]
  exact congrArg (V m c main_arg3) (funext fun a => Fin.ext (match a with
    | ⟨0, _⟩ => by show win0_3.index t (0 : Fin 4) * 1 + 1 * 0 = 0; omega
    | ⟨1, _⟩ => by show win0_3.index t (1 : Fin 4) * 1 + 1 * 0 = n % 4; rw [e1, ← e]; omega
    | ⟨2, _⟩ => by show win0_3.index t (2 : Fin 4) * 1024 + 1 * k.val = k.val; omega
    | ⟨3, _⟩ => by show win0_3.index t (3 : Fin 4) * 512 + 1 * j.val = 512 * (n / 4 % 8) + j.val; rw [e3, ← e]; omega))

/-! ## What a step leaves -/

/-- The half just filled holds the step's gate product. -/
theorem put_at (t : Fin cfg0.N) (p : Vec Ideal S2x1024x512 .f32) (w : Vec Ideal S1x1024x512 .f32) (r : Fin 1024) (j : Fin 512) :
    putHalf (grid0.coords t) p w (ix3 (half t) r j) = w (ix3 0 r j) := by
  obtain ⟨e0, e1, e2⟩ := off2 t
  have h : ∀ a : Fin 3, k0_off2 (grid0.coords t) a ≤ ((ix3 (half t) r j : S2x1024x512.Idx) a).val
      ∧ ((ix3 (half t) r j : S2x1024x512.Idx) a).val < k0_off2 (grid0.coords t) a + S1x1024x512.size a := fun a => match a with
    | ⟨0, _⟩ => by show k0_off2 (grid0.coords t) (0 : Fin 3) ≤ t.val % 2 ∧ t.val % 2 < k0_off2 (grid0.coords t) (0 : Fin 3) + 1; omega
    | ⟨1, _⟩ => by show k0_off2 (grid0.coords t) (1 : Fin 3) ≤ r.val ∧ r.val < k0_off2 (grid0.coords t) (1 : Fin 3) + 1024; have := r.isLt; omega
    | ⟨2, _⟩ => by show k0_off2 (grid0.coords t) (2 : Fin 3) ≤ j.val ∧ j.val < k0_off2 (grid0.coords t) (2 : Fin 3) + 512; have := j.isLt; omega
  unfold putHalf VecWindow.put
  rw [dif_pos h]
  exact congrArg w (funext fun a => Fin.ext (match a with
    | ⟨0, _⟩ => by show t.val % 2 - k0_off2 (grid0.coords t) (0 : Fin 3) = 0; omega
    | ⟨1, _⟩ => by show r.val - k0_off2 (grid0.coords t) (1 : Fin 3) = r.val; omega
    | ⟨2, _⟩ => by show j.val - k0_off2 (grid0.coords t) (2 : Fin 3) = j.val; omega))

/-- A step reads the half the step before filled. -/
theorem read_at (t u : Fin cfg0.N) (e : t.val = u.val + 1) (p : Vec Ideal S2x1024x512 .f32) (r : Fin 1024) (j : Fin 512) :
    readHalf (grid0.coords t) p (ix3 0 r j) = p (ix3 (half u) r j) := by
  obtain ⟨e0, e1, e2⟩ := off1 t
  exact congrArg p (funext fun a => Fin.ext (match a with
    | ⟨0, _⟩ => by show k0_off1 (grid0.coords t) (0 : Fin 3) + 1 * 0 = u.val % 2; omega
    | ⟨1, _⟩ => by show k0_off1 (grid0.coords t) (1 : Fin 3) + 1 * r.val = r.val; omega
    | ⟨2, _⟩ => by show k0_off1 (grid0.coords t) (2 : Fin 3) + 1 * j.val = j.val; omega))

/-- The sum after a step: the item's share, on top of what there was unless the branch is the first. -/
theorem acc_at (t : Fin cfg0.N) (p : Vec Ideal S1x1024x512 .f32) (y : Vec Ideal S1x1024x1024 .bf16) (wb : Vec Ideal S1x1x1024x512 .f32)
    (a : Vec Ideal S1024x512 .f32) (r : Fin 1024) (j : Fin 512) :
    accNext (grid0.coords t) p y wb a (ix2 r j) = term p y wb (ix2 r j) + (if (t.val - 1) % 4 = 0 then 0 else a (ix2 r j)) := by
  unfold accNext
  by_cases h : (t.val - 1) % 4 = 0
  · rw [if_pos h, (anew_iff t).mpr h]
    generalize term p y wb = q
    show addf q (broadcast S1024x512 (Scalar.ofBits .f32 0x00000000#32)) (ix2 r j) = _
    pointwise
  · rw [if_neg h]
    have hz : ¬Scalar.cmpi .eq (prevBranch (grid0.coords t)) 0#32 = 1 := fun e => h ((anew_iff t).mp e)
    generalize term p y wb = q
    unfold Scalar.select
    rw [if_neg hz]
    rfl

/-- The gate product a step leaves. -/
theorem pre_left (c : Dev nD) (t : Fin cfg0.N) (n : ℕ) (hn : n < 256) (e : n = min t.val 255) (r : Fin 1024) (j : Fin 512) :
    (left m c t.val t.isLt).1 (ix3 (half t) r j)
      = gateDot (m ((c : Thread nD τ).loc main_arg0)) (m ((c : Thread nD τ).loc main_arg2)) (row n hn r) (br n) (col n j) := by
  have key : ∀ s : Left Ideal, (step m c t s).1 (ix3 (half t) r j)
      = gateDot (m ((c : Thread nD τ).loc main_arg0)) (m ((c : Thread nD τ).loc main_arg2)) (row n hn r) (br n) (col n j) := fun s => by
    refine (put_at t s.1 _ r j).trans ((gateProd_at _ _ r j).trans ?_)
    exact Finset.sum_congr rfl fun k _ => congrArg₂ (fun a b : EReal => a * b) (block0 m c t n hn e r k) (block2 m c t n e j k)
  obtain ⟨v, hv⟩ := t
  cases v with
  | zero => exact key _
  | succ v => exact key _

/-- The sum of the first branches' shares, the latest on top. -/
def partSum (f : Fin 4 → EReal) : ℕ → EReal
  | 0 => f 0 + 0
  | n + 1 => f (br (n + 1)) + partSum f n

theorem partSum_three (f : Fin 4 → EReal) : partSum f 3 = ∑ g : Fin 4, f g := by
  rw [Fin.sum_univ_four]
  show f 3 + (f 2 + (f 1 + (f 0 + 0))) = f 0 + f 1 + f 2 + f 3
  rw [add_zero, add_comm (f 1), add_comm (f 2), add_comm (f 3)]

/-- Item `n`'s shares at its row `r` and column `j`. -/
def shares (c : Dev nD) (n : ℕ) (hn : n < 256) (r : Fin 1024) (j : Fin 512) : Fin 4 → EReal :=
  share (m ((c : Thread nD τ).loc main_arg0)) (m ((c : Thread nD τ).loc main_arg1)) (m ((c : Thread nD τ).loc main_arg2))
    (m ((c : Thread nD τ).loc main_arg3)) (row n hn r) (col n j)

/-- A step's own share. -/
theorem term_left (c : Dev nD) (n : ℕ) (hn : n < 256) (h1 : n + 1 < cfg0.N) (r : Fin 1024) (j : Fin 512) :
    term (readHalf (grid0.coords ⟨n + 1, h1⟩) (left m c n (Nat.lt_of_succ_lt h1)).1) (iblk m c 1 ⟨n + 1, h1⟩) (iblk m c 3 ⟨n + 1, h1⟩) (ix2 r j)
      = shares m c n hn r j (br n) := by
  rw [term_at, read_at ⟨n + 1, h1⟩ ⟨n, Nat.lt_of_succ_lt h1⟩ rfl,
    pre_left m c ⟨n, Nat.lt_of_succ_lt h1⟩ n hn (by show n = min n 255; omega)]
  refine congrArg (fun q : EReal => gate _ * q) (Finset.sum_congr rfl fun k _ => ?_)
  exact congrArg₂ (fun a b : EReal => a * b) (block1 m c _ n hn rfl r k) (block3 m c _ n rfl k j)

/-- The sum a step leaves: of the item's branches up to its own. -/
theorem acc_left (c : Dev nD) (n : ℕ) : ∀ (hn : n < 256) (h1 : n + 1 < cfg0.N) (r : Fin 1024) (j : Fin 512),
    (left m c (n + 1) h1).2 (ix2 r j) = partSum (shares m c n hn r j) (n % 4) := by
  induction n with
  | zero =>
    intro hn h1 r j
    refine (acc_at ⟨1, h1⟩ _ _ _ _ r j).trans ?_
    rw [if_pos (show (1 - 1) % 4 = 0 from rfl)]
    exact congrArg (· + (0 : EReal)) (term_left m c 0 hn h1 r j)
  | succ n ih =>
    intro hn h1 r j
    refine (acc_at ⟨n + 2, h1⟩ _ _ _ _ r j).trans ?_
    by_cases h : (n + 1) % 4 = 0
    · rw [if_pos (show (n + 2 - 1) % 4 = 0 from h), h]
      have e : br (n + 1) = 0 := Fin.ext h
      exact congrArg (· + (0 : EReal)) ((term_left m c (n + 1) hn h1 r j).trans (congrArg _ e))
    · rw [if_neg (show ¬(n + 2 - 1) % 4 = 0 from h)]
      have e4 : (n + 1) % 4 = n % 4 + 1 := by omega
      have eb : br (n + 1) = br (n % 4 + 1) := Fin.ext (by show (n + 1) % 4 = (n % 4 + 1) % 4; omega)
      have es : shares m c (n + 1) hn r j = shares m c n (Nat.lt_of_succ_lt hn) r j := by
        unfold shares
        have er : row (n + 1) hn r = row n (Nat.lt_of_succ_lt hn) r := Fin.ext (by show 1024 * ((n + 1) / 32) + r.val = 1024 * (n / 32) + r.val; omega)
        have ec : col (n + 1) j = col n j := Fin.ext (by show 512 * ((n + 1) / 4 % 8) + j.val = 512 * (n / 4 % 8) + j.val; omega)
        rw [er, ec]
      rw [e4]
      show _ = shares m c (n + 1) hn r j (br (n % 4 + 1)) + partSum (shares m c (n + 1) hn r j) (n % 4)
      rw [← eb]
      refine congrArg₂ (fun a b : EReal => a + b) (term_left m c (n + 1) hn h1 r j) ?_
      rw [es]
      exact ih (Nat.lt_of_succ_lt hn) (Nat.lt_of_succ_lt h1) r j

/-! ## The final array -/

/-- The result. -/
def outArr (c : Dev nD) : S8192x4096.Idx → EReal :=
  mergeAt (m ((c : Thread nD τ).loc main_arg0)) (m ((c : Thread nD τ).loc main_arg1)) (m ((c : Thread nD τ).loc main_arg2)) (m ((c : Thread nD τ).loc main_arg3))

theorem emb4 (t : Fin cfg0.N) (n : ℕ) (hn : n < 256) (e : n = t.val - 1) (y : S1024x512.Idx) :
    (((cfg0.win 4).blk t).view.emb y : S8192x4096.Idx) = ix2 (row n hn (y 0)) (col n (y 1)) := by
  obtain ⟨e0, e1⟩ := index4 t
  funext a; apply Fin.ext
  match a with
  | ⟨0, _⟩ => show win0_4.index t (0 : Fin 2) * 1024 + 1 * (y 0).val = 1024 * (n / 32) + (y 0).val; rw [e0, ← e]; omega
  | ⟨1, _⟩ => show win0_4.index t (1 : Fin 2) * 512 + 1 * (y 1).val = 512 * (n / 4 % 8) + (y 1).val; rw [e1, ← e]; omega

theorem flushed4 (c : Dev nD) (t : Fin cfg0.N) (hf : (cfg0.win 4).flush t = true) :
    (dats m 0 c).flushed 4 t = ((cfg0.win 4).blk t).view.read (Elt Ideal) (outArr m c) := by
  obtain ⟨h4, h0⟩ := (flush_iff t).mp hf
  obtain ⟨v, hv⟩ := t
  cases v with
  | zero => exact absurd rfl h0
  | succ n =>
  have hN : cfg0.N = 257 := N_0
  have hn : n < 256 := by omega
  have h3 : n % 4 = 3 := by dsimp only at h4; omega
  show (cfg0.win 4).cut (cfg0.grid.coords ⟨n + 1, hv⟩) ((dats m 0 c).after 4 ⟨n + 1, hv⟩) = _
  rw [after_out]
  funext (y : S1024x512.Idx)
  show (left m c (n + 1) hv).2 y = outArr m c (((cfg0.win 4).blk ⟨n + 1, hv⟩).view.emb y)
  rw [emb4 ⟨n + 1, hv⟩ n hn rfl y]
  refine (congrArg (left m c (n + 1) hv).2 (ix2_eta y).symm).trans ((acc_left m c n hn hv (y 0) (y 1)).trans ?_)
  rw [h3]
  exact partSum_three _

theorem mem4 (t : Fin cfg0.N) (i : S8192x4096.Idx) : i ∈ ((cfg0.win 4).blk t).view.set ↔
    ∀ a : Fin 2, win0_4.index t a * S1024x512.size a ≤ (i a).val ∧ (i a).val < win0_4.index t a * S1024x512.size a + S1024x512.size a := by
  show i ∈ ((View.whole main_v1).slice (win0_4.rect t)).set ↔ _
  rw [View.set_slice_whole, Rect.mem_set_unit]
  exact Iff.rfl

theorem cover4 (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  refine ⟨⟨32 * ((i 0).val / 1024) + 4 * ((i 1).val / 512) + 4, by rw [show cfg0.N = 257 from N_0]; omega⟩,
    (flush_iff _).mpr ⟨by dsimp only; omega, by dsimp only; omega⟩, (mem4 _ i).2 fun a => ?_⟩
  obtain ⟨e0, e1⟩ := index4 ⟨32 * ((i 0).val / 1024) + 4 * ((i 1).val / 512) + 4, by rw [show cfg0.N = 257 from N_0]; omega⟩
  match a with
  | ⟨0, _⟩ =>
    rw [show (⟨0, _⟩ : Fin 2) = 0 from rfl, e0]
    show (32 * ((i 0).val / 1024) + 4 * ((i 1).val / 512) + 4 - 1) / 32 * 1024 ≤ (i 0).val
      ∧ (i 0).val < (32 * ((i 0).val / 1024) + 4 * ((i 1).val / 512) + 4 - 1) / 32 * 1024 + 1024
    omega
  | ⟨1, _⟩ =>
    rw [show (⟨1, _⟩ : Fin 2) = 1 from rfl, e1]
    show (32 * ((i 0).val / 1024) + 4 * ((i 1).val / 512) + 4 - 1) / 4 % 8 * 512 ≤ (i 1).val
      ∧ (i 1).val < (32 * ((i 0).val / 1024) + 4 * ((i 1).val / 512) + 4 - 1) / 4 % 8 * 512 + 512
    omega

theorem final4 (c : Dev nD) : (dats m 0 c).arrAt 4 cfg0.N = outArr m c :=
  (dats m 0 c).arrAt_eq_of_cover 4 _ (fun t hf => flushed4 m c t hf) cover4

/-- The run, read at the result and the arguments. -/
theorem run_out : θ_run defs (onTc (τ := τ) (main (F := Ideal))) ⟨m, fun _ => 0, ρ⟩ (fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final4 m c), h.2 c⟩)
    (θ_run_and (run_main m ρ) (frame_of m ρ (dats m) (A_eq m) (run_main m ρ)))

end Cert.Kernel2Ideal.Own

end
-- ==== Proof.Merge.Eq.lean ====
/-
  The reference's value of the merge, read at a row and a column: the same sum over the four branches.
-/
module

public import proofs.«01_k».proof.Proof.Merge.Final
public import proofs.«01_k».proof.Proof.Gen.Reference2Ideal.Read

@[expose] public section

set_option maxRecDepth 16384

noncomputable section

namespace Cert.Kernel2Ideal.Own

open Cert.Kernel2Ideal
open Idealize.ShloMosaic Idealize.ShloMosaic.TcCoe

/-- The reference's value at a row and a column. -/
theorem ref_at (a : Vec Ideal S8192x4096 .bf16) (y : Vec Ideal S4x8192x1024 .bf16) (w : Vec Ideal S2x4096x30736 .f32)
    (b : Vec Ideal S2x4x1024x4096 .f32) (r : Fin 8192) (j : Fin 4096) :
    Cert.Reference2Ideal.Read.val_main_v19 (F := Ideal) a y w b (ix2 r j) = mergeAt a y w b (ix2 r j) := by
  unfold mergeAt share gate gateDot branchDot
  pointwise [Cert.Reference2Ideal.Read.val_main_v19, Cert.Reference2Ideal.Read.val_main_v18, Cert.Reference2Ideal.Read.val_main_v17, Cert.Reference2Ideal.Read.val_main_v16, Cert.Reference2Ideal.Read.val_main_v15, Cert.Reference2Ideal.Read.val_main_v14, Cert.Reference2Ideal.Read.val_main_v13, Cert.Reference2Ideal.Read.val_main_v12, Cert.Reference2Ideal.Read.val_main_v11, Cert.Reference2Ideal.Read.val_main_v10, Cert.Reference2Ideal.Read.val_main_v9, Cert.Reference2Ideal.Read.val_main_v8, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_cst, Cert.Reference2Ideal.Read.val_main_cst_0, Cert.Reference2Ideal.Read.val_main_cst_1]
  refine Finset.sum_congr rfl fun g _ => congrArg₂ (fun p q : EReal => p * q) rfl ?_
  exact Finset.sum_congr rfl fun k _ => mul_comm _ _

theorem ref_eq (a : Vec Ideal S8192x4096 .bf16) (y : Vec Ideal S4x8192x1024 .bf16) (w : Vec Ideal S2x4096x30736 .f32)
    (b : Vec Ideal S2x4x1024x4096 .f32) (i : S8192x4096.Idx) :
    Cert.Reference2Ideal.Read.val_main_v19 (F := Ideal) a y w b i = mergeAt a y w b i := by
  rw [← ix2_eta i]
  exact ref_at a y w b (i 0) (i 1)

end Cert.Kernel2Ideal.Own

end
-- ==== Proof.Norms.Rms.lean ====
/-
  What the norms compute on one row: the row over the root of its mean square, times the weights; and a row's gates, the
  products of the normed row with the sixteen gate columns of the weights, laid into 128 lanes.
-/
module

public import Idealize.ShloMosaic.Lib.Pointwise

@[expose] public section

noncomputable section

namespace Norms

open Idealize.ShloMosaic

/-- Entry `j` of a row after the norm with weights `w`; the two constants are 4096 and the norm's epsilon as they are written. -/
def rmsAt (x w : Fin 4096 → EReal) (j : Fin 4096) : EReal :=
  x j * Ideal.rsqrt (Ideal.div (∑ k, x k * x k) (Ideal.ofBits FTy.f32 1166016512#32) + Ideal.ofBits FTy.f32 897988541#32) * w j

/-- The column of the weights behind gate lane `j`. -/
def gcol (j : Fin 128) : Fin 30736 := ⟨5120 + j.val, by omega⟩

/-- Gate lane `j` of a normed row `h`: the first sixteen lanes hold the gates, the others zero. -/
def gateAt (h : Fin 4096 → EReal) (w : Fin 4096 → Fin 30736 → EReal) (j : Fin 128) : EReal :=
  if j.val < 16 then ∑ k, h k * w k (gcol j) else 0

/-- The mask's bit at a lane: set in the first sixteen. -/
theorem lane_bit : ∀ j : Fin 128, IntOp.cmpi .slt (BitVec.ofNat 32 j.val) 16#32 = if j.val < 16 then (1 : BitVec 1) else 0 := by
  decide +kernel

end Norms

end
-- ==== Proof.Norms.Post.lean ====
/-
  The last layer's post norm and residual: 32 blocks of 256 rows.  Every row of the result is the row of `x` plus the normed
  row of the layer's output.
-/
module

public import proofs.«01_k».proof.Proof.Gen.Kernel5Ideal.Value
public import proofs.«01_k».proof.Proof.Gen.Reference5Ideal.Read
public import proofs.«01_k».proof.Proof.Norms.Rms
public import Idealize.ShloMosaic.Lib.Pointwise
public import Idealize.ShloMosaic.Lib.Pipeline.ValueKit.Basic

@[expose] public section

set_option maxRecDepth 16384

noncomputable section

namespace Cert.Kernel5Ideal.Own

open Cert.Kernel5Ideal Cert.Kernel5Ideal.Gen Norms
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- Row `r` of the residual plus the normed row of the layer's output. -/
def postRow (x o : S8192x4096.Idx → EReal) (p : S2x4096.Idx → EReal) (r : Fin 8192) (j : Fin 4096) : EReal :=
  x (ix2 r j) + rmsAt (fun k => o (ix2 r k)) (fun k => p (ix2 1 k)) j

/-- The residual stream's array. -/
def postArr (c : Dev nD) : S8192x4096.Idx → EReal := fun i =>
  postRow (m ((c : Thread nD τ).loc main_arg0)) (m ((c : Thread nD τ).loc main_arg1)) (m ((c : Thread nD τ).loc main_arg2)) (i 0) (i 1)

/-- The norm's weights as the host hands them over: with an axis of one in the middle. -/
theorem V_main_v0 (c : Dev nD) : V m c main_v0 = broadcastInDim S2x1x4096 ![0, 2] bcast_S2x4096_S2x1x4096_0_2 (m ((c : Thread nD τ).loc main_arg2)) := by
  show StableHlo.after hostOps0 _ (Proc.devRef .tc main_v0) = _
  simp only [hostOps0]
  after_results

/-- Row `r` of block `t`. -/
def row (t : Fin cfg0.N) (r : Fin 256) : Fin 8192 := ⟨256 * t.val + r.val, by have : t.val < 32 := t.isLt; omega⟩

theorem index0 : ∀ t : Fin cfg0.N, win0_0.index t (0 : Fin 2) = t.val ∧ win0_0.index t (1 : Fin 2) = 0 :=
  (by decide +kernel : ∀ t : Fin grid0.N, _)

theorem block0 (c : Dev nD) (t : Fin cfg0.N) (r : Fin 256) (k : Fin 4096) :
    (iblk m c 0 t : Vec Ideal S256x4096 .f32) (ix2 r k) = m ((c : Thread nD τ).loc main_arg0) (ix2 (row t r) k) := by
  obtain ⟨e0, e1⟩ := index0 t
  refine Eq.trans ?_ (congrFun (V_main_arg0 m c) (ix2 (row t r) k))
  exact congrArg (V m c main_arg0) (funext fun a => Fin.ext (match a with
    | ⟨0, _⟩ => by show win0_0.index t (0 : Fin 2) * 256 + 1 * r.val = 256 * t.val + r.val; omega
    | ⟨1, _⟩ => by show win0_0.index t (1 : Fin 2) * 4096 + 1 * k.val = k.val; omega))

theorem index1 : ∀ t : Fin cfg0.N, win0_1.index t (0 : Fin 2) = t.val ∧ win0_1.index t (1 : Fin 2) = 0 :=
  (by decide +kernel : ∀ t : Fin grid0.N, _)

theorem block1 (c : Dev nD) (t : Fin cfg0.N) (r : Fin 256) (k : Fin 4096) :
    (iblk m c 1 t : Vec Ideal S256x4096 .f32) (ix2 r k) = m ((c : Thread nD τ).loc main_arg1) (ix2 (row t r) k) := by
  obtain ⟨e0, e1⟩ := index1 t
  refine Eq.trans ?_ (congrFun (V_main_arg1 m c) (ix2 (row t r) k))
  exact congrArg (V m c main_arg1) (funext fun a => Fin.ext (match a with
    | ⟨0, _⟩ => by show win0_1.index t (0 : Fin 2) * 256 + 1 * r.val = 256 * t.val + r.val; omega
    | ⟨1, _⟩ => by show win0_1.index t (1 : Fin 2) * 4096 + 1 * k.val = k.val; omega))

theorem index2 : ∀ t : Fin cfg0.N, win0_2.index t (0 : Fin 3) = 1 ∧ win0_2.index t (1 : Fin 3) = 0 ∧ win0_2.index t (2 : Fin 3) = 0 :=
  (by decide +kernel : ∀ t : Fin grid0.N, _)

theorem block2 (c : Dev nD) (t : Fin cfg0.N) (k : Fin 4096) :
    (iblk m c 2 t : Vec Ideal S1x1x4096 .f32) (ix3 0 0 k) = m ((c : Thread nD τ).loc main_arg2) (ix2 1 k) := by
  obtain ⟨e0, e1, e2⟩ := index2 t
  have e : (V m c main_v0 : S2x1x4096.Idx → EReal) (ix3 1 0 k) = m ((c : Thread nD τ).loc main_arg2) (ix2 1 k) := by
    rw [V_main_v0]; pointwise
  refine Eq.trans ?_ e
  exact congrArg (V m c main_v0) (funext fun a => Fin.ext (match a with
    | ⟨0, _⟩ => by show win0_2.index t (0 : Fin 3) * 1 + 1 * 0 = 1; omega
    | ⟨1, _⟩ => by show win0_2.index t (1 : Fin 3) * 1 + 1 * 0 = 0; omega
    | ⟨2, _⟩ => by show win0_2.index t (2 : Fin 3) * 4096 + 1 * k.val = k.val; omega))

/-- A block of the result, at a row and a column. -/
theorem post_tile (x o : Vec Ideal S256x4096 .f32) (p : Vec Ideal S1x1x4096 .f32) (r : Fin 256) (j : Fin 4096) :
    out0_3 x o p (ix2 r j) = x (ix2 r j) + rmsAt (fun k => o (ix2 r k)) (fun k => p (ix3 0 0 k)) j := by
  unfold out0_3 rmsAt
  rw [View.canon_cons_unit_lit _ _ _ (by decide), View.ld_unit_lit _ _ (by decide), View.ld_unit_lit _ _ (by decide), View.ld_unit_lit _ _ (by decide)]
  pointwise [k0_pay1]

theorem index3 : ∀ t : Fin cfg0.N, win0_3.index t (0 : Fin 2) = t.val ∧ win0_3.index t (1 : Fin 2) = 0 :=
  (by decide +kernel : ∀ t : Fin grid0.N, _)

theorem emb3 (t : Fin cfg0.N) (y : S256x4096.Idx) :
    (((cfg0.win 3).blk t).view.emb y : S8192x4096.Idx) = ix2 (row t (y 0)) (y 1) := by
  obtain ⟨e0, e1⟩ := index3 t
  funext a; apply Fin.ext
  match a with
  | ⟨0, _⟩ => show win0_3.index t (0 : Fin 2) * 256 + 1 * (y 0).val = 256 * t.val + (y 0).val; omega
  | ⟨1, _⟩ => show win0_3.index t (1 : Fin 2) * 4096 + 1 * (y 1).val = (y 1).val; omega

/-- What block `t` holds at a row and a column, of the arguments. -/
theorem post_at (c : Dev nD) (t : Fin cfg0.N) (r : Fin 256) (j : Fin 4096) :
    out0_3 (iblk m c 0 t) (iblk m c 1 t) (iblk m c 2 t) (ix2 r j) = postRow (m ((c : Thread nD τ).loc main_arg0)) (m ((c : Thread nD τ).loc main_arg1)) (m ((c : Thread nD τ).loc main_arg2)) (row t r) j := by
  refine (post_tile _ _ _ r j).trans ?_
  unfold postRow rmsAt
  simp only [block0, block1, block2]

theorem flushed3 (c : Dev nD) (t : Fin cfg0.N) :
    (dats m 0 c).flushed 3 t = ((cfg0.win 3).blk t).view.read (Elt Ideal) (postArr m c) := by
  rw [Value.flushed3]
  funext (y : S256x4096.Idx)
  show out0_3 (iblk m c 0 t) (iblk m c 1 t) (iblk m c 2 t) y = postArr m c (((cfg0.win 3).blk t).view.emb y)
  rw [emb3 t y]
  exact (congrArg (out0_3 (iblk m c 0 t) (iblk m c 1 t) (iblk m c 2 t)) (ix2_eta y).symm).trans (post_at m c t (y 0) (y 1))

theorem mem3 (t : Fin cfg0.N) (i : S8192x4096.Idx) : i ∈ ((cfg0.win 3).blk t).view.set ↔
    ∀ a : Fin 2, win0_3.index t a * S256x4096.size a ≤ (i a).val ∧ (i a).val < win0_3.index t a * S256x4096.size a + S256x4096.size a := by
  show i ∈ ((View.whole main_v1).slice (win0_3.rect t)).set ↔ _
  rw [View.set_slice_whole, Rect.mem_set_unit]
  exact Iff.rfl

theorem cover3 (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  refine ⟨⟨(i 0).val / 256, by show _ < 32; omega⟩, flush0_3 _, (mem3 _ i).2 fun a => ?_⟩
  obtain ⟨e0, e1⟩ := index3 ⟨(i 0).val / 256, by show _ < 32; omega⟩
  match a with
  | ⟨0, _⟩ =>
    rw [show (⟨0, _⟩ : Fin 2) = 0 from rfl, e0]
    show (i 0).val / 256 * 256 ≤ (i 0).val ∧ (i 0).val < (i 0).val / 256 * 256 + 256; omega
  | ⟨1, _⟩ =>
    rw [show (⟨1, _⟩ : Fin 2) = 1 from rfl, e1]
    show 0 * 4096 ≤ (i 1).val ∧ (i 1).val < 0 * 4096 + 4096; omega

theorem final3 (c : Dev nD) : (dats m 0 c).arrAt 3 cfg0.N = postArr m c :=
  (dats m 0 c).arrAt_eq_of_cover 3 _ (fun t _ => flushed3 m c t) cover3

open Cert.Reference5Ideal.Read in
/-- The reference's value, read at a row and a column. -/
theorem post_ref_at (x : Vec Ideal S8192x4096 .f32) (o : Vec Ideal S8192x4096 .f32) (p : Vec Ideal S2x4096 .f32) (r : Fin 8192) (j : Fin 4096) :
    val_main_v15 (F := Ideal) x o p (ix2 r j) = postRow x o p r j := by
  unfold postRow rmsAt
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

open Cert.Reference5Ideal.Read in
theorem post_ref_eq (x : Vec Ideal S8192x4096 .f32) (o : Vec Ideal S8192x4096 .f32) (p : Vec Ideal S2x4096 .f32) (i : S8192x4096.Idx) :
    val_main_v15 (F := Ideal) x o p i = postRow x o p (i 0) (i 1) := by
  conv_lhs => rw [← ix2_eta i]
  exact post_ref_at x o p (i 0) (i 1)

end Cert.Kernel5Ideal.Own

end
-- ==== Proof.Norms.Prenorm.lean ====
/-
  The first layer's pre norm and its gate columns: 32 blocks of 256 rows.  Every row of the first result is the normed row of
  `x`; every row of the second is the normed row against the sixteen gate columns of the weights.
-/
module

public import proofs.«01_k».proof.Proof.Gen.Kernel6Ideal.Value
public import proofs.«01_k».proof.Proof.Gen.Reference6Ideal.Read
public import proofs.«01_k».proof.Proof.Norms.Rms
public import Idealize.ShloMosaic.Lib.Pointwise
public import Idealize.ShloMosaic.Lib.Pipeline.ValueKit.Basic

@[expose] public section

set_option maxRecDepth 16384

noncomputable section

namespace Cert.Kernel6Ideal.Own

open Cert.Kernel6Ideal Cert.Kernel6Ideal.Gen Norms
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- Row `r` of `x`, normed. -/
def hRow (x : S8192x4096.Idx → EReal) (q : S2x4096.Idx → EReal) (r : Fin 8192) (j : Fin 4096) : EReal :=
  rmsAt (fun k => x (ix2 r k)) (fun k => q (ix2 0 k)) j

/-- Row `r` of the gates. -/
def gRow (x : S8192x4096.Idx → EReal) (q : S2x4096.Idx → EReal) (w : S2x4096x30736.Idx → EReal) (r : Fin 8192) (j : Fin 128) : EReal :=
  gateAt (hRow x q r) (fun k a => w (ix3 0 k a)) j

/-- The normed array. -/
def hArr (c : Dev nD) : S8192x4096.Idx → EReal := fun i =>
  hRow (m ((c : Thread nD τ).loc main_arg0)) (m ((c : Thread nD τ).loc main_arg1)) (i 0) (i 1)

/-- The gates' array. -/
def gArr (c : Dev nD) : S8192x128.Idx → EReal := fun i =>
  gRow (m ((c : Thread nD τ).loc main_arg0)) (m ((c : Thread nD τ).loc main_arg1)) (m ((c : Thread nD τ).loc main_arg2)) (i 0) (i 1)

/-- The norm's weights as the host hands them over: with an axis of one in the middle. -/
theorem V_main_v1 (c : Dev nD) : V m c main_v1 = broadcastInDim S2x1x4096 ![0, 2] bcast_S2x4096_S2x1x4096_0_2 (m ((c : Thread nD τ).loc main_arg1)) := by
  show StableHlo.after hostOps0 _ (Proc.devRef .tc main_v1) = _
  simp only [hostOps0]
  after_results

/-- The weights as the host hands them over: transposed. -/
theorem V_main_v0 (c : Dev nD) : V m c main_v0 = transpose S2x30736x4096 [0, 2, 1] (m ((c : Thread nD τ).loc main_arg2)) transposes_S2x4096x30736_S2x30736x4096_0_2_1 := by
  show StableHlo.after hostOps0 _ (Proc.devRef .tc main_v0) = _
  simp only [hostOps0]
  after_results

/-- Row `r` of block `t`. -/
def row (t : Fin cfg0.N) (r : Fin 256) : Fin 8192 := ⟨256 * t.val + r.val, by have : t.val < 32 := t.isLt; omega⟩

theorem index0 : ∀ t : Fin cfg0.N, win0_0.index t (0 : Fin 2) = t.val ∧ win0_0.index t (1 : Fin 2) = 0 :=
  (by decide +kernel : ∀ t : Fin grid0.N, _)

theorem block0 (c : Dev nD) (t : Fin cfg0.N) (r : Fin 256) (k : Fin 4096) :
    (iblk m c 0 t : Vec Ideal S256x4096 .f32) (ix2 r k) = m ((c : Thread nD τ).loc main_arg0) (ix2 (row t r) k) := by
  obtain ⟨e0, e1⟩ := index0 t
  refine Eq.trans ?_ (congrFun (V_main_arg0 m c) (ix2 (row t r) k))
  exact congrArg (V m c main_arg0) (funext fun a => Fin.ext (match a with
    | ⟨0, _⟩ => by show win0_0.index t (0 : Fin 2) * 256 + 1 * r.val = 256 * t.val + r.val; omega
    | ⟨1, _⟩ => by show win0_0.index t (1 : Fin 2) * 4096 + 1 * k.val = k.val; omega))

theorem index1 : ∀ t : Fin cfg0.N, win0_1.index t (0 : Fin 3) = 0 ∧ win0_1.index t (1 : Fin 3) = 0 ∧ win0_1.index t (2 : Fin 3) = 0 :=
  (by decide +kernel : ∀ t : Fin grid0.N, _)

theorem block1 (c : Dev nD) (t : Fin cfg0.N) (k : Fin 4096) :
    (iblk m c 1 t : Vec Ideal S1x1x4096 .f32) (ix3 0 0 k) = m ((c : Thread nD τ).loc main_arg1) (ix2 0 k) := by
  obtain ⟨e0, e1, e2⟩ := index1 t
  have e : (V m c main_v1 : S2x1x4096.Idx → EReal) (ix3 0 0 k) = m ((c : Thread nD τ).loc main_arg1) (ix2 0 k) := by
    rw [V_main_v1]; pointwise
  refine Eq.trans ?_ e
  exact congrArg (V m c main_v1) (funext fun a => Fin.ext (match a with
    | ⟨0, _⟩ => by show win0_1.index t (0 : Fin 3) * 1 + 1 * 0 = 0; omega
    | ⟨1, _⟩ => by show win0_1.index t (1 : Fin 3) * 1 + 1 * 0 = 0; omega
    | ⟨2, _⟩ => by show win0_1.index t (2 : Fin 3) * 4096 + 1 * k.val = k.val; omega))

theorem index2 : ∀ t : Fin cfg0.N, cc0_transform_2 (grid0.coords t) (0 : Fin 3) = 0
    ∧ cc0_transform_2 (grid0.coords t) (1 : Fin 3) = 5120 ∧ cc0_transform_2 (grid0.coords t) (2 : Fin 3) = 0 :=
  (by decide +kernel : ∀ t : Fin grid0.N, _)

theorem block2 (c : Dev nD) (t : Fin cfg0.N) (j : Fin 128) (k : Fin 4096) :
    (iblk m c 2 t : Vec Ideal S1x128x4096 .f32) (ix3 0 j k) = m ((c : Thread nD τ).loc main_arg2) (ix3 0 k (gcol j)) := by
  obtain ⟨e0, e1, e2⟩ := index2 t
  have e : (V m c main_v0 : S2x30736x4096.Idx → EReal) (ix3 0 (gcol j) k) = m ((c : Thread nD τ).loc main_arg2) (ix3 0 k (gcol j)) := by
    rw [V_main_v0]; pointwise
  refine Eq.trans ?_ e
  exact congrArg (V m c main_v0) (funext fun a => Fin.ext (match a with
    | ⟨0, _⟩ => by show cc0_transform_2 (grid0.coords t) (0 : Fin 3) + 1 * 0 = 0; omega
    | ⟨1, _⟩ => by show cc0_transform_2 (grid0.coords t) (1 : Fin 3) + 1 * j.val = 5120 + j.val; omega
    | ⟨2, _⟩ => by show cc0_transform_2 (grid0.coords t) (2 : Fin 3) + 1 * k.val = k.val; omega))

/-- A block of the result, at a row and a column. -/
theorem h_tile (x : Vec Ideal S256x4096 .f32) (q : Vec Ideal S1x1x4096 .f32) (w : Vec Ideal S1x128x4096 .f32) (r : Fin 256) (j : Fin 4096) :
    out0_3 x q w (ix2 r j) = rmsAt (fun k => x (ix2 r k)) (fun k => q (ix3 0 0 k)) j := by
  unfold out0_3 rmsAt
  rw [View.canon_cons_unit_lit _ _ _ (by decide), View.ld_unit_lit _ _ (by decide), View.ld_unit_lit _ _ (by decide)]
  pointwise [k0_pay1]

/-- A block of the gates, at a row and a lane. -/
theorem g_tile (x : Vec Ideal S256x4096 .f32) (q : Vec Ideal S1x1x4096 .f32) (w : Vec Ideal S1x128x4096 .f32) (r : Fin 256) (j : Fin 128) :
    out0_4 x q w (ix2 r j) = if j.val < 16 then ∑ k, (rmsAt (fun k => x (ix2 r k)) (fun k => q (ix3 0 0 k)) k) * w (ix3 0 j k) else 0 := by
  unfold out0_4 rmsAt
  rw [View.canon_cons_unit_lit _ _ _ (by decide), View.ld_unit_lit _ _ (by decide), View.ld_unit_lit _ _ (by decide), View.ld_unit_lit _ _ (by decide)]
  pointwise [k0_pay2, k0_pay1]
  rw [lane_bit]
  by_cases h : j.val < 16
  · rw [if_pos h, if_pos h]; rfl
  · rw [if_neg h, if_neg h]; exact Finset.sum_const_zero

theorem index3 : ∀ t : Fin cfg0.N, win0_3.index t (0 : Fin 2) = t.val ∧ win0_3.index t (1 : Fin 2) = 0 :=
  (by decide +kernel : ∀ t : Fin grid0.N, _)

theorem emb3 (t : Fin cfg0.N) (y : S256x4096.Idx) :
    (((cfg0.win 3).blk t).view.emb y : S8192x4096.Idx) = ix2 (row t (y 0)) (y 1) := by
  obtain ⟨e0, e1⟩ := index3 t
  funext a; apply Fin.ext
  match a with
  | ⟨0, _⟩ => show win0_3.index t (0 : Fin 2) * 256 + 1 * (y 0).val = 256 * t.val + (y 0).val; omega
  | ⟨1, _⟩ => show win0_3.index t (1 : Fin 2) * 4096 + 1 * (y 1).val = (y 1).val; omega

/-- What block `t` holds at a row and a column, of the arguments. -/
theorem h_at (c : Dev nD) (t : Fin cfg0.N) (r : Fin 256) (j : Fin 4096) :
    out0_3 (iblk m c 0 t) (iblk m c 1 t) (iblk m c 2 t) (ix2 r j) = hRow (m ((c : Thread nD τ).loc main_arg0)) (m ((c : Thread nD τ).loc main_arg1)) (row t r) j := by
  refine (h_tile _ _ _ r j).trans ?_
  unfold hRow rmsAt
  simp only [block0, block1]

theorem flushed3 (c : Dev nD) (t : Fin cfg0.N) :
    (dats m 0 c).flushed 3 t = ((cfg0.win 3).blk t).view.read (Elt Ideal) (hArr m c) := by
  rw [Value.flushed3]
  funext (y : S256x4096.Idx)
  show out0_3 (iblk m c 0 t) (iblk m c 1 t) (iblk m c 2 t) y = hArr m c (((cfg0.win 3).blk t).view.emb y)
  rw [emb3 t y]
  exact (congrArg (out0_3 (iblk m c 0 t) (iblk m c 1 t) (iblk m c 2 t)) (ix2_eta y).symm).trans (h_at m c t (y 0) (y 1))

theorem mem3 (t : Fin cfg0.N) (i : S8192x4096.Idx) : i ∈ ((cfg0.win 3).blk t).view.set ↔
    ∀ a : Fin 2, win0_3.index t a * S256x4096.size a ≤ (i a).val ∧ (i a).val < win0_3.index t a * S256x4096.size a + S256x4096.size a := by
  show i ∈ ((View.whole main_v2_0).slice (win0_3.rect t)).set ↔ _
  rw [View.set_slice_whole, Rect.mem_set_unit]
  exact Iff.rfl

theorem cover3 (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  refine ⟨⟨(i 0).val / 256, by show _ < 32; omega⟩, flush0_3 _, (mem3 _ i).2 fun a => ?_⟩
  obtain ⟨e0, e1⟩ := index3 ⟨(i 0).val / 256, by show _ < 32; omega⟩
  match a with
  | ⟨0, _⟩ =>
    rw [show (⟨0, _⟩ : Fin 2) = 0 from rfl, e0]
    show (i 0).val / 256 * 256 ≤ (i 0).val ∧ (i 0).val < (i 0).val / 256 * 256 + 256; omega
  | ⟨1, _⟩ =>
    rw [show (⟨1, _⟩ : Fin 2) = 1 from rfl, e1]
    show 0 * 4096 ≤ (i 1).val ∧ (i 1).val < 0 * 4096 + 4096; omega

theorem final3 (c : Dev nD) : (dats m 0 c).arrAt 3 cfg0.N = hArr m c :=
  (dats m 0 c).arrAt_eq_of_cover 3 _ (fun t _ => flushed3 m c t) cover3

theorem index4 : ∀ t : Fin cfg0.N, win0_4.index t (0 : Fin 2) = t.val ∧ win0_4.index t (1 : Fin 2) = 0 :=
  (by decide +kernel : ∀ t : Fin grid0.N, _)

theorem emb4 (t : Fin cfg0.N) (y : S256x128.Idx) :
    (((cfg0.win 4).blk t).view.emb y : S8192x128.Idx) = ix2 (row t (y 0)) (y 1) := by
  obtain ⟨e0, e1⟩ := index4 t
  funext a; apply Fin.ext
  match a with
  | ⟨0, _⟩ => show win0_4.index t (0 : Fin 2) * 256 + 1 * (y 0).val = 256 * t.val + (y 0).val; omega
  | ⟨1, _⟩ => show win0_4.index t (1 : Fin 2) * 128 + 1 * (y 1).val = (y 1).val; omega

/-- What block `t` holds at a row and a column, of the arguments. -/
theorem g_at (c : Dev nD) (t : Fin cfg0.N) (r : Fin 256) (j : Fin 128) :
    out0_4 (iblk m c 0 t) (iblk m c 1 t) (iblk m c 2 t) (ix2 r j) = gRow (m ((c : Thread nD τ).loc main_arg0)) (m ((c : Thread nD τ).loc main_arg1)) (m ((c : Thread nD τ).loc main_arg2)) (row t r) j := by
  refine (g_tile _ _ _ r j).trans ?_
  unfold gRow gateAt hRow rmsAt
  simp only [block0, block1, block2]

theorem flushed4 (c : Dev nD) (t : Fin cfg0.N) :
    (dats m 0 c).flushed 4 t = ((cfg0.win 4).blk t).view.read (Elt Ideal) (gArr m c) := by
  rw [Value.flushed4]
  funext (y : S256x128.Idx)
  show out0_4 (iblk m c 0 t) (iblk m c 1 t) (iblk m c 2 t) y = gArr m c (((cfg0.win 4).blk t).view.emb y)
  rw [emb4 t y]
  exact (congrArg (out0_4 (iblk m c 0 t) (iblk m c 1 t) (iblk m c 2 t)) (ix2_eta y).symm).trans (g_at m c t (y 0) (y 1))

theorem mem4 (t : Fin cfg0.N) (i : S8192x128.Idx) : i ∈ ((cfg0.win 4).blk t).view.set ↔
    ∀ a : Fin 2, win0_4.index t a * S256x128.size a ≤ (i a).val ∧ (i a).val < win0_4.index t a * S256x128.size a + S256x128.size a := by
  show i ∈ ((View.whole main_v2_1).slice (win0_4.rect t)).set ↔ _
  rw [View.set_slice_whole, Rect.mem_set_unit]
  exact Iff.rfl

theorem cover4 (i : S8192x128.Idx) : ∃ t : Fin cfg0.N, (cfg0.win 4).flush t = true ∧ i ∈ ((cfg0.win 4).blk t).view.set := by
  have h0 : (i 0).val < 8192 := (i 0).isLt
  have h1 : (i 1).val < 128 := (i 1).isLt
  refine ⟨⟨(i 0).val / 256, by show _ < 32; omega⟩, flush0_4 _, (mem4 _ i).2 fun a => ?_⟩
  obtain ⟨e0, e1⟩ := index4 ⟨(i 0).val / 256, by show _ < 32; omega⟩
  match a with
  | ⟨0, _⟩ =>
    rw [show (⟨0, _⟩ : Fin 2) = 0 from rfl, e0]
    show (i 0).val / 256 * 256 ≤ (i 0).val ∧ (i 0).val < (i 0).val / 256 * 256 + 256; omega
  | ⟨1, _⟩ =>
    rw [show (⟨1, _⟩ : Fin 2) = 1 from rfl, e1]
    show 0 * 128 ≤ (i 1).val ∧ (i 1).val < 0 * 128 + 128; omega

theorem final4 (c : Dev nD) : (dats m 0 c).arrAt 4 cfg0.N = gArr m c :=
  (dats m 0 c).arrAt_eq_of_cover 4 _ (fun t _ => flushed4 m c t) cover4

open Cert.Reference6Ideal.Read in
/-- The reference's value, read at a row and a column. -/
theorem h_ref_at (x : Vec Ideal S8192x4096 .f32) (q : Vec Ideal S2x4096 .f32) (r : Fin 8192) (j : Fin 4096) :
    val_main_v15 (F := Ideal) x q (ix2 r j) = hRow x q r j := by
  unfold hRow rmsAt
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0]

open Cert.Reference6Ideal.Read in
theorem h_ref_eq (x : Vec Ideal S8192x4096 .f32) (q : Vec Ideal S2x4096 .f32) (i : S8192x4096.Idx) :
    val_main_v15 (F := Ideal) x q i = hRow x q (i 0) (i 1) := by
  conv_lhs => rw [← ix2_eta i]
  exact h_ref_at x q (i 0) (i 1)

open Cert.Reference6Ideal.Read in
/-- The reference's value, read at a row and a column. -/
theorem g_ref_at (x : Vec Ideal S8192x4096 .f32) (q : Vec Ideal S2x4096 .f32) (w : Vec Ideal S2x4096x30736 .f32) (r : Fin 8192) (j : Fin 128) :
    val_main_v22 (F := Ideal) x q w (ix2 r j) = gRow x q w r j := by
  unfold gRow gateAt hRow rmsAt
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0]
  split
  · rfl
  · show ((Int.cast (BitVec.toInt (0#32)) : ℝ) : EReal) = 0; simp

open Cert.Reference6Ideal.Read in
theorem g_ref_eq (x : Vec Ideal S8192x4096 .f32) (q : Vec Ideal S2x4096 .f32) (w : Vec Ideal S2x4096x30736 .f32) (i : S8192x128.Idx) :
    val_main_v22 (F := Ideal) x q w i = gRow x q w (i 0) (i 1) := by
  conv_lhs => rw [← ix2_eta i]
  exact g_ref_at x q w (i 0) (i 1)

end Cert.Kernel6Ideal.Own

end
-- ==== Proof.Norms.PostNext.lean ====
/-
  The first layer's post norm and residual with the second layer's pre norm and gate columns: 32 blocks of 256 rows.  Every row
  of the three results is a function of the same row of the arguments.
-/
module

public import proofs.«01_k».proof.Proof.Gen.Kernel7Ideal.Value
public import proofs.«01_k».proof.Proof.Gen.Reference7Ideal.Read
public import proofs.«01_k».proof.Proof.Norms.Rms
public import Idealize.ShloMosaic.Lib.Pointwise
public import Idealize.ShloMosaic.Lib.Pipeline.ValueKit.Basic

@[expose] public section

set_option maxRecDepth 16384

noncomputable section

namespace Cert.Kernel7Ideal.Own

open Cert.Kernel7Ideal Cert.Kernel7Ideal.Gen Norms
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- Row `r` of the residual plus the normed row of the layer's output. -/
def postRow (x o : S8192x4096.Idx → EReal) (p : S2x4096.Idx → EReal) (r : Fin 8192) (j : Fin 4096) : EReal :=
  x (ix2 r j) + rmsAt (fun k => o (ix2 r k)) (fun k => p (ix2 0 k)) j

/-- Row `r` after the residual, normed for the next layer. -/
def hRow (x o : S8192x4096.Idx → EReal) (p q : S2x4096.Idx → EReal) (r : Fin 8192) (j : Fin 4096) : EReal :=
  rmsAt (postRow x o p r) (fun k => q (ix2 1 k)) j

/-- Row `r` of the next layer's gates. -/
def gRow (x o : S8192x4096.Idx → EReal) (p q : S2x4096.Idx → EReal) (w : S2x4096x30736.Idx → EReal) (r : Fin 8192) (j : Fin 128) : EReal :=
  gateAt (hRow x o p q r) (fun k a => w (ix3 1 k a)) j

/-- The residual stream's array. -/
def postArr (c : Dev nD) : S8192x4096.Idx → EReal := fun i =>
  postRow (m ((c : Thread nD τ).loc main_arg0)) (m ((c : Thread nD τ).loc main_arg1)) (m ((c : Thread nD τ).loc main_arg2)) (i 0) (i 1)

/-- The normed array. -/
def hArr (c : Dev nD) : S8192x4096.Idx → EReal := fun i =>
  hRow (m ((c : Thread nD τ).loc main_arg0)) (m ((c : Thread nD τ).loc main_arg1)) (m ((c : Thread nD τ).loc main_arg2)) (m ((c : Thread nD τ).loc main_arg3)) (i 0) (i 1)

/-- The gates' array. -/
def gArr (c : Dev nD) : S8192x128.Idx → EReal := fun i =>
  gRow (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

/-- The norm's weights as the host hands them over: with an axis of one in the middle. -/
theorem V_main_v1 (c : Dev nD) : V m c main_v1 = broadcastInDim S2x1x4096 ![0, 2] bcast_S2x4096_S2x1x4096_0_2 (m ((c : Thread nD τ).loc main_arg2)) := by
  show StableHlo.after hostOps0 _ (Proc.devRef .tc main_v1) = _
  simp only [hostOps0]
  after_results

/-- The norm's weights as the host hands them over: with an axis of one in the middle. -/
theorem V_main_v2 (c : Dev nD) : V m c main_v2 = broadcastInDim S2x1x4096 ![0, 2] bcast_S2x4096_S2x1x4096_0_2 (m ((c : Thread nD τ).loc main_arg3)) := by
  show StableHlo.after hostOps0 _ (Proc.devRef .tc main_v2) = _
  simp only [hostOps0]
  after_results

/-- The weights as the host hands them over: transposed. -/
theorem V_main_v0 (c : Dev nD) : V m c main_v0 = transpose S2x30736x4096 [0, 2, 1] (m ((c : Thread nD τ).loc main_arg4)) transposes_S2x4096x30736_S2x30736x4096_0_2_1 := by
  show StableHlo.after hostOps0 _ (Proc.devRef .tc main_v0) = _
  simp only [hostOps0]
  after_results

/-- Row `r` of block `t`. -/
def row (t : Fin cfg0.N) (r : Fin 256) : Fin 8192 := ⟨256 * t.val + r.val, by have : t.val < 32 := t.isLt; omega⟩

theorem index0 : ∀ t : Fin cfg0.N, win0_0.index t (0 : Fin 2) = t.val ∧ win0_0.index t (1 : Fin 2) = 0 :=
  (by decide +kernel : ∀ t : Fin grid0.N, _)

theorem block0 (c : Dev nD) (t : Fin cfg0.N) (r : Fin 256) (k : Fin 4096) :
    (iblk m c 0 t : Vec Ideal S256x4096 .f32) (ix2 r k) = m ((c : Thread nD τ).loc main_arg0) (ix2 (row t r) k) := by
  obtain ⟨e0, e1⟩ := index0 t
  refine Eq.trans ?_ (congrFun (V_main_arg0 m c) (ix2 (row t r) k))
  exact congrArg (V m c main_arg0) (funext fun a => Fin.ext (match a with
    | ⟨0, _⟩ => by show win0_0.index t (0 : Fin 2) * 256 + 1 * r.val = 256 * t.val + r.val; omega
    | ⟨1, _⟩ => by show win0_0.index t (1 : Fin 2) * 4096 + 1 * k.val = k.val; omega))

theorem index1 : ∀ t : Fin cfg0.N, win0_1.index t (0 : Fin 2) = t.val ∧ win0_1.index t (1 : Fin 2) = 0 :=
  (by decide +kernel : ∀ t : Fin grid0.N, _)

theorem block1 (c : Dev nD) (t : Fin cfg0.N) (r : Fin 256) (k : Fin 4096) :
    (iblk m c 1 t : Vec Ideal S256x4096 .f32) (ix2 r k) = m ((c : Thread nD τ).loc main_arg1) (ix2 (row t r) k) := by
  obtain ⟨e0, e1⟩ := index1 t
  refine Eq.trans ?_ (congrFun (V_main_arg1 m c) (ix2 (row t r) k))
  exact congrArg (V m c main_arg1) (funext fun a => Fin.ext (match a with
    | ⟨0, _⟩ => by show win0_1.index t (0 : Fin 2) * 256 + 1 * r.val = 256 * t.val + r.val; omega
    | ⟨1, _⟩ => by show win0_1.index t (1 : Fin 2) * 4096 + 1 * k.val = k.val; omega))

theorem index2 : ∀ t : Fin cfg0.N, win0_2.index t (0 : Fin 3) = 0 ∧ win0_2.index t (1 : Fin 3) = 0 ∧ win0_2.index t (2 : Fin 3) = 0 :=
  (by decide +kernel : ∀ t : Fin grid0.N, _)

theorem block2 (c : Dev nD) (t : Fin cfg0.N) (k : Fin 4096) :
    (iblk m c 2 t : Vec Ideal S1x1x4096 .f32) (ix3 0 0 k) = m ((c : Thread nD τ).loc main_arg2) (ix2 0 k) := by
  obtain ⟨e0, e1, e2⟩ := index2 t
  have e : (V m c main_v1 : S2x1x4096.Idx → EReal) (ix3 0 0 k) = m ((c : Thread nD τ).loc main_arg2) (ix2 0 k) := by
    rw [V_main_v1]; pointwise
  refine Eq.trans ?_ e
  exact congrArg (V m c main_v1) (funext fun a => Fin.ext (match a with
    | ⟨0, _⟩ => by show win0_2.index t (0 : Fin 3) * 1 + 1 * 0 = 0; omega
    | ⟨1, _⟩ => by show win0_2.index t (1 : Fin 3) * 1 + 1 * 0 = 0; omega
    | ⟨2, _⟩ => by show win0_2.index t (2 : Fin 3) * 4096 + 1 * k.val = k.val; omega))

theorem index3 : ∀ t : Fin cfg0.N, win0_3.index t (0 : Fin 3) = 1 ∧ win0_3.index t (1 : Fin 3) = 0 ∧ win0_3.index t (2 : Fin 3) = 0 :=
  (by decide +kernel : ∀ t : Fin grid0.N, _)

theorem block3 (c : Dev nD) (t : Fin cfg0.N) (k : Fin 4096) :
    (iblk m c 3 t : Vec Ideal S1x1x4096 .f32) (ix3 0 0 k) = m ((c : Thread nD τ).loc main_arg3) (ix2 1 k) := by
  obtain ⟨e0, e1, e2⟩ := index3 t
  have e : (V m c main_v2 : S2x1x4096.Idx → EReal) (ix3 1 0 k) = m ((c : Thread nD τ).loc main_arg3) (ix2 1 k) := by
    rw [V_main_v2]; pointwise
  refine Eq.trans ?_ e
  exact congrArg (V m c main_v2) (funext fun a => Fin.ext (match a with
    | ⟨0, _⟩ => by show win0_3.index t (0 : Fin 3) * 1 + 1 * 0 = 1; omega
    | ⟨1, _⟩ => by show win0_3.index t (1 : Fin 3) * 1 + 1 * 0 = 0; omega
    | ⟨2, _⟩ => by show win0_3.index t (2 : Fin 3) * 4096 + 1 * k.val = k.val; omega))

theorem index4 : ∀ t : Fin cfg0.N, cc0_transform_4 (grid0.coords t) (0 : Fin 3) = 1
    ∧ cc0_transform_4 (grid0.coords t) (1 : Fin 3) = 5120 ∧ cc0_transform_4 (grid0.coords t) (2 : Fin 3) = 0 :=
  (by decide +kernel : ∀ t : Fin grid0.N, _)

theorem block4 (c : Dev nD) (t : Fin cfg0.N) (j : Fin 128) (k : Fin 4096) :
    (iblk m c 4 t : Vec Ideal S1x128x4096 .f32) (ix3 0 j k) = m ((c : Thread nD τ).loc main_arg4) (ix3 1 k (gcol j)) := by
  obtain ⟨e0, e1, e2⟩ := index4 t
  have e : (V m c main_v0 : S2x30736x4096.Idx → EReal) (ix3 1 (gcol j) k) = m ((c : Thread nD τ).loc main_arg4) (ix3 1 k (gcol j)) := by
    rw [V_main_v0]; pointwise
  refine Eq.trans ?_ e
  exact congrArg (V m c main_v0) (funext fun a => Fin.ext (match a with
    | ⟨0, _⟩ => by show cc0_transform_4 (grid0.coords t) (0 : Fin 3) + 1 * 0 = 1; omega
    | ⟨1, _⟩ => by show cc0_transform_4 (grid0.coords t) (1 : Fin 3) + 1 * j.val = 5120 + j.val; omega
    | ⟨2, _⟩ => by show cc0_transform_4 (grid0.coords t) (2 : Fin 3) + 1 * k.val = k.val; omega))

/-- A block of the result, at a row and a column. -/
theorem post_tile (x o : Vec Ideal S256x4096 .f32) (p q : Vec Ideal S1x1x4096 .f32) (w : Vec Ideal S1x128x4096 .f32) (r : Fin 256) (j : Fin 4096) :
    out0_5 x o p q w (ix2 r j) = x (ix2 r j) + rmsAt (fun k => o (ix2 r k)) (fun k => p (ix3 0 0 k)) j := by
  unfold out0_5 rmsAt
  rw [View.canon_cons_unit_lit _ _ _ (by decide), View.ld_unit_lit _ _ (by decide), View.ld_unit_lit _ _ (by decide), View.ld_unit_lit _ _ (by decide)]
  pointwise [k0_pay2]

/-- A block of the result, at a row and a column. -/
theorem h_tile (x o : Vec Ideal S256x4096 .f32) (p q : Vec Ideal S1x1x4096 .f32) (w : Vec Ideal S1x128x4096 .f32) (r : Fin 256) (j : Fin 4096) :
    out0_6 x o p q w (ix2 r j) = rmsAt (fun k => x (ix2 r k) + rmsAt (fun k' => o (ix2 r k')) (fun k' => p (ix3 0 0 k')) k) (fun k => q (ix3 0 0 k)) j := by
  unfold out0_6 rmsAt
  rw [View.canon_cons_unit_lit _ _ _ (by decide), View.ld_unit_lit _ _ (by decide), View.ld_unit_lit _ _ (by decide), View.ld_unit_lit _ _ (by decide), View.ld_unit_lit _ _ (by decide)]
  pointwise [k0_pay3, k0_pay2]

/-- A block of the gates, at a row and a lane. -/
theorem g_tile (x o : Vec Ideal S256x4096 .f32) (p q : Vec Ideal S1x1x4096 .f32) (w : Vec Ideal S1x128x4096 .f32) (r : Fin 256) (j : Fin 128) :
    out0_7 x o p q w (ix2 r j) = if j.val < 16 then ∑ k, (rmsAt (fun k => x (ix2 r k) + rmsAt (fun k' => o (ix2 r k')) (fun k' => p (ix3 0 0 k')) k) (fun k => q (ix3 0 0 k)) k) * w (ix3 0 j k) else 0 := by
  unfold out0_7 rmsAt
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]
  pointwise [k0_pay1, k0_pay3, k0_pay2]
  rw [lane_bit]
  by_cases h : j.val < 16
  · rw [if_pos h, if_pos h]; rfl
  · rw [if_neg h, if_neg h]; exact Finset.sum_const_zero

theorem index5 : ∀ t : Fin cfg0.N, win0_5.index t (0 : Fin 2) = t.val ∧ win0_5.index t (1 : Fin 2) = 0 :=
  (by decide +kernel : ∀ t : Fin grid0.N, _)

theorem emb5 (t : Fin cfg0.N) (y : S256x4096.Idx) :
    (((cfg0.win 5).blk t).view.emb y : S8192x4096.Idx) = ix2 (row t (y 0)) (y 1) := by
  obtain ⟨e0, e1⟩ := index5 t
  funext a; apply Fin.ext
  match a with
  | ⟨0, _⟩ => show win0_5.index t (0 : Fin 2) * 256 + 1 * (y 0).val = 256 * t.val + (y 0).val; omega
  | ⟨1, _⟩ => show win0_5.index t (1 : Fin 2) * 4096 + 1 * (y 1).val = (y 1).val; omega

/-- What block `t` holds at a row and a column, of the arguments. -/
theorem post_at (c : Dev nD) (t : Fin cfg0.N) (r : Fin 256) (j : Fin 4096) :
    out0_5 (iblk m c 0 t) (iblk m c 1 t) (iblk m c 2 t) (iblk m c 3 t) (iblk m c 4 t) (ix2 r j) = postRow (m ((c : Thread nD τ).loc main_arg0)) (m ((c : Thread nD τ).loc main_arg1)) (m ((c : Thread nD τ).loc main_arg2)) (row t r) j := by
  refine (post_tile _ _ _ _ _ r j).trans ?_
  unfold postRow rmsAt
  simp only [block0, block1, block2]

theorem flushed5 (c : Dev nD) (t : Fin cfg0.N) :
    (dats m 0 c).flushed 5 t = ((cfg0.win 5).blk t).view.read (Elt Ideal) (postArr m c) := by
  rw [Value.flushed5]
  funext (y : S256x4096.Idx)
  show out0_5 (iblk m c 0 t) (iblk m c 1 t) (iblk m c 2 t) (iblk m c 3 t) (iblk m c 4 t) y = postArr m c (((cfg0.win 5).blk t).view.emb y)
  rw [emb5 t y]
  exact (congrArg (out0_5 (iblk m c 0 t) (iblk m c 1 t) (iblk m c 2 t) (iblk m c 3 t) (iblk m c 4 t)) (ix2_eta y).symm).trans (post_at m c t (y 0) (y 1))

theorem mem5 (t : Fin cfg0.N) (i : S8192x4096.Idx) : i ∈ ((cfg0.win 5).blk t).view.set ↔
    ∀ a : Fin 2, win0_5.index t a * S256x4096.size a ≤ (i a).val ∧ (i a).val < win0_5.index t a * S256x4096.size a + S256x4096.size a := by
  show i ∈ ((View.whole main_v3_0).slice (win0_5.rect t)).set ↔ _
  rw [View.set_slice_whole, Rect.mem_set_unit]
  exact Iff.rfl

theorem cover5 (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  refine ⟨⟨(i 0).val / 256, by show _ < 32; omega⟩, flush0_5 _, (mem5 _ i).2 fun a => ?_⟩
  obtain ⟨e0, e1⟩ := index5 ⟨(i 0).val / 256, by show _ < 32; omega⟩
  match a with
  | ⟨0, _⟩ =>
    rw [show (⟨0, _⟩ : Fin 2) = 0 from rfl, e0]
    show (i 0).val / 256 * 256 ≤ (i 0).val ∧ (i 0).val < (i 0).val / 256 * 256 + 256; omega
  | ⟨1, _⟩ =>
    rw [show (⟨1, _⟩ : Fin 2) = 1 from rfl, e1]
    show 0 * 4096 ≤ (i 1).val ∧ (i 1).val < 0 * 4096 + 4096; omega

theorem final5 (c : Dev nD) : (dats m 0 c).arrAt 5 cfg0.N = postArr m c :=
  (dats m 0 c).arrAt_eq_of_cover 5 _ (fun t _ => flushed5 m c t) cover5

theorem index6 : ∀ t : Fin cfg0.N, win0_6.index t (0 : Fin 2) = t.val ∧ win0_6.index t (1 : Fin 2) = 0 :=
  (by decide +kernel : ∀ t : Fin grid0.N, _)

theorem emb6 (t : Fin cfg0.N) (y : S256x4096.Idx) :
    (((cfg0.win 6).blk t).view.emb y : S8192x4096.Idx) = ix2 (row t (y 0)) (y 1) := by
  obtain ⟨e0, e1⟩ := index6 t
  funext a; apply Fin.ext
  match a with
  | ⟨0, _⟩ => show win0_6.index t (0 : Fin 2) * 256 + 1 * (y 0).val = 256 * t.val + (y 0).val; omega
  | ⟨1, _⟩ => show win0_6.index t (1 : Fin 2) * 4096 + 1 * (y 1).val = (y 1).val; omega

/-- What block `t` holds at a row and a column, of the arguments. -/
theorem h_at (c : Dev nD) (t : Fin cfg0.N) (r : Fin 256) (j : Fin 4096) :
    out0_6 (iblk m c 0 t) (iblk m c 1 t) (iblk m c 2 t) (iblk m c 3 t) (iblk m c 4 t) (ix2 r j) = hRow (m ((c : Thread nD τ).loc main_arg0)) (m ((c : Thread nD τ).loc main_arg1)) (m ((c : Thread nD τ).loc main_arg2)) (m ((c : Thread nD τ).loc main_arg3)) (row t r) j := by
  refine (h_tile _ _ _ _ _ r j).trans ?_
  unfold hRow postRow rmsAt
  simp only [block0, block1, block2, block3]

theorem flushed6 (c : Dev nD) (t : Fin cfg0.N) :
    (dats m 0 c).flushed 6 t = ((cfg0.win 6).blk t).view.read (Elt Ideal) (hArr m c) := by
  rw [Value.flushed6]
  funext (y : S256x4096.Idx)
  show out0_6 (iblk m c 0 t) (iblk m c 1 t) (iblk m c 2 t) (iblk m c 3 t) (iblk m c 4 t) y = hArr m c (((cfg0.win 6).blk t).view.emb y)
  rw [emb6 t y]
  exact (congrArg (out0_6 (iblk m c 0 t) (iblk m c 1 t) (iblk m c 2 t) (iblk m c 3 t) (iblk m c 4 t)) (ix2_eta y).symm).trans (h_at m c t (y 0) (y 1))

theorem mem6 (t : Fin cfg0.N) (i : S8192x4096.Idx) : i ∈ ((cfg0.win 6).blk t).view.set ↔
    ∀ a : Fin 2, win0_6.index t a * S256x4096.size a ≤ (i a).val ∧ (i a).val < win0_6.index t a * S256x4096.size a + S256x4096.size a := by
  show i ∈ ((View.whole main_v3_1).slice (win0_6.rect t)).set ↔ _
  rw [View.set_slice_whole, Rect.mem_set_unit]
  exact Iff.rfl

theorem cover6 (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  refine ⟨⟨(i 0).val / 256, by show _ < 32; omega⟩, flush0_6 _, (mem6 _ i).2 fun a => ?_⟩
  obtain ⟨e0, e1⟩ := index6 ⟨(i 0).val / 256, by show _ < 32; omega⟩
  match a with
  | ⟨0, _⟩ =>
    rw [show (⟨0, _⟩ : Fin 2) = 0 from rfl, e0]
    show (i 0).val / 256 * 256 ≤ (i 0).val ∧ (i 0).val < (i 0).val / 256 * 256 + 256; omega
  | ⟨1, _⟩ =>
    rw [show (⟨1, _⟩ : Fin 2) = 1 from rfl, e1]
    show 0 * 4096 ≤ (i 1).val ∧ (i 1).val < 0 * 4096 + 4096; omega

theorem final6 (c : Dev nD) : (dats m 0 c).arrAt 6 cfg0.N = hArr m c :=
  (dats m 0 c).arrAt_eq_of_cover 6 _ (fun t _ => flushed6 m c t) cover6

theorem index7 : ∀ t : Fin cfg0.N, win0_7.index t (0 : Fin 2) = t.val ∧ win0_7.index t (1 : Fin 2) = 0 :=
  (by decide +kernel : ∀ t : Fin grid0.N, _)

theorem emb7 (t : Fin cfg0.N) (y : S256x128.Idx) :
    (((cfg0.win 7).blk t).view.emb y : S8192x128.Idx) = ix2 (row t (y 0)) (y 1) := by
  obtain ⟨e0, e1⟩ := index7 t
  funext a; apply Fin.ext
  match a with
  | ⟨0, _⟩ => show win0_7.index t (0 : Fin 2) * 256 + 1 * (y 0).val = 256 * t.val + (y 0).val; omega
  | ⟨1, _⟩ => show win0_7.index t (1 : Fin 2) * 128 + 1 * (y 1).val = (y 1).val; omega

/-- What block `t` holds at a row and a column, of the arguments. -/
theorem g_at (c : Dev nD) (t : Fin cfg0.N) (r : Fin 256) (j : Fin 128) :
    out0_7 (iblk m c 0 t) (iblk m c 1 t) (iblk m c 2 t) (iblk m c 3 t) (iblk m c 4 t) (ix2 r j) = gRow (m ((c : Thread nD τ).loc main_arg0)) (m ((c : Thread nD τ).loc main_arg1)) (m ((c : Thread nD τ).loc main_arg2)) (m ((c : Thread nD τ).loc main_arg3)) (m ((c : Thread nD τ).loc main_arg4)) (row t r) j := by
  refine (g_tile _ _ _ _ _ r j).trans ?_
  unfold gRow gateAt hRow postRow rmsAt
  simp only [block0, block1, block2, block3, block4]

theorem flushed7 (c : Dev nD) (t : Fin cfg0.N) :
    (dats m 0 c).flushed 7 t = ((cfg0.win 7).blk t).view.read (Elt Ideal) (gArr m c) := by
  rw [Value.flushed7]
  funext (y : S256x128.Idx)
  show out0_7 (iblk m c 0 t) (iblk m c 1 t) (iblk m c 2 t) (iblk m c 3 t) (iblk m c 4 t) y = gArr m c (((cfg0.win 7).blk t).view.emb y)
  rw [emb7 t y]
  exact (congrArg (out0_7 (iblk m c 0 t) (iblk m c 1 t) (iblk m c 2 t) (iblk m c 3 t) (iblk m c 4 t)) (ix2_eta y).symm).trans (g_at m c t (y 0) (y 1))

theorem mem7 (t : Fin cfg0.N) (i : S8192x128.Idx) : i ∈ ((cfg0.win 7).blk t).view.set ↔
    ∀ a : Fin 2, win0_7.index t a * S256x128.size a ≤ (i a).val ∧ (i a).val < win0_7.index t a * S256x128.size a + S256x128.size a := by
  show i ∈ ((View.whole main_v3_2).slice (win0_7.rect t)).set ↔ _
  rw [View.set_slice_whole, Rect.mem_set_unit]
  exact Iff.rfl

theorem cover7 (i : S8192x128.Idx) : ∃ t : Fin cfg0.N, (cfg0.win 7).flush t = true ∧ i ∈ ((cfg0.win 7).blk t).view.set := by
  have h0 : (i 0).val < 8192 := (i 0).isLt
  have h1 : (i 1).val < 128 := (i 1).isLt
  refine ⟨⟨(i 0).val / 256, by show _ < 32; omega⟩, flush0_7 _, (mem7 _ i).2 fun a => ?_⟩
  obtain ⟨e0, e1⟩ := index7 ⟨(i 0).val / 256, by show _ < 32; omega⟩
  match a with
  | ⟨0, _⟩ =>
    rw [show (⟨0, _⟩ : Fin 2) = 0 from rfl, e0]
    show (i 0).val / 256 * 256 ≤ (i 0).val ∧ (i 0).val < (i 0).val / 256 * 256 + 256; omega
  | ⟨1, _⟩ =>
    rw [show (⟨1, _⟩ : Fin 2) = 1 from rfl, e1]
    show 0 * 128 ≤ (i 1).val ∧ (i 1).val < 0 * 128 + 128; omega

theorem final7 (c : Dev nD) : (dats m 0 c).arrAt 7 cfg0.N = gArr m c :=
  (dats m 0 c).arrAt_eq_of_cover 7 _ (fun t _ => flushed7 m c t) cover7

open Cert.Reference7Ideal.Read in
/-- The reference's value, read at a row and a column. -/
theorem post_ref_at (x : Vec Ideal S8192x4096 .f32) (o : Vec Ideal S8192x4096 .f32) (p : Vec Ideal S2x4096 .f32) (r : Fin 8192) (j : Fin 4096) :
    val_main_v15 (F := Ideal) x o p (ix2 r j) = postRow x o p r j := by
  unfold postRow rmsAt
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_call0_v0]

open Cert.Reference7Ideal.Read in
theorem post_ref_eq (x : Vec Ideal S8192x4096 .f32) (o : Vec Ideal S8192x4096 .f32) (p : Vec Ideal S2x4096 .f32) (i : S8192x4096.Idx) :
    val_main_v15 (F := Ideal) x o p i = postRow x o p (i 0) (i 1) := by
  conv_lhs => rw [← ix2_eta i]
  exact post_ref_at x o p (i 0) (i 1)

open Cert.Reference7Ideal.Read in
/-- The reference's value, read at a row and a column. -/
theorem h_ref_at (x : Vec Ideal S8192x4096 .f32) (o : Vec Ideal S8192x4096 .f32) (p : Vec Ideal S2x4096 .f32) (q : Vec Ideal S2x4096 .f32) (r : Fin 8192) (j : Fin 4096) :
    val_main_v31 (F := Ideal) x o p q (ix2 r j) = hRow x o p q r j := by
  unfold hRow postRow rmsAt
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_call0_v0]

open Cert.Reference7Ideal.Read in
theorem h_ref_eq (x : Vec Ideal S8192x4096 .f32) (o : Vec Ideal S8192x4096 .f32) (p : Vec Ideal S2x4096 .f32) (q : Vec Ideal S2x4096 .f32) (i : S8192x4096.Idx) :
    val_main_v31 (F := Ideal) x o p q i = hRow x o p q (i 0) (i 1) := by
  conv_lhs => rw [← ix2_eta i]
  exact h_ref_at x o p q (i 0) (i 1)

open Cert.Reference7Ideal.Read in
/-- The reference's value, read at a row and a column. -/
theorem g_ref_at (x : Vec Ideal S8192x4096 .f32) (o : Vec Ideal S8192x4096 .f32) (p : Vec Ideal S2x4096 .f32) (q : Vec Ideal S2x4096 .f32) (w : Vec Ideal S2x4096x30736 .f32) (r : Fin 8192) (j : Fin 128) :
    val_main_v38 (F := Ideal) x o p q w (ix2 r j) = gRow x o p q w r j := by
  unfold gRow gateAt hRow postRow rmsAt
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_call0_v0]
  split
  · rfl
  · show ((Int.cast (BitVec.toInt (0#32)) : ℝ) : EReal) = 0; simp

open Cert.Reference7Ideal.Read in
theorem g_ref_eq (x : Vec Ideal S8192x4096 .f32) (o : Vec Ideal S8192x4096 .f32) (p : Vec Ideal S2x4096 .f32) (q : Vec Ideal S2x4096 .f32) (w : Vec Ideal S2x4096x30736 .f32) (i : S8192x128.Idx) :
    val_main_v38 (F := Ideal) x o p q w i = gRow x o p q w (i 0) (i 1) := by
  conv_lhs => rw [← ix2_eta i]
  exact g_ref_at x o p q w (i 0) (i 1)

end Cert.Kernel7Ideal.Own

end
-- ==== Proof.Mixers.Frame.lean ====
/-
  The frame of the kernel: the pipeline of 32 blocks of 256 tokens runs to its end, its arguments unchanged, every
  semaphore counter at zero.  The body's runs (at the first block, which clears the carried state, and at a later one)
  are the generated ones; here are what a block leaves — the output block and the five carried arrays, as a tuple —, the
  sequence of these tuples, the pipeline's proof data, the body's obligation and the launch.  The text is over any
  format of values `F`: the printed program's frame (at `Bits`) is this one too, carried over by the two programs being
  the same term.
-/
module

public import proofs.«01_k».proof.Proof.Gen.KernelIdeal.Frame.RunB
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a block leaves: its output, then the matrix memory with its normaliser, the stabiliser, the tail of the
    convolution's input, the recurrence's last row, and the tail of the gated convolution's input. -/
abbrev Left (F : FTy → Type) [FloatOps F] := Vec F S4x256x1024 .bf16 × Vec F S8x128x256 .f32 × Vec F S1x128 .f32 × Vec F S8x1024 .f32 × Vec F S1x1024 .f32 × Vec F S8x1024 .f32

/-- The body's run at block `t`, the first one (it clears the carried arrays). -/
def runA (c : Dev nD) (t : Fin cfg0.N) (h : cond0_0 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)

/-- The body's run at a later block `t`, the block before having left `s`. -/
def runB (c : Dev nD) (t : Fin cfg0.N) (h : ¬cond0_0 (grid0.coords t)) (s : Left F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) s.2.1 s.2.2.1 s.2.2.2.1 s.2.2.2.2.1 s.2.2.2.2.2

/-- What the first block leaves: every buffer's stored pieces, read back. -/
def leftA (c : Dev nD) (t : Fin cfg0.N) (h : cond0_0 (grid0.coords t)) : Left F :=
  (VO0_27.read (Elt F) (VO0_27.writes (Elt F) VO0_27.junk (runA m c t h).1), VS0_0.read (Elt F) (VS0_0.writes (Elt F) VS0_0.junk (runA m c t h).2.1), VS0_1.read (Elt F) (VS0_1.writes (Elt F) VS0_1.junk (runA m c t h).2.2.1), VS0_2.read (Elt F) (VS0_2.writes (Elt F) VS0_2.junk (runA m c t h).2.2.2.1), VS0_3.read (Elt F) (VS0_3.writes (Elt F) VS0_3.junk (runA m c t h).2.2.2.2.1), VS0_4.read (Elt F) (VS0_4.writes (Elt F) VS0_4.junk (runA m c t h).2.2.2.2.2.1))

/-- What a later block leaves over `s`. -/
def leftB (c : Dev nD) (t : Fin cfg0.N) (h : ¬cond0_0 (grid0.coords t)) (s : Left F) : Left F :=
  (VO0_27.read (Elt F) (VO0_27.writes (Elt F) VO0_27.junk (runB m c t h s).1), VS0_0.read (Elt F) (VS0_0.writes (Elt F) VS0_0.junk (runB m c t h s).2.1), VS0_1.read (Elt F) (VS0_1.writes (Elt F) VS0_1.junk (runB m c t h s).2.2.1), VS0_2.read (Elt F) (VS0_2.writes (Elt F) VS0_2.junk (runB m c t h s).2.2.2.1), VS0_3.read (Elt F) (VS0_3.writes (Elt F) VS0_3.junk (runB m c t h s).2.2.2.2.1), VS0_4.read (Elt F) (VS0_4.writes (Elt F) VS0_4.junk (runB m c t h s).2.2.2.2.2.1))

/-! Every buffer's pieces cover it, at the first block (`A`) and at a later one (`B`). -/

theorem coverA0 (c : Dev nD) (t : Fin cfg0.N) (h) (y : S4x256x1024.Idx) : ∃ pc ∈ (runA m c t h).1, y ∈ pc.1.set :=
  View.cover_of_tiledBy (runA m c t h).1 ![1, 128, 128] (by sl_kernel_rfl) y
theorem coverB0 (c : Dev nD) (t : Fin cfg0.N) (h) (s : Left F) (y : S4x256x1024.Idx) : ∃ pc ∈ (runB m c t h s).1, y ∈ pc.1.set :=
  View.cover_of_tiledBy (runB m c t h s).1 ![1, 128, 128] (by sl_kernel_rfl) y
theorem coverA1 (c : Dev nD) (t : Fin cfg0.N) (h) (y : S8x128x256.Idx) : ∃ pc ∈ (runA m c t h).2.1, y ∈ pc.1.set :=
  View.cover_of_wholeMem (runA m c t h).2.1 (by sl_whole_mem) y
theorem coverB1 (c : Dev nD) (t : Fin cfg0.N) (h) (s : Left F) (y : S8x128x256.Idx) : ∃ pc ∈ (runB m c t h s).2.1, y ∈ pc.1.set :=
  View.cover_of_tiledL (runB m c t h s).2.1 S1x128x256.size (by sl_kernel_rfl) y
theorem coverA2 (c : Dev nD) (t : Fin cfg0.N) (h) (y : S1x128.Idx) : ∃ pc ∈ (runA m c t h).2.2.1, y ∈ pc.1.set :=
  View.cover_of_tiledL (runA m c t h).2.2.1 S1x128.size (by sl_kernel_rfl) y
theorem coverB2 (c : Dev nD) (t : Fin cfg0.N) (h) (s : Left F) (y : S1x128.Idx) : ∃ pc ∈ (runB m c t h s).2.2.1, y ∈ pc.1.set :=
  View.cover_of_tiledL (runB m c t h s).2.2.1 S1x128.size (by sl_kernel_rfl) y
theorem coverA3 (c : Dev nD) (t : Fin cfg0.N) (h) (y : S8x1024.Idx) : ∃ pc ∈ (runA m c t h).2.2.2.1, y ∈ pc.1.set :=
  View.cover_of_wholeMem (runA m c t h).2.2.2.1 (by sl_whole_mem) y
theorem coverB3 (c : Dev nD) (t : Fin cfg0.N) (h) (s : Left F) (y : S8x1024.Idx) : ∃ pc ∈ (runB m c t h s).2.2.2.1, y ∈ pc.1.set :=
  View.cover_of_tiledL (runB m c t h s).2.2.2.1 S8x128.size (by sl_kernel_rfl) y
theorem coverA4 (c : Dev nD) (t : Fin cfg0.N) (h) (y : S1x1024.Idx) : ∃ pc ∈ (runA m c t h).2.2.2.2.1, y ∈ pc.1.set :=
  View.cover_of_wholeMem (runA m c t h).2.2.2.2.1 (by sl_whole_mem) y
theorem coverB4 (c : Dev nD) (t : Fin cfg0.N) (h) (s : Left F) (y : S1x1024.Idx) : ∃ pc ∈ (runB m c t h s).2.2.2.2.1, y ∈ pc.1.set :=
  View.cover_of_tiledL (runB m c t h s).2.2.2.2.1 S1x128.size (by sl_kernel_rfl) y
theorem coverA5 (c : Dev nD) (t : Fin cfg0.N) (h) (y : S8x1024.Idx) : ∃ pc ∈ (runA m c t h).2.2.2.2.2.1, y ∈ pc.1.set :=
  View.cover_of_wholeMem (runA m c t h).2.2.2.2.2.1 (by sl_whole_mem) y
theorem coverB5 (c : Dev nD) (t : Fin cfg0.N) (h) (s : Left F) (y : S8x1024.Idx) : ∃ pc ∈ (runB m c t h s).2.2.2.2.2.1, y ∈ pc.1.set :=
  View.cover_of_tiledL (runB m c t h s).2.2.2.2.2.1 S8x128.size (by sl_kernel_rfl) y

/-- The condition at the first block, -/
theorem atFirst (h : 0 < cfg0.N) : cond0_0 (grid0.coords ⟨0, h⟩) := (hcond0_0 ⟨0, h⟩).mpr (Nat.zero_mod _)

/-- and at a later one. -/
theorem notFirst {n : ℕ} (h : n + 1 < cfg0.N) : ¬cond0_0 (grid0.coords ⟨n + 1, h⟩) := fun hc => by
  have h1 := (hcond0_0 ⟨n + 1, h⟩).mp hc
  have h2 : cfg0.N = 32 := N_0
  dsimp only at h1
  omega

/-- What block `n` leaves. -/
def left (c : Dev nD) : (n : ℕ) → n < cfg0.N → Left F
  | 0, h => leftA m c ⟨0, h⟩ (atFirst h)
  | n + 1, h => leftB m c ⟨n + 1, h⟩ (notFirst h) (left c n (Nat.lt_of_succ_lt h))

/-- The carried arrays at `s`, and the generator at some state. -/
def Carried (c : Dev nD) (s : Left F) : sProp 𝕄 :=
  iprop(iprop(owns (c : Thread nD τ) scM0_0 fullShare s.2.1 ∗ owns (c : Thread nD τ) scM0_1 fullShare s.2.2.1 ∗ owns (c : Thread nD τ) scM0_2 fullShare s.2.2.2.1 ∗ owns (c : Thread nD τ) scM0_3 fullShare s.2.2.2.2.1 ∗ owns (c : Thread nD τ) scM0_4 fullShare s.2.2.2.2.2) ∗ (∃ r, prngReg c r))

/-- The invariant before block `n`: the carried arrays at anything, then at what the block before left. -/
def Inv (c : Dev nD) : (n : ℕ) → n ≤ cfg0.N → sProp 𝕄
  | 0, _ => Pipeline.ΦA spec0 c
  | n + 1, h => Carried c (left m c n h)

/-- The pipeline's proof data: a block leaves its inputs as they were and its output at `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => (left m c t.val t.isLt).1
    | ⟨_ + 28, h⟩ => absurd h (Nat.not_lt.2 (Nat.le_add_left _ _))
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = Inv m c t.val (Nat.le_of_lt t.isLt) := by
  dsimp only [dats]; exact Pipeline.Dat.Φ_castSucc (Inv m c) t

theorem after_out (c : Dev nD) (t : Fin cfg0.N) : (dats m 0 c).after 27 t = (left m c t.val t.isLt).1 := by
  dsimp only [dats]

/-- What the body is called with at block `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 25600000 in
/-- The body at any block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have a0 : ∀ t, (dats m 0 c).after 0 t = iblk m c 0 t := fun t => by dsimp only [dats]
  have a1 : ∀ t, (dats m 0 c).after 1 t = iblk m c 1 t := fun t => by dsimp only [dats]
  have a2 : ∀ t, (dats m 0 c).after 2 t = iblk m c 2 t := fun t => by dsimp only [dats]
  have a3 : ∀ t, (dats m 0 c).after 3 t = iblk m c 3 t := fun t => by dsimp only [dats]
  have a4 : ∀ t, (dats m 0 c).after 4 t = iblk m c 4 t := fun t => by dsimp only [dats]
  have a5 : ∀ t, (dats m 0 c).after 5 t = iblk m c 5 t := fun t => by dsimp only [dats]
  have a6 : ∀ t, (dats m 0 c).after 6 t = iblk m c 6 t := fun t => by dsimp only [dats]
  have a7 : ∀ t, (dats m 0 c).after 7 t = iblk m c 7 t := fun t => by dsimp only [dats]
  have a8 : ∀ t, (dats m 0 c).after 8 t = iblk m c 8 t := fun t => by dsimp only [dats]
  have a9 : ∀ t, (dats m 0 c).after 9 t = iblk m c 9 t := fun t => by dsimp only [dats]
  have a10 : ∀ t, (dats m 0 c).after 10 t = iblk m c 10 t := fun t => by dsimp only [dats]
  have a11 : ∀ t, (dats m 0 c).after 11 t = iblk m c 11 t := fun t => by dsimp only [dats]
  have a12 : ∀ t, (dats m 0 c).after 12 t = iblk m c 12 t := fun t => by dsimp only [dats]
  have a13 : ∀ t, (dats m 0 c).after 13 t = iblk m c 13 t := fun t => by dsimp only [dats]
  have a14 : ∀ t, (dats m 0 c).after 14 t = iblk m c 14 t := fun t => by dsimp only [dats]
  have a15 : ∀ t, (dats m 0 c).after 15 t = iblk m c 15 t := fun t => by dsimp only [dats]
  have a16 : ∀ t, (dats m 0 c).after 16 t = iblk m c 16 t := fun t => by dsimp only [dats]
  have a17 : ∀ t, (dats m 0 c).after 17 t = iblk m c 17 t := fun t => by dsimp only [dats]
  have a18 : ∀ t, (dats m 0 c).after 18 t = iblk m c 18 t := fun t => by dsimp only [dats]
  have a19 : ∀ t, (dats m 0 c).after 19 t = iblk m c 19 t := fun t => by dsimp only [dats]
  have a20 : ∀ t, (dats m 0 c).after 20 t = iblk m c 20 t := fun t => by dsimp only [dats]
  have a21 : ∀ t, (dats m 0 c).after 21 t = iblk m c 21 t := fun t => by dsimp only [dats]
  have a22 : ∀ t, (dats m 0 c).after 22 t = iblk m c 22 t := fun t => by dsimp only [dats]
  have a23 : ∀ t, (dats m 0 c).after 23 t = iblk m c 23 t := fun t => by dsimp only [dats]
  have a24 : ∀ t, (dats m 0 c).after 24 t = iblk m c 24 t := fun t => by dsimp only [dats]
  have a25 : ∀ t, (dats m 0 c).after 25 t = iblk m c 25 t := fun t => by dsimp only [dats]
  have a26 : ∀ t, (dats m 0 c).after 26 t = iblk m c 26 t := fun t => by dsimp only [dats]
  have b0 : ∀ d, (dats m 0 c).before 0 t d = iblk m c 0 t := before0_0_of m (dats m 0 c) (A_eq m c 0) a0 t
  have b1 : ∀ d, (dats m 0 c).before 1 t d = iblk m c 1 t := before0_1_of m (dats m 0 c) (A_eq m c 1) a1 t
  have b2 : ∀ d, (dats m 0 c).before 2 t d = iblk m c 2 t := before0_2_of m (dats m 0 c) (A_eq m c 2) a2 t
  have b3 : ∀ d, (dats m 0 c).before 3 t d = iblk m c 3 t := before0_3_of m (dats m 0 c) (A_eq m c 3) a3 t
  have b4 : ∀ d, (dats m 0 c).before 4 t d = iblk m c 4 t := before0_4_of m (dats m 0 c) (A_eq m c 4) a4 t
  have b5 : ∀ d, (dats m 0 c).before 5 t d = iblk m c 5 t := before0_5_of m (dats m 0 c) (A_eq m c 5) a5 t
  have b6 : ∀ d, (dats m 0 c).before 6 t d = iblk m c 6 t := before0_6_of m (dats m 0 c) (A_eq m c 6) a6 t
  have b7 : ∀ d, (dats m 0 c).before 7 t d = iblk m c 7 t := before0_7_of m (dats m 0 c) (A_eq m c 7) a7 t
  have b8 : ∀ d, (dats m 0 c).before 8 t d = iblk m c 8 t := before0_8_of m (dats m 0 c) (A_eq m c 8) a8 t
  have b9 : ∀ d, (dats m 0 c).before 9 t d = iblk m c 9 t := before0_9_of m (dats m 0 c) (A_eq m c 9) a9 t
  have b10 : ∀ d, (dats m 0 c).before 10 t d = iblk m c 10 t := before0_10_of m (dats m 0 c) (A_eq m c 10) a10 t
  have b11 : ∀ d, (dats m 0 c).before 11 t d = iblk m c 11 t := before0_11_of m (dats m 0 c) (A_eq m c 11) a11 t
  have b12 : ∀ d, (dats m 0 c).before 12 t d = iblk m c 12 t := before0_12_of m (dats m 0 c) (A_eq m c 12) a12 t
  have b13 : ∀ d, (dats m 0 c).before 13 t d = iblk m c 13 t := before0_13_of m (dats m 0 c) (A_eq m c 13) a13 t
  have b14 : ∀ d, (dats m 0 c).before 14 t d = iblk m c 14 t := before0_14_of m (dats m 0 c) (A_eq m c 14) a14 t
  have b15 : ∀ d, (dats m 0 c).before 15 t d = iblk m c 15 t := before0_15_of m (dats m 0 c) (A_eq m c 15) a15 t
  have b16 : ∀ d, (dats m 0 c).before 16 t d = iblk m c 16 t := before0_16_of m (dats m 0 c) (A_eq m c 16) a16 t
  have b17 : ∀ d, (dats m 0 c).before 17 t d = iblk m c 17 t := before0_17_of m (dats m 0 c) (A_eq m c 17) a17 t
  have b18 : ∀ d, (dats m 0 c).before 18 t d = iblk m c 18 t := before0_18_of m (dats m 0 c) (A_eq m c 18) a18 t
  have b19 : ∀ d, (dats m 0 c).before 19 t d = iblk m c 19 t := before0_19_of m (dats m 0 c) (A_eq m c 19) a19 t
  have b20 : ∀ d, (dats m 0 c).before 20 t d = iblk m c 20 t := before0_20_of m (dats m 0 c) (A_eq m c 20) a20 t
  have b21 : ∀ d, (dats m 0 c).before 21 t d = iblk m c 21 t := before0_21_of m (dats m 0 c) (A_eq m c 21) a21 t
  have b22 : ∀ d, (dats m 0 c).before 22 t d = iblk m c 22 t := before0_22_of m (dats m 0 c) (A_eq m c 22) a22 t
  have b23 : ∀ d, (dats m 0 c).before 23 t d = iblk m c 23 t := before0_23_of m (dats m 0 c) (A_eq m c 23) a23 t
  have b24 : ∀ d, (dats m 0 c).before 24 t d = iblk m c 24 t := before0_24_of m (dats m 0 c) (A_eq m c 24) a24 t
  have b25 : ∀ d, (dats m 0 c).before 25 t d = iblk m c 25 t := before0_25_of m (dats m 0 c) (A_eq m c 25) a25 t
  have b26 : ∀ d, (dats m 0 c).before 26 t d = iblk m c 26 t := before0_26_of m (dats m 0 c) (A_eq m c 26) a26 t
  simp only [b0, b1, b2, b3, b4, b5, b6, b7, b8, b9, b10, b11, b12, b13, b14, b15, b16, b17, b18, b19, b20, b21, b22, b23, b24, b25, b26]
  rw [show (dats m 0 c).owesAt () t.succ = (dats m 0 c).owesAt () t.castSucc from rfl, a0, a1, a2, a3, a4, a5, a6, a7, a8, a9, a10, a11, a12, a13, a14, a15, a16, a17, a18, a19, a20, a21, a22, a23, a24, a25, a26, after_out]
  clear a0 b0 a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 a22 b22 a23 b23 a24 b24 a25 b25 a26 b26
  rw [show (dats m 0 c).Φ t.succ = Carried c (left m c t.val t.isLt) from rfl, inv_castSucc m c t]
  obtain ⟨n, hn⟩ := t
  cases n with
  | zero =>
    rw [show Inv m c (Fin.mk 0 hn : Fin cfg0.N).val (Nat.le_of_lt hn) = Pipeline.ΦA spec0 c from rfl, PhiA0_eq,
      show left m c (Fin.mk 0 hn : Fin cfg0.N).val hn = leftA m c ⟨0, hn⟩ (atFirst hn) from rfl]
    unfold Carried leftA; (try dsimp only)
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((runA m c ⟨0, hn⟩ (atFirst hn)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexists _; iexact H27
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, H16, H17, H18, H19, H20, H21, H22, H23, H24, H25, H26, ⟨%e27, H27⟩, ⟨%es0, HS0⟩, ⟨%es1, HS1⟩, ⟨%es2, HS2⟩, ⟨%es3, HS3⟩, ⟨%es4, HS4⟩⟩
    isplitl [HS0 HS1 HS2 HS3 HS4 Hg]
    · isplitl [HS0 HS1 HS2 HS3 HS4]
      · skip
        isplitl [HS0]
        · unfold owns; iexists _; isplitr
          swap; · iexact HS0
          ipureintro; exact View.read_writes_of_cover _ _ _ _ _ (coverA1 m c _ _)
        isplitl [HS1]
        · unfold owns; iexists _; isplitr
          swap; · iexact HS1
          ipureintro; exact View.read_writes_of_cover _ _ _ _ _ (coverA2 m c _ _)
        isplitl [HS2]
        · unfold owns; iexists _; isplitr
          swap; · iexact HS2
          ipureintro; exact View.read_writes_of_cover _ _ _ _ _ (coverA3 m c _ _)
        isplitl [HS3]
        · unfold owns; iexists _; isplitr
          swap; · iexact HS3
          ipureintro; exact View.read_writes_of_cover _ _ _ _ _ (coverA4 m c _ _)
        unfold owns; iexists _; isplitr
        swap; · iexact HS4
        ipureintro; exact View.read_writes_of_cover _ _ _ _ _ (coverA5 m c _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    unfold owns; iexists _; isplitr
    swap; · iexact H27
    ipureintro; exact View.read_writes_of_cover _ _ _ _ _ (coverA0 m c _ _)
  | succ n =>
    rw [show Inv m c (Fin.mk (n + 1) hn : Fin cfg0.N).val (Nat.le_of_lt hn) = Carried c (left m c n (Nat.lt_of_succ_lt hn)) from rfl,
      show left m c (Fin.mk (n + 1) hn : Fin cfg0.N).val hn = leftB m c ⟨n + 1, hn⟩ (notFirst hn) (left m c n (Nat.lt_of_succ_lt hn)) from rfl]
    unfold Carried leftB; (try dsimp only)
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((runB m c ⟨n + 1, hn⟩ (notFirst hn) (left m c n (Nat.lt_of_succ_lt hn))).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexists _; iexact H27
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, H14, H15, H16, H17, H18, H19, H20, H21, H22, H23, H24, H25, H26, ⟨%e27, H27⟩, ⟨%es0, HS0⟩, ⟨%es1, HS1⟩, ⟨%es2, HS2⟩, ⟨%es3, HS3⟩, ⟨%es4, HS4⟩⟩
    isplitl [HS0 HS1 HS2 HS3 HS4 Hg]
    · isplitl [HS0 HS1 HS2 HS3 HS4]
      · skip
        isplitl [HS0]
        · unfold owns; iexists _; isplitr
          swap; · iexact HS0
          ipureintro; exact View.read_writes_of_cover _ _ _ _ _ (coverB1 m c _ _ _)
        isplitl [HS1]
        · unfold owns; iexists _; isplitr
          swap; · iexact HS1
          ipureintro; exact View.read_writes_of_cover _ _ _ _ _ (coverB2 m c _ _ _)
        isplitl [HS2]
        · unfold owns; iexists _; isplitr
          swap; · iexact HS2
          ipureintro; exact View.read_writes_of_cover _ _ _ _ _ (coverB3 m c _ _ _)
        isplitl [HS3]
        · unfold owns; iexists _; isplitr
          swap; · iexact HS3
          ipureintro; exact View.read_writes_of_cover _ _ _ _ _ (coverB4 m c _ _ _)
        unfold owns; iexists _; isplitr
        swap; · iexact HS4
        ipureintro; exact View.read_writes_of_cover _ _ _ _ _ (coverB5 m c _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    unfold owns; iexists _; isplitr
    swap; · iexact H27
    ipureintro; exact View.read_writes_of_cover _ _ _ _ _ (coverB0 m c _ _ _)

/-- The body table's row at the slots of block `t` is the body at that block. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's obligation of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ (dats m 0 c).Φ 0 := by
  rw [show (dats m 0 c).Φ 0 = Pipeline.ΦA spec0 c from rfl]

/-- After the last block the carried arrays' contents are forgotten. -/
theorem inv_out (c : Dev nD) : (dats m 0 c).Φ (Fin.last cfg0.N) ⊢ Pipeline.ΦA spec0 c := by
  rw [show (dats m 0 c).Φ (Fin.last cfg0.N) = Carried c (left m c 31 (by rw [show cfg0.N = 32 from N_0]; omega)) from rfl, PhiA0_eq]
  unfold Carried
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
/-- The launch: the arrays end at what the proof data says, the counters at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_quiet m ρ))

end Cert.KernelIdeal.Own

end
-- ==== Proof.Mixers.Pieces.lean ====
/-
  What a block stores, branch by branch: the output block's stored pieces lie each in one branch (the output's first
  axis), so that what the block leaves in branch `b` is settled by that branch's pieces alone.  Also the loads of a block
  that is held whole.
-/
module

public import proofs.«01_k».proof.Proof.Mixers.Frame
public import Idealize.ShloMosaic.Lib.Pointwise
public import Idealize.ShloMosaic.Lib.WholeRead
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe

/-- `silu`, as the kernel computes it. -/
def siluK (z : EReal) : EReal := z * Ideal.div 1 (1 + Ideal.exp (0 - z))

/-! ### Pieces of one branch -/

/-- The last store over an index decides: all of the later pieces `L` holding `G` at the indices of `P`, so does what the
    pieces leave at such an index that `L` covers. -/
theorem canon_on {S : Shape} {e : EltTy} (P : S.Idx → Prop) (G : S.Idx → Elt Ideal e) (L' : List (View.Piece (Elt Ideal) S e)) :
    ∀ (L : List (View.Piece (Elt Ideal) S e)) (_ : ∀ p ∈ L, ∀ x : p.1.shape.Idx, P (p.1.emb x) → p.2 x = G (p.1.emb x)) (y : S.Idx)
      (_ : P y) (_ : ∃ p ∈ L, y ∈ p.1.set), View.canon (L ++ L') y = G y
  | [], _, _, _, hy => by obtain ⟨p, hp, _⟩ := hy; exact absurd hp List.not_mem_nil
  | p :: L, hL, y, hb, hy => by
    by_cases hm : y ∈ p.1.set
    · obtain ⟨x, rfl⟩ := p.1.exists_idx_of_mem hm
      refine (View.canon_cons_emb p.1 p.2 (L ++ L') x).trans (hL p List.mem_cons_self x hb)
    · rw [List.cons_append, View.canon_cons_of_not_mem _ _ hm]
      refine canon_on P G L' L (fun q hq => hL q (List.mem_cons_of_mem _ hq)) y hb ?_
      obtain ⟨q, hq, hyq⟩ := hy
      rcases List.mem_cons.mp hq with rfl | hq'
      · exact absurd hyq hm
      · exact ⟨q, hq', hyq⟩

/-- A stored piece holds `G` wherever it lies in branch `b`. -/
def Ok (b : ℕ) (G : S4x256x1024.Idx → EReal) (p : View.Piece (Elt Ideal) S4x256x1024 .bf16) : Prop :=
  ∀ x : p.1.shape.Idx, (p.1.emb x 0).val = b → p.2 x = G (p.1.emb x)

/-- What pieces that cover leave in branch `b`. -/
theorem canon_ok {b : ℕ} {G : S4x256x1024.Idx → EReal} {L : List (View.Piece (Elt Ideal) S4x256x1024 .bf16)} (hL : ∀ p ∈ L, Ok b G p)
    (hc : ∀ y, ∃ p ∈ L, y ∈ p.1.set) (y : S4x256x1024.Idx) (hy : (y 0).val = b) : View.canon L y = G y := by
  have e := canon_on (S := S4x256x1024) (e := .bf16) (fun y => (y 0).val = b) G [] L (fun p hp => hL p hp) y hy (hc y)
  rwa [List.append_nil] at e

/-- A piece of another branch says nothing. -/
theorem ok_off (b : ℕ) (G : S4x256x1024.Idx → EReal) {off sz : Fin S4x256x1024.rank → ℕ} (h) (w)
    (hs : sz 0 = 1) (ho : off 0 ≠ b) : Ok b G ⟨Rect.unit off sz h, w⟩ := by
  intro x hx
  have e : ((Rect.unit (s := S4x256x1024) off sz h).emb x 0).val = off 0 + 1 * (x 0).val := rfl
  have h0 : (x 0).val < sz 0 := (x 0).isLt
  have hx' := e.symm.trans hx
  omega

/-- A piece at `(b, o1, o2)`, from its value at each row and column. -/
theorem ok_at {b n1 n2 o1 o2 : ℕ} (G : S4x256x1024.Idx → EReal) (hb : b < 4)
    (h : ∀ a, (![b, o1, o2] : Fin S4x256x1024.rank → ℕ) a + (![1, n1, n2] : Fin 3 → ℕ) a ≤ S4x256x1024.size a)
    (w : (⟨3, ![1, n1, n2]⟩ : Shape).Idx → EReal)
    (hw : ∀ (r : Fin n1) (l : Fin n2) (h1 : o1 + r.val < 256) (h2 : o2 + l.val < 1024),
      w (ix3 0 r l) = G (ix3 ⟨b, hb⟩ ⟨o1 + r.val, h1⟩ ⟨o2 + l.val, h2⟩)) :
    Ok b G ⟨Rect.unit ![b, o1, o2] ![1, n1, n2] h, w⟩ := by
  intro (x : (⟨3, ![1, n1, n2]⟩ : Shape).Idx) _
  have b1 : o1 + n1 ≤ 256 := h 1
  have b2 : o2 + n2 ≤ 1024 := h 2
  have hx1 : (x 1).val < n1 := (x 1).isLt
  have hx2 : (x 2).val < n2 := (x 2).isLt
  have hx0 : (x 0).val < 1 := (x 0).isLt
  have e : x = ix3 (n0 := 1) (n1 := n1) (n2 := n2) 0 (x 1) (x 2) := by
    rw [← ix3_eta x]; congr 1; exact Fin.ext (by show (x 0).val = 0; omega)
  refine (congrArg w e).trans ((hw (x 1) (x 2) (by omega) (by omega)).trans (congrArg G ?_))
  funext a
  refine Fin.ext ?_
  fin_cases a
  · show b = b + 1 * (x 0).val; omega
  · show o1 + (x 1).val = o1 + 1 * (x 1).val; omega
  · show o2 + (x 2).val = o2 + 1 * (x 2).val; omega

/-! ### Loads -/

section Tile
variable {F : FTy → Type} [FloatOps F]

theorem inb_gmA (g : Fin 8) : ∀ a, (![0, 128 * g.val] : Fin S256x1024.rank → ℕ) a + S256x128.size a ≤ S256x1024.size a := by
  intro a; have := g.isLt; fin_cases a <;> simp <;> omega
theorem inb_gmC (g : Fin 8) : ∀ a, (![0, 0, 128 * g.val] : Fin S1x1x1024.rank → ℕ) a + S1x1x128.size a ≤ S1x1x1024.size a := by
  intro a; have := g.isLt; fin_cases a <;> simp <;> omega

/-- The columns of group `g` of a block. -/
abbrev colsR (g : Fin 8) : Rect S256x1024 := Rect.unit ![0, 128 * g.val] S256x128.size (inb_gmA g)
abbrev rowR (g : Fin 8) : Rect S1x1x1024 := Rect.unit ![0, 0, 128 * g.val] S1x1x128.size (inb_gmC g)
abbrev allR : Rect S256x1024 := Rect.unit ![0, 0] S256x1024.size inb_S256x1024_S256x1024_0_0

/-- A load of a block held whole. -/
abbrev ld {s : Shape} {e : EltTy} {M : Memref sig .tc .vmem s e} (h : M.IsWhole) (X : Vec F s e) (R : Rect s) : R.shape.Idx → Elt F e :=
  View.readAt (Elt F) M.view R.toLoadRect (h.unread X)

end Tile

/-- A block of input `k`, by row and column. -/
abbrev rc (X : Vec Ideal S256x1024 .f32) (r : Fin 256) (j : Fin 1024) : EReal := X (ix2 r j)

theorem ld_all {s : Shape} {e : EltTy} {M : Memref sig .tc .vmem s e} (h : M.IsWhole) (X : Vec Ideal s e) (R : Rect s) (x : R.shape.Idx) :
    ld (F := Ideal) h X R x = X (R.toLoadRect.idx x) := Memref.IsWhole.readAt_unread h X _ x

theorem ld_allR {M : Memref sig .tc .vmem S256x1024 .f32} (h : M.IsWhole) (X : Vec Ideal S256x1024 .f32) : ld (F := Ideal) h X allR = X := by
  funext x; rw [ld_all]; refine congrArg X (funext fun a => Fin.ext ?_); fin_cases a <;> (show 0 + 1 * _ = _) <;> rw [Nat.zero_add, Nat.one_mul] <;> rfl

end Cert.KernelIdeal.Own
-- ==== Proof.Mixers.Spec.lean ====
/-
  The gated MLP and the gated short convolution on plain arrays of extended reals, at a row and a column: what the
  kernel and the reference are both shown to compute.
-/
module

public import Idealize.ShloMosaic.Lib.Pointwise

@[expose] public section

noncomputable section

namespace Cert.Spec

open Idealize.ShloMosaic

/-- `z` times its logistic function. -/
def silu (z : EReal) : EReal := z * Ideal.div 1 (1 + Ideal.exp (-z))

/-- The mean of a row. -/
def mean (v : Fin 1024 → EReal) : EReal := Ideal.div (∑ k : Fin 1024, v k) (Ideal.ofBits .f32 0x44800000#32)

/-- The reciprocal root of a row's variance (with 1e-6 added). -/
def rstd (v : Fin 1024 → EReal) : EReal :=
  Ideal.rsqrt (Ideal.div (∑ k : Fin 1024, (v k - mean v) * (v k - mean v)) (Ideal.ofBits .f32 0x44800000#32)
    + Ideal.ofBits .f32 0x358637BD#32)

/-- Column `j` of the normalized row. -/
def normed (v lw lb : Fin 1024 → EReal) (j : Fin 1024) : EReal := (v j - mean v) * rstd v * lw j + lb j

/-- Row `s` of the chunk of 128 rows that row `r` lies in. -/
def mate (r : Fin 8192) (s : Fin 128) : Fin 8192 := ⟨128 * (r.val / 128) + s.val, by omega⟩

/-- The place of a row in its chunk, and the group and place of a column. -/
def inChunk (r : Fin 8192) : Fin 128 := ⟨r.val % 128, by omega⟩
def group (j : Fin 1024) : Fin 8 := ⟨j.val / 128, by omega⟩

/-- The gated MLP: the normalized rows of a chunk, mixed by the group's lower-triangular weights. -/
def gmlp (u v z : Fin 8192 → Fin 1024 → EReal) (lw lb : Fin 1024 → EReal) (ws : Fin 8 → Fin 128 → Fin 128 → EReal)
    (bs : Fin 8 → Fin 128 → EReal) (r : Fin 8192) (j : Fin 1024) : EReal :=
  u r j * ((∑ s : Fin 128, normed (v (mate r s)) lw lb j * (if s ≤ inChunk r then ws (group j) (inChunk r) s else 0))
      + bs (group j) (inChunk r)) * silu (z r j)

/-- `k` rows before row `r`; zero before the first row. -/
def before (k : ℕ) (p : Fin 8192 → Fin 1024 → EReal) (r : Fin 8192) (j : Fin 1024) : EReal :=
  if h : k ≤ r.val then p ⟨r.val - k, by omega⟩ j else 0

/-- The gated causal convolution of three taps. -/
def sconv (b p z : Fin 8192 → Fin 1024 → EReal) (w : Fin 3 → Fin 1024 → EReal) (r : Fin 8192) (j : Fin 1024) : EReal :=
  b r j * (before 2 p r j * w 0 j + before 1 p r j * w 1 j + p r j * w 2 j) * silu (z r j)

/-- A select on `column ≤ row`, both below 128. -/
theorem select_le {α : Type} (r s : Fin 128) (a b : α) :
    Scalar.select (IntOp.cmpi .sge (BitVec.ofNat 32 r.val) (BitVec.ofNat 32 s.val)) a b = if s ≤ r then a else b := by
  have hr : (BitVec.ofNat 32 r.val).toInt = r.val := by
    have h := r.isLt
    have e : (BitVec.ofNat 32 r.val).toNat = r.val := by rw [BitVec.toNat_ofNat]; omega
    rw [BitVec.toInt_eq_toNat_of_lt (by omega), e]
  have hs : (BitVec.ofNat 32 s.val).toInt = s.val := by
    have h := s.isLt
    have e : (BitVec.ofNat 32 s.val).toNat = s.val := by rw [BitVec.toNat_ofNat]; omega
    rw [BitVec.toInt_eq_toNat_of_lt (by omega), e]
  have e : IntOp.cmpi .sge (BitVec.ofNat 32 r.val) (BitVec.ofNat 32 s.val) = BitVec.ofBool (decide (s ≤ r)) := by
    show BitVec.ofBool _ = _
    refine congrArg BitVec.ofBool ?_
    show BitVec.sle _ _ = _
    rw [BitVec.sle, hr, hs]
    exact decide_eq_decide.2 (by rw [Fin.le_def]; omega)
  rw [e]
  by_cases h : s ≤ r <;> simp [h, Scalar.select]

end Cert.Spec

end
-- ==== Proof.Mixers.Gmlp.lean ====
/-
  The gated MLP's tiles: for each group `g` of 128 columns and each half of a block's 256 rows, what the kernel stores, at
  an index, as the formula over the block's inputs.  The tiles are the printed operations at group 7, with the loads at
  the group as a variable; that the stored tile of every group is this one is by computation.
-/
module

public import proofs.«01_k».proof.Proof.Mixers.Pieces
public import proofs.«01_k».proof.Proof.Mixers.Spec

@[expose] public section

set_option maxRecDepth 16384

noncomputable section

namespace Cert.KernelIdeal.Own

open Cert.KernelIdeal Cert.KernelIdeal.Gen Cert.Spec
open Idealize.ShloMosaic Idealize.ShloMosaic.TcCoe

/-- The mean of a row of 1024. -/
def gmMean (v : Fin 256 → Fin 1024 → EReal) (r : Fin 256) : EReal :=
  Ideal.div (∑ k : Fin 1024, v r k) (Ideal.ofBits .f32 0x44800000#32)

/-- The reciprocal root of a row's variance. -/
def gmRstd (v : Fin 256 → Fin 1024 → EReal) (r : Fin 256) : EReal :=
  Ideal.rsqrt (Ideal.div (∑ k : Fin 1024, (v r k - gmMean v r) * (v r k - gmMean v r)) (Ideal.ofBits .f32 0x44800000#32)
    + Ideal.ofBits .f32 0x358637BD#32)

/-- The gated MLP at row `r` (of chunk `r / 128`) and column `j` (of group `j / 128`) of a block. -/
def gmVal (u v z : Fin 256 → Fin 1024 → EReal) (lw lb : Fin 1024 → EReal) (ws : Fin 8 → Fin 128 → Fin 128 → EReal)
    (bs : Fin 128 → Fin 8 → EReal) (cc : Fin 2) (r : Fin 128) (g : Fin 8) (l : Fin 128) : EReal :=
  u ⟨128 * cc + r, by omega⟩ ⟨128 * g + l, by omega⟩
      * ((∑ s : Fin 128, if s ≤ r then ws g r s
          * ((v ⟨128 * cc + s, by omega⟩ ⟨128 * g + l, by omega⟩ - gmMean v ⟨128 * cc + s, by omega⟩) * gmRstd v ⟨128 * cc + s, by omega⟩
              * lw ⟨128 * g + l, by omega⟩ + lb ⟨128 * g + l, by omega⟩) else 0) + bs r g)
    * siluK (z ⟨128 * cc + r, by omega⟩ ⟨128 * g + l, by omega⟩)

section Tile
variable {F : FTy → Type} [FloatOps F]

theorem inb_gmB (cc : Fin 2) (g : Fin 8) : ∀ a, (![128 * cc.val, 128 * g.val] : Fin S256x1024.rank → ℕ) a + S128x128.size a ≤ S256x1024.size a := by
  intro a; have := g.isLt; have := cc.isLt; fin_cases a <;> simp <;> omega
theorem inb_gmD (g : Fin 8) : ∀ a, (![0, g.val, 0, 0] : Fin S1x8x128x128.rank → ℕ) a + S1x1x128x128.size a ≤ S1x8x128x128.size a := by
  intro a; have := g.isLt; fin_cases a <;> simp
theorem inb_gmE (g : Fin 8) : ∀ a, (![0, g.val] : Fin S128x8.rank → ℕ) a + S128x1.size a ≤ S128x8.size a := by
  intro a; have := g.isLt; fin_cases a <;> simp

/-- Half `cc` of those. -/
abbrev halfR (cc : Fin 2) (g : Fin 8) : Rect S256x1024 := Rect.unit ![128 * cc.val, 128 * g.val] S128x128.size (inb_gmB cc g)
abbrev wsR (g : Fin 8) : Rect S1x8x128x128 := Rect.unit ![0, g.val, 0, 0] S1x1x128x128.size (inb_gmD g)
abbrev bsR (g : Fin 8) : Rect S128x8 := Rect.unit ![0, g.val] S128x1.size (inb_gmE g)
variable (m : (ℓ : Loc nD τ sig) → Buf (Elt F) ℓ)

/-- The tile of the upper half of the rows. -/
def gmTile0 (c : Dev nD) (t : Fin cfg0.N) (g : Fin 8) : Vec F S1x128x128 .bf16 :=
  k0_pay881 (k0_pay38 (ld (hs0_6 t) (iblk m c 6 t) allR))
    (k0_pay40 (k0_pay39 (ld (hs0_6 t) (iblk m c 6 t) allR)) (Scalar.ofBits .f32 0x44800000#32))
    (k0_pay878 k0_pay41 (ld (hs0_19 t) (iblk m c 19 t) (wsR g))) (ld (hs0_20 t) (iblk m c 20 t) (bsR g))
    (ld (hs0_6 t) (iblk m c 6 t) (colsR g)) (ld (hs0_17 t) (iblk m c 17 t) (rowR g)) (ld (hs0_18 t) (iblk m c 18 t) (rowR g))
    (ld (hs0_5 t) (iblk m c 5 t) (halfR 0 g)) (ld (hs0_7 t) (iblk m c 7 t) (halfR 0 g))

/-- The tile of the lower half. -/
def gmTile1 (c : Dev nD) (t : Fin cfg0.N) (g : Fin 8) : Vec F S1x128x128 .bf16 :=
  k0_pay1 (k0_pay878 k0_pay41 (ld (hs0_19 t) (iblk m c 19 t) (wsR g))) (k0_pay879 (ld (hs0_20 t) (iblk m c 20 t) (bsR g)))
    (k0_pay882 (k0_pay38 (ld (hs0_6 t) (iblk m c 6 t) allR))
      (k0_pay40 (k0_pay39 (ld (hs0_6 t) (iblk m c 6 t) allR)) (Scalar.ofBits .f32 0x44800000#32))
      (ld (hs0_6 t) (iblk m c 6 t) (colsR g)) (ld (hs0_17 t) (iblk m c 17 t) (rowR g)) (ld (hs0_18 t) (iblk m c 18 t) (rowR g)))
    (constant S128x128 .f32 0x00000000#32)
    (ld (hs0_5 t) (iblk m c 5 t) (halfR 1 g)) (ld (hs0_7 t) (iblk m c 7 t) (halfR 1 g))

end Tile

/-! ### The tiles at an index -/

variable (m : (ℓ : Loc nD τ sig) → Buf (Elt Ideal) ℓ)

theorem gmMean_apply (X : Vec Ideal S256x1024 .f32) (r : Fin 256) : k0_pay38 X (ix2 r 0) = gmMean (rc X) r := by
  pointwise [k0_pay38, gmMean, rc]

theorem gmRstd_apply (X : Vec Ideal S256x1024 .f32) (r : Fin 256) :
    k0_pay40 (k0_pay39 X) (Scalar.ofBits (F := Ideal) .f32 0x44800000#32) (ix2 r 0) = gmRstd (rc X) r := by
  pointwise [k0_pay38, k0_pay39, k0_pay40, gmMean, gmRstd, rc]

/-- The value of the gated MLP in a block, over the kernel's input blocks. -/
def gmBlk (c : Dev nD) (t : Fin cfg0.N) (cc : Fin 2) (r : Fin 128) (g : Fin 8) (l : Fin 128) : EReal :=
  gmVal (rc (iblk m c 5 t)) (rc (iblk m c 6 t)) (rc (iblk m c 7 t)) (fun j => iblk m c 17 t (ix3 0 0 j)) (fun j => iblk m c 18 t (ix3 0 0 j))
    (fun g r s => iblk m c 19 t (ix4 0 g r s)) (fun r g => iblk m c 20 t (ix2 r g)) cc r g l

theorem gmRstd_apply' (X : Vec Ideal S256x1024 .f32) (r : Fin 256) :
    k0_pay40 (k0_pay39 X) (Ideal.ofBits .f32 0x44800000#32) (ix2 r 0) = gmRstd (rc X) r := gmRstd_apply X r

theorem gmTile0_apply (c : Dev nD) (t : Fin cfg0.N) (g : Fin 8) (r l : Fin 128) :
    gmTile0 m c t g (ix3 0 r l) = gmBlk m c t 0 r g l := by
  rw [gmTile0, ld_allR]
  pointwise [k0_pay881, k0_pay880, k0_pay878, k0_pay41, k0_pay879]
  simp only [gmMean_apply, gmRstd_apply, ld_all, select_le]
  pointwise []
  simp only [gmRstd_apply', gmBlk, gmVal, siluK, rc, Fin.isValue, Fin.val_zero, mul_zero, zero_add, gmMean_apply]

theorem gmTile1_apply (c : Dev nD) (t : Fin cfg0.N) (g : Fin 8) (r l : Fin 128) :
    gmTile1 m c t g (ix3 0 r l) = gmBlk m c t 1 r g l := by
  rw [gmTile1, ld_allR]
  pointwise [k0_pay1, k0_pay882, k0_pay880, k0_pay878, k0_pay41, k0_pay879]
  simp only [gmMean_apply, gmRstd_apply, ld_all, select_le]
  pointwise []
  simp only [gmRstd_apply', gmBlk, gmVal, siluK, rc, Fin.isValue, Fin.val_one, mul_one, gmMean_apply]

/-- The gated MLP's rows of a block's output, as one function of the output's index. -/
def gmOut (c : Dev nD) (t : Fin cfg0.N) (y : S4x256x1024.Idx) : EReal :=
  gmBlk m c t ⟨(y 1).val / 128, by have : (y 1).val < 256 := (y 1).isLt; omega⟩ ⟨(y 1).val % 128, by omega⟩
    ⟨(y 2).val / 128, by have : (y 2).val < 1024 := (y 2).isLt; omega⟩ ⟨(y 2).val % 128, by omega⟩

theorem inb_gmO (cc : Fin 2) (g : Fin 8) :
    ∀ a, (![1, 128 * cc.val, 128 * g.val] : Fin S4x256x1024.rank → ℕ) a + S1x128x128.size a ≤ S4x256x1024.size a := by
  intro a; have := g.isLt; have := cc.isLt; fin_cases a <;> simp <;> omega

theorem gm_ok0 (c : Dev nD) (t : Fin cfg0.N) (g : Fin 8) :
    Ok 1 (gmOut m c t) ⟨Rect.unit ![1, 128 * (0 : Fin 2).val, 128 * g.val] S1x128x128.size (inb_gmO 0 g), gmTile0 m c t g⟩ := by
  refine ok_at _ (by decide) _ _ fun r l h1 h2 => (gmTile0_apply m c t g r l).trans ?_
  have := r.isLt; have := l.isLt; have := g.isLt
  unfold gmOut
  congr 1 <;> apply Fin.ext <;> simp <;> omega

theorem gm_ok1 (c : Dev nD) (t : Fin cfg0.N) (g : Fin 8) :
    Ok 1 (gmOut m c t) ⟨Rect.unit ![1, 128 * (1 : Fin 2).val, 128 * g.val] S1x128x128.size (inb_gmO 1 g), gmTile1 m c t g⟩ := by
  refine ok_at _ (by decide) _ _ fun r l h1 h2 => (gmTile1_apply m c t g r l).trans ?_
  have := r.isLt; have := l.isLt; have := g.isLt
  unfold gmOut
  congr 1 <;> apply Fin.ext <;> simp <;> omega

end Cert.KernelIdeal.Own
-- ==== Proof.Mixers.Sconv.lean ====
/-
  The gated short convolution's tiles: for each group `g` of 128 columns, what the kernel stores, at an index, as the
  formula over the block's inputs and the last eight rows carried from the block before.
-/
module

public import proofs.«01_k».proof.Proof.Mixers.Pieces

@[expose] public section

set_option maxRecDepth 16384

noncomputable section

namespace Cert.KernelIdeal.Own

open Cert.KernelIdeal Cert.KernelIdeal.Gen
open Idealize.ShloMosaic Idealize.ShloMosaic.TcCoe

section Tile
variable {F : FTy → Type} [FloatOps F]

theorem inb_scT (g : Fin 8) : ∀ a, (![0, 0, 128 * g.val] : Fin S1x3x1024.rank → ℕ) a + S1x3x128.size a ≤ S1x3x1024.size a := by
  intro a; have := g.isLt; fin_cases a <;> simp; omega
theorem inb_scP (g : Fin 8) : ∀ a, (![0, 128 * g.val] : Fin S8x1024.rank → ℕ) a + S8x128.size a ≤ S8x1024.size a := by
  intro a; have := g.isLt; fin_cases a <;> simp <;> omega

/-- The three taps at the columns of group `g`. -/
abbrev tapR (g : Fin 8) : Rect S1x3x1024 := Rect.unit ![0, 0, 128 * g.val] S1x3x128.size (inb_scT g)
/-- Eight carried rows at the columns of group `g`. -/
abbrev prevR (g : Fin 8) : Rect S8x1024 := Rect.unit ![0, 128 * g.val] S8x128.size (inb_scP g)

variable (m : (ℓ : Loc nD τ sig) → Buf (Elt F) ℓ)

/-- The tile of group `g`, the carried rows being `prev`. -/
def scTile (c : Dev nD) (t : Fin cfg0.N) (g : Fin 8) (prev : Vec F S8x128 .f32) : Vec F S1x256x128 .bf16 :=
  k0_pay37 (k0_pay32 (ld (hs0_26 t) (iblk m c 26 t) (tapR g)))
    (k0_pay33 (ld (hs0_11 t) (iblk m c 11 t) (colsR g)) (ld (hs0_12 t) (iblk m c 12 t) (colsR g)) (ld (hs0_26 t) (iblk m c 26 t) (tapR g)))
    (k0_pay34 (ld (hs0_11 t) (iblk m c 11 t) (colsR g)) (ld (hs0_12 t) (iblk m c 12 t) (colsR g)) prev)
    (k0_pay35 (ld (hs0_11 t) (iblk m c 11 t) (colsR g)) (ld (hs0_12 t) (iblk m c 12 t) (colsR g)) prev (ld (hs0_26 t) (iblk m c 26 t) (tapR g)))
    (ld (hs0_10 t) (iblk m c 10 t) (colsR g)) (ld (hs0_13 t) (iblk m c 13 t) (colsR g))

/-- The rows it carries on. -/
def scKeep (c : Dev nD) (t : Fin cfg0.N) (g : Fin 8) : Vec F S8x128 .f32 :=
  k0_pay36 (k0_pay31 (ld (hs0_11 t) (iblk m c 11 t) (colsR g)) (ld (hs0_12 t) (iblk m c 12 t) (colsR g)))

end Tile

variable (m : (ℓ : Loc nD τ sig) → Buf (Elt Ideal) ℓ)

/-- Row `r - (8 - k)` of a sequence whose rows before row 0 are `q`'s last. -/
def back (k : ℕ) (hk : k ≤ 8) (p : Fin 256 → EReal) (q : Fin 8 → EReal) (r : Fin 256) : EReal :=
  if h : r.val + k < 8 then q ⟨r.val + k, h⟩ else p ⟨r.val + k - 8, by omega⟩

/-- The gated convolution at row `r`, column `j` of a block. -/
def scVal (b p z : Fin 256 → Fin 1024 → EReal) (w : Fin 3 → Fin 1024 → EReal) (q : Fin 8 → Fin 1024 → EReal)
    (r : Fin 256) (j : Fin 1024) : EReal :=
  b r j * (back 6 (by decide) (fun s => p s j) (fun s => q s j) r * w 0 j + back 7 (by decide) (fun s => p s j) (fun s => q s j) r * w 1 j
      + p r j * w 2 j) * siluK (z r j)

/-- What is convolved: the product of two inputs. -/
def scProd (c : Dev nD) (t : Fin cfg0.N) (r : Fin 256) (j : Fin 1024) : EReal := rc (iblk m c 11 t) r j * rc (iblk m c 12 t) r j

theorem scTile_apply (c : Dev nD) (t : Fin cfg0.N) (g : Fin 8) (prev : Vec Ideal S8x128 .f32) (q : Fin 8 → Fin 1024 → EReal)
    (hq : ∀ (i : Fin 8) (l : Fin 128), prev (ix2 i l) = q i ⟨128 * g + l, by omega⟩) (r : Fin 256) (l : Fin 128) :
    scTile m c t g prev (ix3 0 r l)
      = scVal (rc (iblk m c 10 t)) (scProd m c t) (rc (iblk m c 13 t)) (fun k j => iblk m c 26 t (ix3 0 k j)) q r ⟨128 * g + l, by omega⟩ := by
  unfold scTile
  pointwise [k0_pay37, k0_pay32, k0_pay33, k0_pay34, k0_pay35, k0_pay31]
  simp only [ld_all, hq]
  pointwise []
  by_cases h8 : r.val < 8
  · have e1 : (8 + r.val + 16 - 2) % 16 = r.val + 6 := by omega
    have e2 : (8 + r.val + 16 - 1) % 16 = r.val + 7 := by omega
    simp only [h8, dite_true, e1, e2, scVal, scProd, rc, siluK, back]
  · have e1 : (8 + (r.val - 8) + 256 - 2) % 256 = r.val + 6 - 8 := by omega
    have e2 : (8 + (r.val - 8) + 256 - 1) % 256 = r.val + 7 - 8 := by omega
    have e3 : 8 + (r.val - 8) = r.val := by omega
    have e4 : (r.val + 256 - 2) % 256 = r.val + 6 - 8 := by omega
    have e5 : (r.val + 256 - 1) % 256 = r.val + 7 - 8 := by omega
    have n1 : ¬ r.val + 6 < 8 := by omega
    have n2 : ¬ r.val + 7 < 8 := by omega
    simp only [h8, dite_false, e1, e2, e3, e4, e5, n1, n2, scVal, scProd, rc, siluK, back, Fin.eta]

theorem scKeep_apply (c : Dev nD) (t : Fin cfg0.N) (g : Fin 8) (i : Fin 8) (l : Fin 128) :
    scKeep m c t g (ix2 i l) = scProd m c t ⟨248 + i, by omega⟩ ⟨128 * g + l, by omega⟩ := by
  unfold scKeep
  pointwise [k0_pay36, k0_pay31]
  simp only [ld_all]
  pointwise []
  simp only [scProd, rc]

/-- The gated convolution's rows of a block's output over carried rows `q`, as one function of the output's index. -/
def scOut (c : Dev nD) (t : Fin cfg0.N) (q : Fin 8 → Fin 1024 → EReal) (y : S4x256x1024.Idx) : EReal :=
  scVal (rc (iblk m c 10 t)) (scProd m c t) (rc (iblk m c 13 t)) (fun k j => iblk m c 26 t (ix3 0 k j)) q (y 1) (y 2)

theorem inb_scO (g : Fin 8) :
    ∀ a, (![3, 0, 128 * g.val] : Fin S4x256x1024.rank → ℕ) a + S1x256x128.size a ≤ S4x256x1024.size a := by
  intro a; have := g.isLt; fin_cases a <;> simp <;> omega

theorem sc_ok (c : Dev nD) (t : Fin cfg0.N) (g : Fin 8) (prev : Vec Ideal S8x128 .f32) (q : Fin 8 → Fin 1024 → EReal)
    (hq : ∀ (i : Fin 8) (l : Fin 128), prev (ix2 i l) = q i ⟨128 * g + l, by omega⟩) :
    Ok 3 (scOut m c t q) ⟨Rect.unit ![3, 0, 128 * g.val] S1x256x128.size (inb_scO g), scTile m c t g prev⟩ := by
  refine ok_at _ (by decide) _ _ fun r l h1 h2 => (scTile_apply m c t g prev q hq r l).trans ?_
  unfold scOut
  exact congrArg (fun r => scVal _ _ _ _ q r _) (Fin.ext (Nat.zero_add _).symm)

/-- The rows carried on: the last eight of the product. -/
def scCarry (c : Dev nD) (t : Fin cfg0.N) (y : S8x1024.Idx) : EReal :=
  scProd m c t ⟨248 + (y 0).val, by have : (y 0).val < 8 := (y 0).isLt; omega⟩ (y 1)

theorem sc_keep (c : Dev nD) (t : Fin cfg0.N) (g : Fin 8) (x : S8x128.Idx) :
    scKeep m c t g x = scCarry m c t ((prevR g).emb x) := by
  have e : x = ix2 (n0 := 8) (n1 := 128) (x 0) (x 1) := (ix2_eta (n0 := 8) (n1 := 128) x).symm
  refine (congrArg (scKeep m c t g) e).trans ((scKeep_apply m c t g (x 0) (x 1)).trans ?_)
  unfold scCarry
  congr 1
  · exact Fin.ext (by show 248 + (x 0).val = 248 + (0 + 1 * (x 0).val); omega)
  · exact Fin.ext (by show 128 * g.val + (x 1).val = 128 * g.val + 1 * (x 1).val; omega)

end Cert.KernelIdeal.Own
-- ==== Proof.Mixers.Branches.lean ====
/-
  What a block leaves of the gated MLP and of the gated convolution: every stored piece of those branches holds the
  branch's formula, so the block's output does.
-/
module

public import proofs.«01_k».proof.Proof.Mixers.Gmlp
public import proofs.«01_k».proof.Proof.Mixers.Sconv

@[expose] public section

set_option maxRecDepth 16384

noncomputable section

namespace Cert.KernelIdeal.Own

open Cert.KernelIdeal Cert.KernelIdeal.Gen
open Idealize.ShloMosaic Idealize.ShloMosaic.TcCoe

variable (m : (ℓ : Loc nD τ sig) → Buf (Elt Ideal) ℓ)

theorem cons {α : Type*} {P : α → Prop} {a : α} {L : List α} (h : P a) (hL : ∀ p ∈ L, P p) : ∀ p ∈ a :: L, P p :=
  List.forall_mem_cons.2 ⟨h, hL⟩
theorem nil {α : Type*} {P : α → Prop} : ∀ p ∈ ([] : List α), P p := fun _ h => absurd h List.not_mem_nil

/-- A piece of another branch, of whatever extents. -/
theorem off {b b' o1 o2 n1 n2 : ℕ} {G : S4x256x1024.Idx → EReal} {h} {w} (hb : b' ≠ b := by decide) :
    Ok b G ⟨Rect.unit (s := S4x256x1024) ![b', o1, o2] ![1, n1, n2] h, w⟩ := ok_off _ _ _ _ rfl hb

theorem gmB (c : Dev nD) (t : Fin cfg0.N) (h) (s : Left Ideal) : ∀ p ∈ (runB m c t h s).1, Ok 1 (gmOut m c t) p := by
  unfold runB kernelRun0_B
  exact
    cons (gm_ok1 m c t 7) <| cons (gm_ok0 m c t 7) <| cons (off) <| cons (gm_ok1 m c t 6) <| cons (gm_ok0 m c t 6) <| cons (off) <| cons (off) <|
    cons (gm_ok1 m c t 5) <| cons (gm_ok0 m c t 5) <| cons (off) <| cons (off) <| cons (off) <| cons (off) <| cons (off) <| cons (off) <|
    cons (off) <| cons (off) <| cons (off) <| cons (off) <| cons (gm_ok1 m c t 4) <| cons (gm_ok0 m c t 4) <| cons (off) <| cons (off) <|
    cons (gm_ok1 m c t 3) <| cons (gm_ok0 m c t 3) <| cons (off) <| cons (off) <| cons (gm_ok1 m c t 2) <| cons (gm_ok0 m c t 2) <| cons (off) <|
    cons (off) <| cons (gm_ok1 m c t 1) <| cons (gm_ok0 m c t 1) <| cons (off) <| cons (off) <| cons (off) <| cons (off) <| cons (off) <|
    cons (off) <| cons (off) <| cons (off) <| cons (off) <| cons (off) <| cons (gm_ok1 m c t 0) <| cons (gm_ok0 m c t 0) <| cons (off) <|
    cons (off) <| cons (off) <| nil

theorem gmA (c : Dev nD) (t : Fin cfg0.N) (h) : ∀ p ∈ (runA m c t h).1, Ok 1 (gmOut m c t) p := by
  unfold runA kernelRun0_A
  exact
    cons (gm_ok1 m c t 7) <| cons (gm_ok0 m c t 7) <| cons (off) <| cons (gm_ok1 m c t 6) <| cons (gm_ok0 m c t 6) <| cons (off) <| cons (off) <|
    cons (gm_ok1 m c t 5) <| cons (gm_ok0 m c t 5) <| cons (off) <| cons (off) <| cons (off) <| cons (off) <| cons (off) <| cons (off) <|
    cons (off) <| cons (off) <| cons (off) <| cons (off) <| cons (gm_ok1 m c t 4) <| cons (gm_ok0 m c t 4) <| cons (off) <| cons (off) <|
    cons (gm_ok1 m c t 3) <| cons (gm_ok0 m c t 3) <| cons (off) <| cons (off) <| cons (gm_ok1 m c t 2) <| cons (gm_ok0 m c t 2) <| cons (off) <|
    cons (off) <| cons (gm_ok1 m c t 1) <| cons (gm_ok0 m c t 1) <| cons (off) <| cons (off) <| cons (off) <| cons (off) <| cons (off) <|
    cons (off) <| cons (off) <| cons (off) <| cons (off) <| cons (off) <| cons (gm_ok1 m c t 0) <| cons (gm_ok0 m c t 0) <| cons (off) <|
    cons (off) <| cons (off) <| nil

/-- The carried rows, by row and column. -/
abbrev rows8 (X : Vec Ideal S8x1024 .f32) (i : Fin 8) (j : Fin 1024) : EReal := X (ix2 i j)

theorem ld_prev {M : Memref sig .tc .vmem S8x1024 .f32} (h : M.IsWhole) (X : Vec Ideal S8x1024 .f32) (g i : Fin 8) (l : Fin 128) :
    ld (F := Ideal) h X (prevR g) (ix2 i l) = rows8 X i ⟨128 * g + l, by omega⟩ := by
  rw [ld_all]; pointwise []

theorem scB (c : Dev nD) (t : Fin cfg0.N) (h) (s : Left Ideal) :
    ∀ p ∈ (runB m c t h s).1, Ok 3 (scOut m c t (rows8 s.2.2.2.2.2)) p := by
  have scB (g : Fin 8) := sc_ok m c t g (ld (F := Ideal) (Memref.isWhole_whole cc0_scratch4) s.2.2.2.2.2 (prevR g)) _ (ld_prev (Memref.isWhole_whole cc0_scratch4) s.2.2.2.2.2 g)
  unfold runB kernelRun0_B
  exact
    cons (off) <| cons (off) <| cons (off) <| cons (off) <| cons (off) <| cons (scB 7) <| cons (off) <| cons (off) <| cons (off) <| cons (scB 6) <|
    cons (off) <| cons (off) <| cons (off) <| cons (off) <| cons (off) <| cons (off) <| cons (off) <| cons (off) <| cons (off) <| cons (off) <|
    cons (off) <| cons (scB 5) <| cons (off) <| cons (off) <| cons (off) <| cons (scB 4) <| cons (off) <| cons (off) <| cons (off) <| cons (scB 3) <|
    cons (off) <| cons (off) <| cons (off) <| cons (scB 2) <| cons (off) <| cons (off) <| cons (off) <| cons (off) <| cons (off) <| cons (off) <|
    cons (off) <| cons (off) <| cons (off) <| cons (off) <| cons (off) <| cons (scB 1) <| cons (off) <| cons (scB 0) <| nil

/-! ### The carried rows of the gated convolution -/

/-- The stores of the carried rows of the groups `gs`. -/
def keeps (c : Dev nD) (t : Fin cfg0.N) (gs : List (Fin 8)) : List (View.Piece (Elt Ideal) S8x1024 .f32) :=
  gs.map fun g => ⟨prevR g, scKeep m c t g⟩

/-- The clearing of the carried rows. -/
def cleared8 : List (View.Piece (Elt Ideal) S8x1024 .f32) := [⟨Rect.unit ![0, 0] S8x1024.size inb_S8x1024_S8x1024_0_0, k0_pay6 (F := Ideal)⟩]

theorem k0_pay6_apply (y : S8x1024.Idx) : k0_pay6 (F := Ideal) y = (0 : EReal) := by pointwise [k0_pay6]

theorem cleared8_cover (L : List (View.Piece (Elt Ideal) S8x1024 .f32)) (y : S8x1024.Idx) : ∃ p ∈ L ++ cleared8, y ∈ p.1.set :=
  ⟨_, List.mem_append_right _ (List.mem_singleton_self _), View.mem_set_unit_zero (by funext a; fin_cases a <;> rfl) inb_S8x1024_S8x1024_0_0 y⟩

/-- Group `g` reads zeros while only earlier groups have stored. -/
theorem prevA_apply (c : Dev nD) (t : Fin cfg0.N) (g : Fin 8) (gs : List (Fin 8)) (hgs : ∀ g' ∈ gs, g' < g) (i : Fin 8) (l : Fin 128) :
    scM0_4.view.readCov (keeps m c t gs ++ cleared8) (prevR g).toLoadRect (ix2 i l) = (0 : EReal) := by
  rw [View.readCov_eq_canon_ld _ _ _ (cleared8_cover _)]
  have e := canon_on (S := S8x1024) (e := .f32) (fun y => 128 * g.val ≤ (y 1).val) (fun _ => (0 : EReal)) [] (keeps m c t gs ++ cleared8)
    (by
      intro p hp x hx
      rcases List.mem_append.1 hp with hp | hp
      · obtain ⟨g', hg', rfl⟩ := List.mem_map.1 hp
        have hlt := hgs g' hg'
        have h1 : ((prevR g').emb x 1).val = 128 * g'.val + 1 * (x 1).val := rfl
        have h2 : (x 1).val < 128 := (x 1).isLt
        have h3 := h1 ▸ hx
        exact absurd h3 (by have := Fin.lt_def.1 hlt; omega)
      · obtain rfl := List.mem_singleton.1 (show p ∈ [_] from hp)
        exact k0_pay6_apply x)
    ((prevR g).emb (ix2 (n0 := 8) (n1 := 128) i l)) (by show 128 * g.val ≤ 128 * g.val + 1 * l.val; omega) (cleared8_cover _ _)
  rw [List.append_nil] at e
  exact e

theorem scA (c : Dev nD) (t : Fin cfg0.N) (h) : ∀ p ∈ (runA m c t h).1, Ok 3 (scOut m c t fun _ _ => 0) p := by
  have scB (g : Fin 8) (gs : List (Fin 8)) (hgs : ∀ g' ∈ gs, g' < g) :=
    sc_ok m c t g (scM0_4.view.readCov (keeps m c t gs ++ cleared8) (prevR g).toLoadRect) (fun _ _ => 0) (prevA_apply m c t g gs hgs)
  unfold runA kernelRun0_A
  exact
    cons (off) <| cons (off) <| cons (off) <| cons (off) <| cons (off) <| cons (scB 7 [6, 5, 4, 3, 2, 1, 0] (by decide)) <| cons (off) <| cons (off) <| cons (off) <| cons (scB 6 [5, 4, 3, 2, 1, 0] (by decide)) <|
    cons (off) <| cons (off) <| cons (off) <| cons (off) <| cons (off) <| cons (off) <| cons (off) <| cons (off) <| cons (off) <| cons (off) <|
    cons (off) <| cons (scB 5 [4, 3, 2, 1, 0] (by decide)) <| cons (off) <| cons (off) <| cons (off) <| cons (scB 4 [3, 2, 1, 0] (by decide)) <| cons (off) <| cons (off) <| cons (off) <| cons (scB 3 [2, 1, 0] (by decide)) <|
    cons (off) <| cons (off) <| cons (off) <| cons (scB 2 [1, 0] (by decide)) <| cons (off) <| cons (off) <| cons (off) <| cons (off) <| cons (off) <| cons (off) <|
    cons (off) <| cons (off) <| cons (off) <| cons (off) <| cons (off) <| cons (scB 1 [0] (by decide)) <| cons (off) <| cons (scB 0 [] (by decide)) <| nil

theorem keeps_cover (y : S8x1024.Idx) (c : Dev nD) (t : Fin cfg0.N) : ∃ p ∈ keeps m c t [7, 6, 5, 4, 3, 2, 1, 0], y ∈ p.1.set := by
  have h0 : (y 0).val < 8 := (y 0).isLt
  have h1 : (y 1).val < 1024 := (y 1).isLt
  refine ⟨⟨prevR ⟨(y 1).val / 128, by omega⟩, scKeep m c t ⟨(y 1).val / 128, by omega⟩⟩, List.mem_map.2 ⟨_, ?_, rfl⟩, ?_⟩
  · generalize (⟨(y 1).val / 128, _⟩ : Fin 8) = g
    revert g; decide
  · rw [Rect.mem_set_unit]
    intro a
    fin_cases a
    · show 0 ≤ (y 0).val ∧ (y 0).val < 0 + 8; omega
    · show 128 * ((y 1).val / 128) ≤ (y 1).val ∧ (y 1).val < 128 * ((y 1).val / 128) + 128; omega

theorem keeps_canon (c : Dev nD) (t : Fin cfg0.N) (L' : List (View.Piece (Elt Ideal) S8x1024 .f32)) :
    View.canon (keeps m c t [7, 6, 5, 4, 3, 2, 1, 0] ++ L') = scCarry m c t := by
  funext y
  refine canon_on (fun _ => True) (scCarry m c t) L' _ ?_ y trivial (keeps_cover m y c t)
  intro p hp x _
  obtain ⟨g, _, rfl⟩ := List.mem_map.1 hp
  exact sc_keep m c t g x

/-! ### What a block leaves -/

theorem outB_read (c : Dev nD) (t : Fin cfg0.N) (h) (s : Left Ideal) :
    (leftB m c t h s).1 = VO0_27.read (Elt Ideal) (VO0_27.writes (Elt Ideal) VO0_27.junk (runB m c t h s).1) := by
  unfold leftB; with_reducible rfl

theorem outB_eq (c : Dev nD) (t : Fin cfg0.N) (h) (s : Left Ideal) : (leftB m c t h s).1 = View.canon (runB m c t h s).1 := by
  rw [outB_read, View.read_writes_junk_eq_canon]

theorem outB_gm (c : Dev nD) (t : Fin cfg0.N) (h) (s : Left Ideal) (y : S4x256x1024.Idx) (hy : (y 0).val = 1) :
    (leftB m c t h s).1 y = gmOut m c t y := by
  rw [outB_eq]; exact canon_ok (gmB m c t h s) (coverB0 m c t h s) y hy

theorem outB_sc (c : Dev nD) (t : Fin cfg0.N) (h) (s : Left Ideal) (y : S4x256x1024.Idx) (hy : (y 0).val = 3) :
    (leftB m c t h s).1 y = scOut m c t (rows8 s.2.2.2.2.2) y := by
  rw [outB_eq]; exact canon_ok (scB m c t h s) (coverB0 m c t h s) y hy

theorem outA_read (c : Dev nD) (t : Fin cfg0.N) (h) :
    (leftA m c t h).1 = VO0_27.read (Elt Ideal) (VO0_27.writes (Elt Ideal) VO0_27.junk (runA m c t h).1) := by
  unfold leftA; with_reducible rfl

theorem outA_eq (c : Dev nD) (t : Fin cfg0.N) (h) : (leftA m c t h).1 = View.canon (runA m c t h).1 := by
  rw [outA_read, View.read_writes_junk_eq_canon]

theorem outA_gm (c : Dev nD) (t : Fin cfg0.N) (h) (y : S4x256x1024.Idx) (hy : (y 0).val = 1) :
    (leftA m c t h).1 y = gmOut m c t y := by
  rw [outA_eq]; exact canon_ok (gmA m c t h) (coverA0 m c t h) y hy

theorem outA_sc (c : Dev nD) (t : Fin cfg0.N) (h) (y : S4x256x1024.Idx) (hy : (y 0).val = 3) :
    (leftA m c t h).1 y = scOut m c t (fun _ _ => 0) y := by
  rw [outA_eq]; exact canon_ok (scA m c t h) (coverA0 m c t h) y hy

theorem keepsB (c : Dev nD) (t : Fin cfg0.N) (h) (s : Left Ideal) :
    (runB m c t h s).2.2.2.2.2.1 = keeps m c t [7, 6, 5, 4, 3, 2, 1, 0] := by
  unfold runB kernelRun0_B; rfl

theorem keepsA (c : Dev nD) (t : Fin cfg0.N) (h) :
    (runA m c t h).2.2.2.2.2.1 = keeps m c t [7, 6, 5, 4, 3, 2, 1, 0] ++ cleared8 := by
  unfold runA kernelRun0_A; rfl

theorem carryB_sc (c : Dev nD) (t : Fin cfg0.N) (h) (s : Left Ideal) : (leftB m c t h s).2.2.2.2.2 = scCarry m c t := by
  unfold leftB
  refine (View.read_writes_junk_eq_canon (Val := Elt Ideal) VS0_4 (runB m c t h s).2.2.2.2.2.1).trans ?_
  rw [keepsB, ← List.append_nil (keeps m c t _), keeps_canon]

theorem carryA_sc (c : Dev nD) (t : Fin cfg0.N) (h) : (leftA m c t h).2.2.2.2.2 = scCarry m c t := by
  unfold leftA
  refine (View.read_writes_junk_eq_canon (Val := Elt Ideal) VS0_4 (runA m c t h).2.2.2.2.2.1).trans ?_
  rw [keepsA, keeps_canon]

/-! ### What every block leaves -/

/-- The eight rows before block `n`: zeros before the first. -/
def prevRows (c : Dev nD) : (n : ℕ) → n < cfg0.N → Fin 8 → Fin 1024 → EReal
  | 0, _ => fun _ _ => 0
  | n + 1, hn => fun i j => scProd m c ⟨n, Nat.lt_of_succ_lt hn⟩ ⟨248 + i, by omega⟩ j

theorem left_gm (c : Dev nD) (n : ℕ) (hn : n < cfg0.N) (y : S4x256x1024.Idx) (hy : (y 0).val = 1) :
    (left m c n hn).1 y = gmOut m c ⟨n, hn⟩ y := by
  cases n with
  | zero => exact outA_gm m c _ _ y hy
  | succ n => exact outB_gm m c _ _ _ y hy

theorem left_carry (c : Dev nD) (n : ℕ) (hn : n < cfg0.N) : (left m c n hn).2.2.2.2.2 = scCarry m c ⟨n, hn⟩ := by
  cases n with
  | zero => exact carryA_sc m c _ _
  | succ n => exact carryB_sc m c _ _ _

theorem left_sc (c : Dev nD) (n : ℕ) (hn : n < cfg0.N) (y : S4x256x1024.Idx) (hy : (y 0).val = 3) :
    (left m c n hn).1 y = scOut m c ⟨n, hn⟩ (prevRows m c n hn) y := by
  cases n with
  | zero => exact outA_sc m c _ _ y hy
  | succ n =>
    refine (outB_sc m c _ _ _ y hy).trans ?_
    rw [left_carry m c n]
    rfl

end Cert.KernelIdeal.Own
-- ==== Proof.Mixers.Final.lean ====
/-
  What the kernel reads and what it leaves, over the arrays of the call: every input block as rows and columns of
  an argument, and the result array, written block by block.
-/
module

public import proofs.«01_k».proof.Proof.Mixers.Branches
public import Idealize.ShloMosaic.Lib.StableHlo.Run
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL.Sem Idealize.ShloMosaic.StableHlo
open Idealize.ShloMosaic.Pipeline (Dat Cfg Window)

section Any

variable {F : FTy → Type} [FloatOps F]
variable (m : (ℓ : Loc nD τ sig) → Buf (Elt F) ℓ) (ρ : Dev nD → PrngReg)

/-! ## The result array -/

theorem runs_of (r : Fin 8192) : r.val / 256 < cfg0.N := by
  show r.val / 256 < 32
  have := r.isLt; omega

/-- The result: row `r` of branch `b` is row `r % 256` of what run `r / 256` leaves of that branch. -/
def outArr (c : Dev nD) : Buf (Elt F) ((c : Thread nD τ).loc main_v14) := fun i =>
  (left m c ((i 1).val / 256) (runs_of (i 1))).1 (ix3 (i 0) ⟨(i 1).val % 256, Nat.mod_lt _ (by decide)⟩ (i 2))

/-- The block a run writes: all branches and columns of its own 256 rows. -/
theorem index27 : ∀ t : Fin cfg0.N, win0_27.index t (0 : Fin 3) = 0 ∧ win0_27.index t (1 : Fin 3) = t.val ∧ win0_27.index t (2 : Fin 3) = 0 :=
  (by decide +kernel : ∀ t : Fin grid0.N, _)

theorem flush27 : ∀ t : Fin cfg0.N, (cfg0.win 27).flush t = true := (by decide +kernel : ∀ t : Fin grid0.N, _)

theorem emb27 (t : Fin cfg0.N) (y : S4x256x1024.Idx) :
    (((cfg0.win 27).blk t).view.emb y : S4x8192x1024.Idx) = ix3 (y 0) ⟨256 * t.val + (y 1).val, by
      have : t.val < 32 := t.isLt; have : (y 1).val < 256 := (y 1).isLt; omega⟩ (y 2) := by
  obtain ⟨e0, e1, e2⟩ := index27 t
  funext a; apply Fin.ext
  match a with
  | ⟨0, _⟩ => show win0_27.index t (0 : Fin 3) * 4 + 1 * (y 0).val = (y 0).val; rw [e0]; omega
  | ⟨1, _⟩ => show win0_27.index t (1 : Fin 3) * 256 + 1 * (y 1).val = 256 * t.val + (y 1).val; rw [e1]; omega
  | ⟨2, _⟩ => show win0_27.index t (2 : Fin 3) * 1024 + 1 * (y 2).val = (y 2).val; rw [e2]; omega

theorem left_at (c : Dev nD) {n n' : ℕ} (h : n < cfg0.N) (h' : n' < cfg0.N) (e : n = n') {y y' : S4x256x1024.Idx} (ey : y = y') :
    (left m c n h).1 y = (left m c n' h').1 y' := by
  subst e; subst ey; rfl

theorem flushed27 (c : Dev nD) (t : Fin cfg0.N) :
    (dats m 0 c).flushed 27 t = ((cfg0.win 27).blk t).view.read (Elt F) (outArr m c) := by
  show (cfg0.win 27).cut (grid0.coords t) ((dats m 0 c).after 27 t) = _
  rw [after_out]
  funext (y : S4x256x1024.Idx)
  show (left m c t.val t.isLt).1 y = outArr m c (((cfg0.win 27).blk t).view.emb y)
  rw [emb27 t y]
  have hy : (y 1).val < 256 := (y 1).isLt
  refine left_at m c t.isLt (runs_of ⟨256 * t.val + (y 1).val, _⟩) (show t.val = (256 * t.val + (y 1).val) / 256 by omega) ?_
  funext a; apply Fin.ext
  match a with
  | ⟨0, _⟩ => rfl
  | ⟨1, _⟩ => show (y 1).val = (256 * t.val + (y 1).val) % 256; omega
  | ⟨2, _⟩ => rfl

theorem mem27 (t : Fin cfg0.N) (i : S4x8192x1024.Idx) : i ∈ ((cfg0.win 27).blk t).view.set ↔
    ∀ a : Fin 3, win0_27.index t a * S4x256x1024.size a ≤ (i a).val ∧ (i a).val < win0_27.index t a * S4x256x1024.size a + S4x256x1024.size a := by
  show i ∈ ((View.whole main_v14).slice (win0_27.rect t)).set ↔ _
  rw [View.set_slice_whole, Rect.mem_set_unit]
  exact Iff.rfl

theorem cover27 (i : S4x8192x1024.Idx) : ∃ t : Fin cfg0.N, (cfg0.win 27).flush t = true ∧ i ∈ ((cfg0.win 27).blk t).view.set := by
  refine ⟨⟨(i 1).val / 256, runs_of (i 1)⟩, flush27 _, (mem27 _ i).2 fun a => ?_⟩
  obtain ⟨e0, e1, e2⟩ := index27 ⟨(i 1).val / 256, runs_of (i 1)⟩
  have h0 : (i 0).val < 4 := (i 0).isLt
  have h2 : (i 2).val < 1024 := (i 2).isLt
  match a with
  | ⟨0, _⟩ => rw [show (⟨0, _⟩ : Fin 3) = 0 from rfl, e0]; show 0 * 4 ≤ (i 0).val ∧ (i 0).val < 0 * 4 + 4; omega
  | ⟨1, _⟩ =>
    rw [show (⟨1, _⟩ : Fin 3) = 1 from rfl, e1]
    show (i 1).val / 256 * 256 ≤ (i 1).val ∧ (i 1).val < (i 1).val / 256 * 256 + 256; omega
  | ⟨2, _⟩ => rw [show (⟨2, _⟩ : Fin 3) = 2 from rfl, e2]; show 0 * 1024 ≤ (i 2).val ∧ (i 2).val < 0 * 1024 + 1024; omega

theorem final27 (c : Dev nD) : (dats m 0 c).arrAt 27 cfg0.N = outArr m c :=
  (dats m 0 c).arrAt_eq_of_cover 27 _ (fun t _ => flushed27 m c t) cover27

/-! ## The arguments, kept -/

theorem run_out : θ_run (defs (F := F)) (onTc (τ := τ) (main (F := F))) ⟨m, fun _ => 0, ρ⟩ (fun r => ∀ c : Dev nD,
      r.2.mem ((c.tc : Thread nD τ).loc main_v14) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_) (run_main m ρ)
  have hw (w : Fin cfg0.W) (hin : (cfg0.win w).isOut = false) :=
    ((h c).1 w).trans (((dats m 0 c).arrAt_in w hin _).trans (A_eq m c w))
  have hr (b : Ref sig .tc) (hb) := (h c).2 b hb
  exact ⟨((h c).1 27).trans (final27 m c), (hw 13 rfl).trans (V_main_arg0 m c),
    (hr main_arg1 (Pipeline.mem_restRefs_of main_arg1 (by decide) (by decide))).trans (V_main_arg1 m c),
    (hr main_arg2 (Pipeline.mem_restRefs_of main_arg2 (by decide) (by decide))).trans (V_main_arg2 m c),
    (hr main_arg3 (Pipeline.mem_restRefs_of main_arg3 (by decide) (by decide))).trans (V_main_arg3 m c),
    (hr main_arg4 (Pipeline.mem_restRefs_of main_arg4 (by decide) (by decide))).trans (V_main_arg4 m c),
    (hr main_arg5 (Pipeline.mem_restRefs_of main_arg5 (by decide) (by decide))).trans (V_main_arg5 m c),
    (hw 19 rfl).trans (V_main_arg6 m c),
    (hr main_arg7 (Pipeline.mem_restRefs_of main_arg7 (by decide) (by decide))).trans (V_main_arg7 m c),
    (hw 21 rfl).trans (V_main_arg8 m c),
    (hr main_arg9 (Pipeline.mem_restRefs_of main_arg9 (by decide) (by decide))).trans (V_main_arg9 m c),
    (hw 23 rfl).trans (V_main_arg10 m c),
    (hr main_arg11 (Pipeline.mem_restRefs_of main_arg11 (by decide) (by decide))).trans (V_main_arg11 m c),
    (hr main_arg12 (Pipeline.mem_restRefs_of main_arg12 (by decide) (by decide))).trans (V_main_arg12 m c),
    (hw 26 rfl).trans (V_main_arg13 m c)⟩

/-! ## The arrays the host prepares -/

theorem V_v1 (c : Dev nD) : V m c main_v1 = broadcastInDim S2x1x1024 ![0, 2] bcast_S2x1024_S2x1x1024_0_2 (m ((c : Thread nD τ).loc main_arg4)) := by
  show StableHlo.after (hostOps0 ++ (hostOps0_1 ++ (hostOps0_2 ++ (hostOps0_3 ++ (hostOps0_4 ++ []))))) _ (Proc.devRef .tc main_v1) = _
  simp only [hostOps0, hostOps0_1, hostOps0_2, hostOps0_3, hostOps0_4, List.cons_append, List.nil_append]
  after_results

theorem V_v2 (c : Dev nD) : V m c main_v2 = broadcastInDim S2x1x1024 ![0, 2] bcast_S2x1024_S2x1x1024_0_2 (m ((c : Thread nD τ).loc main_arg5)) := by
  show StableHlo.after (hostOps0 ++ (hostOps0_1 ++ (hostOps0_2 ++ (hostOps0_3 ++ (hostOps0_4 ++ []))))) _ (Proc.devRef .tc main_v2) = _
  simp only [hostOps0, hostOps0_1, hostOps0_2, hostOps0_3, hostOps0_4, List.cons_append, List.nil_append]
  after_results

theorem V_v13 (c : Dev nD) : V m c main_v13 = shapeCast S128x8 (extractStridedSlice S1x128x8 ![0, 0, 0]
    (transpose S2x128x8 [0, 2, 1] (m ((c : Thread nD τ).loc main_arg7)) transposes_S2x8x128_S2x128x8_0_2_1) slices_S2x128x8_S1x128x8_0_0_0)
    shapeCasts_S1x128x8_S128x8 := by
  show StableHlo.after (hostOps0 ++ (hostOps0_1 ++ (hostOps0_2 ++ (hostOps0_3 ++ (hostOps0_4 ++ []))))) _ (Proc.devRef .tc main_v13) = _
  simp only [hostOps0, hostOps0_1, hostOps0_2, hostOps0_3, hostOps0_4, List.cons_append, List.nil_append]
  after_results
  rfl

end Any

/-! ## The input blocks -/

variable (m : (ℓ : Loc nD τ sig) → Buf (Elt Ideal) ℓ)

/-- Row `256 t + r` of the array. -/
def tok (t : Fin cfg0.N) (r : Fin 256) : Fin 8192 := ⟨256 * t.val + r.val, by have : t.val < 32 := t.isLt; omega⟩

/-- Column `j` of column block `k` of the projected rows. -/
def pcol (c : Dev nD) (k : Fin 14) (r : Fin 8192) (j : Fin 1024) : EReal :=
  m ((c : Thread nD τ).loc main_arg0) (ix2 r ⟨1024 * k.val + j.val, by omega⟩)

theorem index5 : ∀ t : Fin cfg0.N, win0_5.index t (0 : Fin 2) = t.val ∧ win0_5.index t (1 : Fin 2) = 5 :=
  (by decide +kernel : ∀ t : Fin grid0.N, _)
theorem rc5 (c : Dev nD) (t : Fin cfg0.N) (r : Fin 256) (j : Fin 1024) : rc (iblk m c 5 t) r j = pcol m c 5 (tok t r) j := by
  obtain ⟨e0, e1⟩ := index5 t
  unfold rc pcol
  rw [← V_main_arg0 m c]
  exact congrArg (V m c main_arg0) (funext fun a => Fin.ext (match a with
    | ⟨0, _⟩ => by show win0_5.index t (0 : Fin 2) * 256 + 1 * r.val = 256 * t.val + r.val; omega
    | ⟨1, _⟩ => by show win0_5.index t (1 : Fin 2) * 1024 + 1 * j.val = 1024 * 5 + j.val; omega))
theorem index6 : ∀ t : Fin cfg0.N, win0_6.index t (0 : Fin 2) = t.val ∧ win0_6.index t (1 : Fin 2) = 6 :=
  (by decide +kernel : ∀ t : Fin grid0.N, _)
theorem rc6 (c : Dev nD) (t : Fin cfg0.N) (r : Fin 256) (j : Fin 1024) : rc (iblk m c 6 t) r j = pcol m c 6 (tok t r) j := by
  obtain ⟨e0, e1⟩ := index6 t
  unfold rc pcol
  rw [← V_main_arg0 m c]
  exact congrArg (V m c main_arg0) (funext fun a => Fin.ext (match a with
    | ⟨0, _⟩ => by show win0_6.index t (0 : Fin 2) * 256 + 1 * r.val = 256 * t.val + r.val; omega
    | ⟨1, _⟩ => by show win0_6.index t (1 : Fin 2) * 1024 + 1 * j.val = 1024 * 6 + j.val; omega))
theorem index7 : ∀ t : Fin cfg0.N, win0_7.index t (0 : Fin 2) = t.val ∧ win0_7.index t (1 : Fin 2) = 7 :=
  (by decide +kernel : ∀ t : Fin grid0.N, _)
theorem rc7 (c : Dev nD) (t : Fin cfg0.N) (r : Fin 256) (j : Fin 1024) : rc (iblk m c 7 t) r j = pcol m c 7 (tok t r) j := by
  obtain ⟨e0, e1⟩ := index7 t
  unfold rc pcol
  rw [← V_main_arg0 m c]
  exact congrArg (V m c main_arg0) (funext fun a => Fin.ext (match a with
    | ⟨0, _⟩ => by show win0_7.index t (0 : Fin 2) * 256 + 1 * r.val = 256 * t.val + r.val; omega
    | ⟨1, _⟩ => by show win0_7.index t (1 : Fin 2) * 1024 + 1 * j.val = 1024 * 7 + j.val; omega))
theorem index10 : ∀ t : Fin cfg0.N, win0_10.index t (0 : Fin 2) = t.val ∧ win0_10.index t (1 : Fin 2) = 10 :=
  (by decide +kernel : ∀ t : Fin grid0.N, _)
theorem rc10 (c : Dev nD) (t : Fin cfg0.N) (r : Fin 256) (j : Fin 1024) : rc (iblk m c 10 t) r j = pcol m c 10 (tok t r) j := by
  obtain ⟨e0, e1⟩ := index10 t
  unfold rc pcol
  rw [← V_main_arg0 m c]
  exact congrArg (V m c main_arg0) (funext fun a => Fin.ext (match a with
    | ⟨0, _⟩ => by show win0_10.index t (0 : Fin 2) * 256 + 1 * r.val = 256 * t.val + r.val; omega
    | ⟨1, _⟩ => by show win0_10.index t (1 : Fin 2) * 1024 + 1 * j.val = 1024 * 10 + j.val; omega))
theorem index11 : ∀ t : Fin cfg0.N, win0_11.index t (0 : Fin 2) = t.val ∧ win0_11.index t (1 : Fin 2) = 11 :=
  (by decide +kernel : ∀ t : Fin grid0.N, _)
theorem rc11 (c : Dev nD) (t : Fin cfg0.N) (r : Fin 256) (j : Fin 1024) : rc (iblk m c 11 t) r j = pcol m c 11 (tok t r) j := by
  obtain ⟨e0, e1⟩ := index11 t
  unfold rc pcol
  rw [← V_main_arg0 m c]
  exact congrArg (V m c main_arg0) (funext fun a => Fin.ext (match a with
    | ⟨0, _⟩ => by show win0_11.index t (0 : Fin 2) * 256 + 1 * r.val = 256 * t.val + r.val; omega
    | ⟨1, _⟩ => by show win0_11.index t (1 : Fin 2) * 1024 + 1 * j.val = 1024 * 11 + j.val; omega))
theorem index12 : ∀ t : Fin cfg0.N, win0_12.index t (0 : Fin 2) = t.val ∧ win0_12.index t (1 : Fin 2) = 12 :=
  (by decide +kernel : ∀ t : Fin grid0.N, _)
theorem rc12 (c : Dev nD) (t : Fin cfg0.N) (r : Fin 256) (j : Fin 1024) : rc (iblk m c 12 t) r j = pcol m c 12 (tok t r) j := by
  obtain ⟨e0, e1⟩ := index12 t
  unfold rc pcol
  rw [← V_main_arg0 m c]
  exact congrArg (V m c main_arg0) (funext fun a => Fin.ext (match a with
    | ⟨0, _⟩ => by show win0_12.index t (0 : Fin 2) * 256 + 1 * r.val = 256 * t.val + r.val; omega
    | ⟨1, _⟩ => by show win0_12.index t (1 : Fin 2) * 1024 + 1 * j.val = 1024 * 12 + j.val; omega))
theorem index13 : ∀ t : Fin cfg0.N, win0_13.index t (0 : Fin 2) = t.val ∧ win0_13.index t (1 : Fin 2) = 13 :=
  (by decide +kernel : ∀ t : Fin grid0.N, _)
theorem rc13 (c : Dev nD) (t : Fin cfg0.N) (r : Fin 256) (j : Fin 1024) : rc (iblk m c 13 t) r j = pcol m c 13 (tok t r) j := by
  obtain ⟨e0, e1⟩ := index13 t
  unfold rc pcol
  rw [← V_main_arg0 m c]
  exact congrArg (V m c main_arg0) (funext fun a => Fin.ext (match a with
    | ⟨0, _⟩ => by show win0_13.index t (0 : Fin 2) * 256 + 1 * r.val = 256 * t.val + r.val; omega
    | ⟨1, _⟩ => by show win0_13.index t (1 : Fin 2) * 1024 + 1 * j.val = 1024 * 13 + j.val; omega))

theorem blk17 (c : Dev nD) (t : Fin cfg0.N) (j : Fin 1024) :
    iblk m c 17 t (ix3 0 0 j) = m ((c : Thread nD τ).loc main_arg4) (ix2 0 j) := by
  show V m c main_v1 (((cfg0.win 17).blk t).view.emb (ix3 0 0 j)) = _
  have e : (((cfg0.win 17).blk t).view.emb (ix3 0 0 j) : S2x1x1024.Idx) = ix3 0 0 j := by
    funext a; apply Fin.ext
    match a with
    | ⟨0, _⟩ => show 0 * 1 + 1 * 0 = 0; rfl
    | ⟨1, _⟩ => show 0 * 1 + 1 * 0 = 0; rfl
    | ⟨2, _⟩ => show 0 * 1024 + 1 * j.val = j.val; omega
  rw [V_v1]
  show broadcastInDim S2x1x1024 (![0, 2] : Fin S2x1024.rank → Fin S2x1x1024.rank) bcast_S2x1024_S2x1x1024_0_2 (m ((c : Thread nD τ).loc main_arg4)) (((cfg0.win 17).blk t).view.emb (ix3 0 0 j) : S2x1x1024.Idx) = _
  rw [e]
  pointwise []
theorem blk18 (c : Dev nD) (t : Fin cfg0.N) (j : Fin 1024) :
    iblk m c 18 t (ix3 0 0 j) = m ((c : Thread nD τ).loc main_arg5) (ix2 0 j) := by
  show V m c main_v2 (((cfg0.win 18).blk t).view.emb (ix3 0 0 j)) = _
  have e : (((cfg0.win 18).blk t).view.emb (ix3 0 0 j) : S2x1x1024.Idx) = ix3 0 0 j := by
    funext a; apply Fin.ext
    match a with
    | ⟨0, _⟩ => show 0 * 1 + 1 * 0 = 0; rfl
    | ⟨1, _⟩ => show 0 * 1 + 1 * 0 = 0; rfl
    | ⟨2, _⟩ => show 0 * 1024 + 1 * j.val = j.val; omega
  rw [V_v2]
  show broadcastInDim S2x1x1024 (![0, 2] : Fin S2x1024.rank → Fin S2x1x1024.rank) bcast_S2x1024_S2x1x1024_0_2 (m ((c : Thread nD τ).loc main_arg5)) (((cfg0.win 18).blk t).view.emb (ix3 0 0 j) : S2x1x1024.Idx) = _
  rw [e]
  pointwise []
theorem blk19 (c : Dev nD) (t : Fin cfg0.N) (g : Fin 8) (r s : Fin 128) :
    iblk m c 19 t (ix4 0 g r s) = m ((c : Thread nD τ).loc main_arg6) (ix4 0 g r s) := by
  rw [← V_main_arg6 m c]
  show V m c main_arg6 (((cfg0.win 19).blk t).view.emb (ix4 0 g r s)) = V m c main_arg6 (ix4 0 g r s)
  congr 1; funext a; apply Fin.ext
  match a with
  | ⟨0, _⟩ => show 0 * 1 + 1 * 0 = 0; rfl
  | ⟨1, _⟩ => show 0 * 8 + 1 * g.val = g.val; omega
  | ⟨2, _⟩ => show 0 * 128 + 1 * r.val = r.val; omega
  | ⟨3, _⟩ => show 0 * 128 + 1 * s.val = s.val; omega
theorem blk26 (c : Dev nD) (t : Fin cfg0.N) (k : Fin 3) (j : Fin 1024) :
    iblk m c 26 t (ix3 0 k j) = m ((c : Thread nD τ).loc main_arg13) (ix3 0 k j) := by
  rw [← V_main_arg13 m c]
  show V m c main_arg13 (((cfg0.win 26).blk t).view.emb (ix3 0 k j)) = V m c main_arg13 (ix3 0 k j)
  congr 1; funext a; apply Fin.ext
  match a with
  | ⟨0, _⟩ => show 0 * 1 + 1 * 0 = 0; rfl
  | ⟨1, _⟩ => show 0 * 3 + 1 * k.val = k.val; omega
  | ⟨2, _⟩ => show 0 * 1024 + 1 * j.val = j.val; omega
theorem blk20 (c : Dev nD) (t : Fin cfg0.N) (g : Fin 8) (r : Fin 128) :
    iblk m c 20 t (ix2 r g) = m ((c : Thread nD τ).loc main_arg7) (ix3 0 g r) := by
  have e : (((cfg0.win 20).blk t).view.emb (ix2 r g) : S128x8.Idx) = ix2 r g := by
    funext a; apply Fin.ext
    match a with
    | ⟨0, _⟩ => show 0 * 128 + 1 * r.val = r.val; omega
    | ⟨1, _⟩ => show 0 * 8 + 1 * g.val = g.val; omega
  show V m c main_v13 (((cfg0.win 20).blk t).view.emb (ix2 r g) : S128x8.Idx) = _
  rw [V_v13, e]
  pointwise []

end Cert.KernelIdeal.Own
-- ==== Proof.Mixers.GmlpConv.lean ====
/-
  The kernel's second and fourth branch at a row and a column: the gated MLP and the gated short convolution of the
  call's arguments.
-/
module

public import proofs.«01_k».proof.Proof.Mixers.Final
public import proofs.«01_k».proof.Proof.Mixers.Spec

@[expose] public section

set_option maxRecDepth 16384

noncomputable section

namespace Cert.KernelIdeal.Own

open Cert.KernelIdeal Cert.KernelIdeal.Gen Cert.Spec
open Idealize.ShloMosaic Idealize.ShloMosaic.TcCoe Idealize.ShloMosaic.Tactic

variable (m : (ℓ : Loc nD τ sig) → Buf (Elt Ideal) ℓ)

theorem siluK_eq (z : EReal) : siluK z = silu z := by unfold siluK silu; rw [zero_sub]

/-- The run a row lies in, and its place there. -/
def runOf (r : Fin 8192) : Fin cfg0.N := ⟨r.val / 256, runs_of r⟩
def inRun (r : Fin 8192) : Fin 256 := ⟨r.val % 256, by omega⟩

theorem tok_run (r : Fin 8192) : tok (runOf r) (inRun r) = r := Fin.ext (by show 256 * (r.val / 256) + r.val % 256 = r.val; omega)

/-- The block's formula on the rows of a run is the formula on all rows. -/
theorem gmVal_rows (u v z : Fin 8192 → Fin 1024 → EReal) (lw lb : Fin 1024 → EReal) (ws : Fin 8 → Fin 128 → Fin 128 → EReal)
    (bs : Fin 8 → Fin 128 → EReal) (r : Fin 8192) (j : Fin 1024) (cc : Fin 2) (q : Fin 128) (l : Fin 128)
    (hc : cc.val = r.val % 256 / 128) (hq : q = inChunk r) (hl : l.val = j.val % 128) :
    gmVal (fun s j => u (tok (runOf r) s) j) (fun s j => v (tok (runOf r) s) j) (fun s j => z (tok (runOf r) s) j) lw lb ws (fun r g => bs g r)
      cc q (group j) l = gmlp u v z lw lb ws bs r j := by
  subst hq
  have hr := r.isLt
  have hj := j.isLt
  have k0 : tok (runOf r) ⟨128 * cc.val + (inChunk r).val, by omega⟩ = r :=
    Fin.ext (by show 256 * (r.val / 256) + (128 * cc.val + r.val % 128) = r.val; omega)
  have k1 (s : Fin 128) : tok (runOf r) ⟨128 * cc.val + s.val, by omega⟩ = mate r s :=
    Fin.ext (by show 256 * (r.val / 256) + (128 * cc.val + s.val) = 128 * (r.val / 128) + s.val; omega)
  have k2 : (⟨128 * (group j).val + l.val, by omega⟩ : Fin 1024) = j := Fin.ext (by show 128 * (j.val / 128) + l.val = j.val; omega)
  have km (s : Fin 256) : gmMean (fun s j => v (tok (runOf r) s) j) s = mean (v (tok (runOf r) s)) := rfl
  have kr (s : Fin 256) : gmRstd (fun s j => v (tok (runOf r) s) j) s = rstd (v (tok (runOf r) s)) := rfl
  unfold gmVal gmlp
  simp only [km, kr, k0, k1, k2, siluK_eq]
  refine congrArg (fun t => _ * (t + _) * _) (Finset.sum_congr rfl fun s _ => ?_)
  unfold normed
  split <;> simp [mul_comm]

theorem out_gm (c : Dev nD) (r : Fin 8192) (j : Fin 1024) : outArr m c (ix3 1 r j)
    = gmlp (pcol m c 5) (pcol m c 6) (pcol m c 7) (fun j => m ((c : Thread nD τ).loc main_arg4) (ix2 0 j))
        (fun j => m ((c : Thread nD τ).loc main_arg5) (ix2 0 j)) (fun g r s => m ((c : Thread nD τ).loc main_arg6) (ix4 0 g r s))
        (fun g r => m ((c : Thread nD τ).loc main_arg7) (ix3 0 g r)) r j := by
  refine (left_gm m c (r.val / 256) (runs_of r) (ix3 1 (inRun r) j) rfl).trans ?_
  have e5 : rc (iblk m c 5 (runOf r)) = fun s j => pcol m c 5 (tok (runOf r) s) j := funext fun s => funext fun j => rc5 m c _ s j
  have e6 : rc (iblk m c 6 (runOf r)) = fun s j => pcol m c 6 (tok (runOf r) s) j := funext fun s => funext fun j => rc6 m c _ s j
  have e7 : rc (iblk m c 7 (runOf r)) = fun s j => pcol m c 7 (tok (runOf r) s) j := funext fun s => funext fun j => rc7 m c _ s j
  refine Eq.trans ?_ (gmVal_rows (pcol m c 5) (pcol m c 6) (pcol m c 7) _ _ _ _ r j ⟨r.val % 256 / 128, by omega⟩ ⟨r.val % 256 % 128, by omega⟩
    ⟨j.val % 128, by omega⟩ rfl (Fin.ext (by show r.val % 256 % 128 = r.val % 128; omega)) rfl)
  rw [← e5, ← e6, ← e7]
  unfold gmOut gmBlk
  simp only [blk17, blk18, blk19, blk20]
  rfl

theorem out_sc (c : Dev nD) (r : Fin 8192) (j : Fin 1024) : outArr m c (ix3 3 r j)
    = sconv (pcol m c 10) (fun r j => pcol m c 11 r j * pcol m c 12 r j) (pcol m c 13)
        (fun k j => m ((c : Thread nD τ).loc main_arg13) (ix3 0 k j)) r j := by
  have hr := r.isLt
  have hp (t : Fin cfg0.N) (s : Fin 256) (j : Fin 1024) : scProd m c t s j = pcol m c 11 (tok t s) j * pcol m c 12 (tok t s) j := by
    unfold scProd; rw [rc11, rc12]
  have hb (k : ℕ) (hk : 1 ≤ k ∧ k ≤ 8) : back k hk.2 (fun s => scProd m c (runOf r) s j) (fun s => prevRows m c (r.val / 256) (runs_of r) s j) (inRun r)
      = before (8 - k) (fun r j => pcol m c 11 r j * pcol m c 12 r j) r j := by
    unfold back before
    by_cases h : (inRun r).val + k < 8
    · have h' : r.val % 256 + k < 8 := h
      rw [dif_pos h]
      by_cases h0 : r.val / 256 = 0
      · rw [dif_neg (by omega)]
        have (n : ℕ) (hn : n < cfg0.N) (e : n = 0) (s) : prevRows m c n hn s j = 0 := by subst e; rfl
        exact this _ _ h0 _
      · rw [dif_pos (by omega)]
        have (n n' : ℕ) (hn : n < cfg0.N) (e : n = n' + 1) (s : Fin 8) : prevRows m c n hn s j = scProd m c ⟨n', by omega⟩ ⟨248 + s, by omega⟩ j := by
          subst e; rfl
        beta_reduce
        rw [this _ (r.val / 256 - 1) (runs_of r) (by omega), hp]
        have e : tok ⟨r.val / 256 - 1, by have := runs_of r; omega⟩ ⟨248 + ((inRun r).val + k), by omega⟩ = ⟨r.val - (8 - k), by omega⟩ :=
          Fin.ext (by show 256 * (r.val / 256 - 1) + (248 + (r.val % 256 + k)) = r.val - (8 - k); omega)
        rw [e]
    · have h' : ¬ r.val % 256 + k < 8 := h
      rw [dif_neg h, dif_pos (by omega)]
      beta_reduce
      rw [hp]
      have e : tok (runOf r) ⟨(inRun r).val + k - 8, by have := (inRun r).isLt; omega⟩ = ⟨r.val - (8 - k), by omega⟩ :=
        Fin.ext (by show 256 * (r.val / 256) + (r.val % 256 + k - 8) = r.val - (8 - k); omega)
      rw [e]
  refine (left_sc m c (r.val / 256) (runs_of r) (ix3 3 (inRun r) j) rfl).trans ?_
  show scVal (rc (iblk m c 10 (runOf r))) (scProd m c (runOf r)) (rc (iblk m c 13 (runOf r))) (fun k j => iblk m c 26 (runOf r) (ix3 0 k j))
    (prevRows m c (r.val / 256) (runs_of r)) (inRun r) j = _
  unfold scVal sconv
  rw [hb 6 (by decide), hb 7 (by decide), rc10, rc13, hp, tok_run, siluK_eq]
  simp only [blk26, Nat.reduceSub]

end Cert.KernelIdeal.Own

end
-- ==== Proof.Mixers.GmlpConvRef.lean ====
/-
  The reference of the gated MLP and the gated short convolution, read at a row and a column.
-/
module

public import proofs.«01_k».proof.Proof.Gen.GmlpConvIdeal.Read
public import proofs.«01_k».proof.Proof.Mixers.Spec

@[expose] public section

set_option maxRecDepth 16384

noncomputable section

namespace Cert.GmlpConvIdeal.Own

open Cert.GmlpConvIdeal Cert.GmlpConvIdeal.Gen Cert.GmlpConvIdeal.Read Cert.Spec
open Idealize.ShloMosaic Idealize.ShloMosaic.TcCoe Idealize.ShloMosaic.Tactic

variable (x0 : FVec Ideal S8192x14336 .f32) (x4 x5 : FVec Ideal S2x1024 .f32) (x6 : FVec Ideal S2x8x128x128 .f32)
  (x7 : FVec Ideal S2x8x128 .f32) (x13 : FVec Ideal S2x3x1024 .f32)

/-- Column `j` of column block `k`. -/
def pc (k : Fin 14) (r : Fin 8192) (j : Fin 1024) : EReal := x0 (ix2 r ⟨1024 * k.val + j.val, by omega⟩)

theorem v10_apply (r : Fin 8192) : val_main_v10 (F := Ideal) x0 (ix2 r 0) = mean (pc x0 6 r) := by
  pointwise [val_main_v10, val_main_v8, val_main_v7, val_main_v1, val_main_v9, val_main_cst, val_main_cst_0]
  rfl

theorem v20_apply (r : Fin 8192) : val_main_v20 (F := Ideal) x0 (ix2 r 0) = rstd (pc x0 6 r) := by
  pointwise [val_main_v20, val_main_v19, val_main_v18, val_main_v17,val_main_v16, val_main_v15, val_main_v14, val_main_v13, val_main_v12,
    val_main_v11, val_main_v1, val_main_cst_1, val_main_cst_2, val_main_cst_3]
  simp only [v10_apply]
  rfl

theorem v28_apply (r : Fin 8192) (j : Fin 1024) : val_main_v28 (F := Ideal) x0 x4 x5 (ix2 r j)
    = normed (pc x0 6 r) (fun j => x4 (ix2 0 j)) (fun j => x5 (ix2 0 j)) j := by
  pointwise [val_main_v28, val_main_v27,val_main_v26,val_main_v25,val_main_v24,val_main_v23,val_main_v22,val_main_v21, val_main_v12,
    val_main_v11, val_main_v1, val_main_v6, val_main_v5, val_main_v4, val_main_v3]
  simp only [v10_apply, v20_apply]
  rfl

theorem v29_apply (n : Fin 64) (r : Fin 128) (g : Fin 8) (l : Fin 128) : val_main_v29 (F := Ideal) x0 x4 x5 (ix4 n r g l)
    = val_main_v28 (F := Ideal) x0 x4 x5 (ix2 ⟨128 * n.val + r.val, by omega⟩ ⟨128 * g.val + l.val, by omega⟩) := by
  pointwise [val_main_v29]
  congr 2 <;> exact Fin.ext (congrArg (· + _) (Nat.mul_comm _ _))

theorem v43_apply (n : Fin 64) (r : Fin 128) (g : Fin 8) (l : Fin 128) : val_main_v43 (F := Ideal) x0 x4 x5 x6 x7 (ix4 n r g l)
    = (∑ s : Fin 128, normed (pc x0 6 ⟨128 * n.val + s.val, by omega⟩) (fun j => x4 (ix2 0 j)) (fun j => x5 (ix2 0 j)) ⟨128 * g.val + l.val, by omega⟩
        * (if s ≤ r then x6 (ix4 0 g r s) else 0)) + x7 (ix3 0 g r) := by
  have h0 : id (constant (F := Ideal) S_ .f32 0#32) ix0 = (0 : EReal) := by
    show constant (F := Ideal) S_ .f32 0#32 ix0 = (0 : EReal)
    pointwise []
  pointwise [val_main_v43, val_main_v42,val_main_v41,val_main_v40,val_main_v39,val_main_v38, val_main_v37, val_main_v36, val_main_v35,
    val_main_v34, val_main_v33, val_main_v32, val_main_v31, val_main_v30, val_main_call0_v0, val_main_call0_v1, val_main_call0_v2, val_main_cst_4]
  simp only [v29_apply, v28_apply, select_le, h0]

theorem v53_apply (r : Fin 8192) (j : Fin 1024) : val_main_v53 (F := Ideal) x0 x4 x5 x6 x7 (ix2 r j)
    = gmlp (pc x0 5) (pc x0 6) (pc x0 7) (fun j => x4 (ix2 0 j)) (fun j => x5 (ix2 0 j)) (fun g r s => x6 (ix4 0 g r s)) (fun g r => x7 (ix3 0 g r)) r j := by
  pointwise [val_main_v53, val_main_v52,val_main_v51,val_main_v50, val_main_v49, val_main_v48, val_main_v47, val_main_v46, val_main_v45,
    val_main_v44, val_main_v2, val_main_v0, val_main_cst_5, val_main_cst_6]
  rw [v43_apply]
  have e : (⟨128 * (j.val / 128) + j.val % 128, by omega⟩ : Fin 1024) = j := Fin.ext (by show 128 * (j.val / 128) + j.val % 128 = j.val; omega)
  simp only [e]
  rfl

theorem v61_apply (r : Fin 8194) (j : Fin 1024) : val_main_v61 (F := Ideal) x0 (ix2 r j)
    = if h : 2 ≤ r.val then pc x0 11 ⟨r.val - 2, by omega⟩ j * pc x0 12 ⟨r.val - 2, by omega⟩ j else 0 := by
  pointwise [val_main_v61, val_main_v58, val_main_v55, val_main_v56, val_main_call1_v0, val_main_c]
  have h0 : FloatOps.sitofp (F := Ideal) .f32 (0#32) = (0 : EReal) := by
    show (((0#32 : BitVec 32).toInt : ℝ) : EReal) = 0
    simp
  have hr := r.isLt
  by_cases h : 2 ≤ r.val
  · rw [dif_pos ⟨h, by omega⟩, dif_pos h]; rfl
  · rw [dif_neg (fun e => h e.1), dif_neg h, h0]

theorem v90_apply (r : Fin 8192) (j : Fin 1024) : val_main_v90 (F := Ideal) x0 x13 (ix2 r j)
    = sconv (pc x0 10) (fun r j => pc x0 11 r j * pc x0 12 r j) (pc x0 13) (fun k j => x13 (ix3 0 k j)) r j := by
  pointwise [val_main_v90, val_main_v89, val_main_v88, val_main_v87, val_main_v86, val_main_v85, val_main_v84, val_main_v83, val_main_v82,
    val_main_v81, val_main_v80, val_main_v79, val_main_v78, val_main_v77, val_main_v76, val_main_v75, val_main_v74, val_main_v73, val_main_v72,
    val_main_v71, val_main_v70, val_main_v69, val_main_v68, val_main_v67, val_main_v66, val_main_v65, val_main_v64, val_main_v63, val_main_v62,
    val_main_v60, val_main_v59, val_main_v57, val_main_v54, val_main_cst_7, val_main_cst_8]
  simp only [v61_apply]
  unfold sconv before
  have h1 : (2 ≤ 1 + r.val) = (1 ≤ r.val) := propext (by omega)
  have h2 : 1 + r.val - 2 = r.val - 1 := by omega
  have h3 : 2 + r.val - 2 = r.val := by omega
  simp only [h1, h2, h3, Nat.le_add_right, dite_true]
  rfl

theorem out1 (r : Fin 8192) (j : Fin 1024) : val_main_v97 (F := Ideal) x0 x4 x5 x6 x7 x13 (ix3 1 r j) = val_main_v53 (F := Ideal) x0 x4 x5 x6 x7 (ix2 r j) := by
  pointwise [val_main_v97, val_main_v96, val_main_v95, val_main_v94, val_main_v93, val_main_v92]

theorem out3 (r : Fin 8192) (j : Fin 1024) : val_main_v97 (F := Ideal) x0 x4 x5 x6 x7 x13 (ix3 3 r j) = val_main_v90 (F := Ideal) x0 x13 (ix2 r j) := by
  pointwise [val_main_v97, val_main_v96, val_main_v95, val_main_v94, val_main_v93, val_main_v92]

end Cert.GmlpConvIdeal.Own

end
-- ==== Proof.Mixers.GmlpConvEq.lean ====
/-
  The reference's gated MLP and gated short convolution are the kernel's, wherever the mask is set.
-/
module

public import proofs.«01_k».proof.On_on_gmlp_conv
public import proofs.«01_k».proof.Proof.Mixers.GmlpConv
public import proofs.«01_k».proof.Proof.Mixers.GmlpConvRef

@[expose] public section

set_option maxRecDepth 16384

noncomputable section

namespace Cert.GmlpConvIdeal.Own

open Idealize.ShloMosaic Idealize.ShloMosaic.TcCoe Idealize.ShloMosaic.Tactic Cert.GmlpConvIdeal.Read

/-- The side condition of the mask. -/
instance maskFacts : Cert.On_on_gmlp_conv.Facts where
  bcast_S_S4x8192x1024 := by decide

/-- Where the mask is set the branch is the second or the fourth. -/
theorem mask_branch (b : Fin 4) (r : Fin 8192) (j : Fin 1024)
    (a0 a1 a2 a3 a4 a5 a6 a7 a8 a9 a10 a11 a12 a13)
    (h : Cert.On_on_gmlp_conv.fn (F := Ideal) a0 a1 a2 a3 a4 a5 a6 a7 a8 a9 a10 a11 a12 a13 (ix3 b r j) = 1#1) : b = 1 ∨ b = 3 := by
  have e : Cert.On_on_gmlp_conv.fn (F := Ideal) a0 a1 a2 a3 a4 a5 a6 a7 a8 a9 a10 a11 a12 a13 (ix3 b r j)
      = IntOp.cmpi .eq (BitVec.ofNat 32 b.val) 1#32 ||| IntOp.cmpi .eq (BitVec.ofNat 32 b.val) 3#32 := by
    pointwise [Cert.On_on_gmlp_conv.fn]
    rfl
  rw [e] at h
  clear e
  revert h
  revert b
  decide

/-- One element of the two results. -/
theorem eq_at (m : (ℓ : Loc Cert.KernelIdeal.nD Cert.KernelIdeal.τ Cert.KernelIdeal.sig) → Buf (Elt Ideal) ℓ) (c : Dev Cert.KernelIdeal.nD)
    (b : Fin 4) (r : Fin 8192) (j : Fin 1024) (hb : b = 1 ∨ b = 3) :
    val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg13)) (ix3 b r j)
      = Cert.KernelIdeal.Own.outArr m c (ix3 b r j) := by
  rcases hb with rfl | rfl
  · rw [out1, v53_apply, Cert.KernelIdeal.Own.out_gm]; rfl
  · rw [out3, v90_apply, Cert.KernelIdeal.Own.out_sc]; rfl

end Cert.GmlpConvIdeal.Own

end
-- ==== Proof.Mixers.LruTile.lean ====
/-
  The gated linear recurrence's tiles: for each group `g` of 128 columns, what the kernel computes on a block of 256 rows
  from the block's inputs, the eight rows carried before it and the carried state.
-/
module

public import proofs.«01_k».proof.Proof.Mixers.Sconv

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F]

theorem slices_row (j : ℕ) : S32x8x128.Slices ![j % 32, 0, 0] S1x8x128 := by
  have h : ∀ k : Fin 32, S32x8x128.Slices ![k.val, 0, 0] S1x8x128 := by decide
  exact h ⟨j % 32, Nat.mod_lt _ (by decide)⟩
theorem slices_sp (g : Fin 8) : S1x1024.Slices ![0, 128 * g.val] S1x128 := by revert g; decide

/-! ### The convolution, the gates, the coefficients -/

/-- The convolution of the group's columns, with its bias. -/
def lruX (x : Vec F S256x128 .f32) (prev : Vec F S8x128 .f32) (w : Vec F S1x4x128 .f32) (b : Vec F S1x1x128 .f32) : FVec F S256x128 .f32 :=
  k0_pay46 (k0_pay42 w) (k0_pay43 x w) (k0_pay44 x prev) (k0_pay45 x prev w) b

/-- The two gates' inputs, side by side. -/
def lruG (xn : FVec F S256x128 .f32) (w : Vec F S1x1x128x256 .f32) : FVec F S256x256 .f32 :=
  matmul dot_S256x128_S128x256_S256x256_1_0_0_1_n_n none (truncf .bf16 xn bitsLt_bf16_f32)
    (truncf .bf16 (shapeCast S128x256 w shapeCasts_S1x1x128x256_S128x256) bitsLt_bf16_f32) (constant S256x256 .f32 0x00000000#32)

/-- The logistic function. -/
def lruSig (v : FVec F S256x128 .f32) : FVec F S256x128 .f32 :=
  divf (broadcast S256x128 (Scalar.ofBits .f32 0x3F800000#32))
    (addf (broadcast S256x128 (Scalar.ofBits .f32 0x3F800000#32)) (exp (subf (broadcast S256x128 (Scalar.ofBits .f32 0x00000000#32)) v)))

/-- A row, on every row. -/
def lruBias (b : Vec F S1x1x128 .f32) : FVec F S256x128 .f32 :=
  broadcastTo S256x128 (shapeCast S1x128 b shapeCasts_S1x1x128_S1x128) broadcasts_S1x128_S256x128

/-- The recurrence gate and the input gate. -/
def lruR (G : FVec F S256x256 .f32) (b : Vec F S1x1x128 .f32) : FVec F S256x128 .f32 :=
  lruSig (addf (extractStridedSlice S256x128 ![0, 0] G slices_S256x256_o0_0_S256x128) (lruBias b))
def lruI (G : FVec F S256x256 .f32) (b : Vec F S1x1x128 .f32) : FVec F S256x128 .f32 :=
  lruSig (addf (extractStridedSlice S256x128 ![0, 128] G slices_S256x256_o0_128_S256x128) (lruBias b))

/-- The logarithm of the decay. -/
def lruL (sp : FVec F S1x128 .f32) (r : FVec F S256x128 .f32) : FVec F S256x128 .f32 :=
  mulf (mulf (broadcast S256x128 (Scalar.ofBits .f32 0xC1000000#32)) r) (broadcastTo S256x128 sp broadcasts_S1x128_S256x128)

/-- The input's factor: the root of one minus the decay's square; one where the sequence starts. -/
def lruM2 (la : FVec F S256x128 .f32) : FVec F S256x128 .f32 :=
  mulf (tanh (subf (broadcast S256x128 (Scalar.ofBits .f32 0x00000000#32)) la))
    (addf (mulf (exp la) (exp la)) (broadcast S256x128 (Scalar.ofBits .f32 0x3F800000#32)))
def lruM (first : IVec S256x128 1) (la : FVec F S256x128 .f32) : FVec F S256x128 .f32 :=
  select first (broadcast S256x128 (Scalar.ofBits .f32 0x3F800000#32))
    (select (cmpf .ogt (lruM2 la) (broadcast S256x128 (Scalar.ofBits .f32 0x00000000#32))) (mulf (lruM2 la) (rsqrt (lruM2 la)))
      (broadcast S256x128 (Scalar.ofBits .f32 0x00000000#32)))

/-! ### The scan of eight rows at a time -/

/-- Whether a row of eight has `d` rows before it. -/
def lruSel (d : BitVec 32) : IVec S32x8x128 1 :=
  cmpi .sge (iota .tc S32x8x128 32 [1] iota_S32x8x128_d1_w32) (broadcast S32x8x128 d)

/-- One doubling: each row's pair after the pair `d` rows before it. -/
def lruB (d : BitVec 32) (a b : FVec F S32x8x128 .f32) : FVec F S32x8x128 .f32 :=
  addf b (mulf a (select (lruSel d) (dynamicRotate 1 d none b rotates_S32x8x128_d1) (broadcast S32x8x128 (Scalar.ofBits .f32 0x00000000#32))))
def lruA (d : BitVec 32) (a : FVec F S32x8x128 .f32) : FVec F S32x8x128 .f32 :=
  mulf a (select (lruSel d) (dynamicRotate 1 d none a rotates_S32x8x128_d1) (broadcast S32x8x128 (Scalar.ofBits .f32 0x3F800000#32)))

/-- Eight rows of the state from the state before them. -/
def lruStep (a b : FVec F S32x8x128 .f32) (j : ℕ) (h : FVec F S1x128 .f32) : FVec F S8x128 .f32 :=
  addf (shapeCast S8x128 (extractStridedSlice S1x8x128 ![j % 32, 0, 0] b (slices_row j)) shapeCasts_S1x8x128_S8x128)
    (mulf (shapeCast S8x128 (extractStridedSlice S1x8x128 ![j % 32, 0, 0] a (slices_row j)) shapeCasts_S1x8x128_S8x128)
      (broadcastTo S8x128 h broadcasts_S1x128_S8x128))

/-- The `j`th eight rows of the state. -/
def lruH (a b : FVec F S32x8x128 .f32) (h0 : FVec F S1x128 .f32) : ℕ → FVec F S8x128 .f32
  | 0 => lruStep a b 0 h0
  | j + 1 => lruStep a b (j + 1) (extractStridedSlice S1x128 ![7, 0] (lruH a b h0 j) slices_S8x128_o7_0_S1x128)

/-- All rows of the state, from the scanned pairs. -/
def lruAll (a b : FVec F S32x8x128 .f32) (h0 : FVec F S1x128 .f32) : FVec F S256x128 .f32 :=
  concatenate S256x128 0 (([0, 1, 2, 3, 4, 5, 6, 7, 8, 9, 10, 11, 12, 13, 14, 15, 16, 17, 18, 19, 20, 21, 22, 23, 24, 25, 26, 27, 28, 29, 30, 31] : List ℕ).map
    fun j => ⟨S8x128, lruH a b h0 j⟩) concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0

/-- All rows of the state, from the decay and the input. -/
def lruScan (a b : FVec F S256x128 .f32) (h0 : FVec F S1x128 .f32) : FVec F S256x128 .f32 :=
  let A := shapeCast S32x8x128 a shapeCasts_S256x128_S32x8x128
  let B := shapeCast S32x8x128 b shapeCasts_S256x128_S32x8x128
  lruAll (lruA 4#32 (lruA 2#32 (lruA 1#32 A))) (lruB 4#32 (lruA 2#32 (lruA 1#32 A)) (lruB 2#32 (lruA 1#32 A) (lruB 1#32 A B))) h0

/-- The group's state on a block. -/
def lruHs (first : IVec S256x128 1) (x : Vec F S256x128 .f32) (prev : Vec F S8x128 .f32) (w : Vec F S1x4x128 .f32) (b : Vec F S1x1x128 .f32)
    (wg : Vec F S1x1x128x256 .f32) (br bi : Vec F S1x1x128 .f32) (sp : FVec F S1x128 .f32) (h0 : FVec F S1x128 .f32) : FVec F S256x128 .f32 :=
  let X := lruX x prev w b
  let la := lruL sp (lruR (lruG X wg) br)
  lruScan (exp la) (mulf (mulf (lruM first la) (lruI (lruG X wg) bi)) X) h0

/-- The state times the gate's input and its logistic function. -/
def lruOut (hs : FVec F S256x128 .f32) (z : Vec F S256x128 .f32) : Vec F S1x256x128 .bf16 :=
  shapeCast S1x256x128 (truncf .bf16 (mulf hs (mulf z (lruSig z))) bitsLt_bf16_f32) shapeCasts_S256x128_S1x256x128

/-! ### On a block's inputs -/

theorem inb_lruW (g : Fin 8) : ∀ a, (![0, 0, 128 * g.val] : Fin S1x4x1024.rank → ℕ) a + S1x4x128.size a ≤ S1x4x1024.size a := by
  revert g; decide
theorem inb_lruG (g : Fin 8) : ∀ a, (![0, g.val, 0, 0] : Fin S1x8x128x256.rank → ℕ) a + S1x1x128x256.size a ≤ S1x8x128x256.size a := by
  revert g; decide
theorem inb_lruBr (g : Fin 8) : ∀ a, (![0, 0, 128 * g.val] : Fin S1x1x2048.rank → ℕ) a + S1x1x128.size a ≤ S1x1x2048.size a := by
  revert g; decide
theorem inb_lruBi (g : Fin 8) : ∀ a, (![0, 0, 1024 + 128 * g.val] : Fin S1x1x2048.rank → ℕ) a + S1x1x128.size a ≤ S1x1x2048.size a := by
  revert g; decide
theorem inb_lruC (g : Fin 8) : ∀ a, (![0, 128 * g.val] : Fin S1x1024.rank → ℕ) a + S1x128.size a ≤ S1x1024.size a := by
  revert g; decide

/-- The state carried, at the columns of group `g`. -/
abbrev carR (g : Fin 8) : Rect S1x1024 := Rect.unit ![0, 128 * g.val] S1x128.size (inb_lruC g)

variable (m : (ℓ : Loc nD τ sig) → Buf (Elt F) ℓ)

/-- The states of group `g` on block `t`. -/
def lruState (c : Dev nD) (t : Fin cfg0.N) (g : Fin 8) (prev : Vec F S8x128 .f32) (h0 : Vec F S1x128 .f32) : FVec F S256x128 .f32 :=
  lruHs (k0_pay8 (grid0.coords t)) (ld (hs0_8 t) (iblk m c 8 t) (colsR g)) prev
    (ld (hs0_21 t) (iblk m c 21 t) (Rect.unit ![0, 0, 128 * g.val] S1x4x128.size (inb_lruW g))) (ld (hs0_22 t) (iblk m c 22 t) (rowR g))
    (ld (hs0_23 t) (iblk m c 23 t) (Rect.unit ![0, g.val, 0, 0] S1x1x128x256.size (inb_lruG g)))
    (ld (hs0_24 t) (iblk m c 24 t) (Rect.unit ![0, 0, 128 * g.val] S1x1x128.size (inb_lruBr g)))
    (ld (hs0_24 t) (iblk m c 24 t) (Rect.unit ![0, 0, 1024 + 128 * g.val] S1x1x128.size (inb_lruBi g)))
    (extractStridedSlice S1x128 ![0, 128 * g.val] (k0_pay7 (ld (hs0_25 t) (iblk m c 25 t) (Rect.unit ![0, 0, 0] S1x1x1024.size inb_S1x1x1024_S1x1x1024_0_0_0))) (slices_sp g)) h0

/-- The tile stored, the rows and the state carried on. -/
def lruTile (c : Dev nD) (t : Fin cfg0.N) (g : Fin 8) (prev : Vec F S8x128 .f32) (h0 : Vec F S1x128 .f32) : Vec F S1x256x128 .bf16 :=
  lruOut (lruState m c t g prev h0) (ld (hs0_9 t) (iblk m c 9 t) (colsR g))
def lruKeep (c : Dev nD) (t : Fin cfg0.N) (g : Fin 8) : Vec F S8x128 .f32 := k0_pay47 (ld (hs0_8 t) (iblk m c 8 t) (colsR g))
def lruLast (c : Dev nD) (t : Fin cfg0.N) (g : Fin 8) (prev : Vec F S8x128 .f32) (h0 : Vec F S1x128 .f32) : Vec F S1x128 .f32 :=
  shapeCast S1x128 (extractStridedSlice S1x128 ![255, 0] (lruState m c t g prev h0) slices_S256x128_o255_0_S1x128) shapeCasts_S1x128_S1x128

end Cert.KernelIdeal.Own
-- ==== Proof.Mixers.LruSpec.lean ====
/-
  The gated linear recurrence on plain extended reals: its coefficients, the recurrence itself, and why a scan of eight rows
  by doubling computes it. The decay lies between zero and one, so that it distributes over sums.
-/
module

public import proofs.«01_k».proof.Proof.Mixers.Spec
public import Idealize.ShloMosaic.Lib.IdealHost

@[expose] public section

noncomputable section

namespace Cert.Spec

open Idealize.ShloMosaic

/-! ### The coefficients -/

/-- The logistic function and the softplus. -/
def sigm (x : EReal) : EReal := Ideal.div 1 (1 + Ideal.exp (-x))
def softplus (x : EReal) : EReal := max x 0 + Ideal.log1p (Ideal.exp (-(max x (-x))))

/-- The logarithm of the decay, from the gate and the softplus. -/
def logA (r sp : EReal) : EReal := Ideal.ofBits .f32 0xC1000000#32 * r * sp

/-- The input's factor, as the reference writes it and as the kernel does. -/
def mult (la : EReal) : EReal := Ideal.sqrt (-(Ideal.expm1 (Ideal.ofBits .f32 0x40000000#32 * la)))
def mult2 (la : EReal) : EReal := Ideal.tanh (0 - la) * (Ideal.exp la * Ideal.exp la + 1)
def multK (la : EReal) : EReal := if 0 < mult2 la then mult2 la * Ideal.rsqrt (mult2 la) else 0

theorem neg_eight : Ideal.ofBits .f32 0xC1000000#32 = -((8 : ℝ) : EReal) := by
  simp [Ideal.ofBits, Ideal.ieee]
  norm_num
  norm_cast
  norm_num
theorem two : Ideal.ofBits .f32 0x40000000#32 = ((2 : ℝ) : EReal) := by
  simp [Ideal.ofBits, Ideal.ieee]
  norm_num
  norm_cast
  norm_num

theorem sigm_nonneg (x : EReal) : 0 ≤ sigm x := by
  show 0 ≤ Ideal.logistic x
  induction x with
  | bot => rw [Ideal.logistic_bot]
  | top => rw [Ideal.logistic_top]; exact zero_le_one
  | coe r => rw [Ideal.logistic_coe]; exact_mod_cast inv_nonneg.2 (by positivity)

theorem log1p_exp_nonneg (y : EReal) : 0 ≤ Ideal.log1p (Ideal.exp y) := by
  unfold Ideal.log1p
  induction y with
  | bot =>
    have e : (1 : EReal) + Ideal.exp ⊥ = ((1 : ℝ) : EReal) := by simp
    rw [e, Ideal.log_coe, if_neg (by norm_num)]; simp
  | top =>
    have e : (1 : EReal) + Ideal.exp ⊤ = ⊤ := by rw [Ideal.exp_top]; exact EReal.add_top_of_ne_bot (EReal.coe_ne_bot 1)
    rw [e]; simp
  | coe r =>
    have e : (1 : EReal) + Ideal.exp (r : EReal) = ((1 + Real.exp r : ℝ) : EReal) := by simp
    have h : 0 < Real.exp r := Real.exp_pos r
    rw [e, Ideal.log_coe, if_neg (by linarith)]
    exact_mod_cast Real.log_nonneg (by linarith)

theorem softplus_nonneg (x : EReal) : 0 ≤ softplus x :=
  add_nonneg (le_max_right _ _) (log1p_exp_nonneg _)

theorem logA_nonpos {r sp : EReal} (hr : 0 ≤ r) (hs : 0 ≤ sp) : logA r sp ≤ 0 := by
  unfold logA
  rw [neg_eight, EReal.neg_mul, EReal.neg_mul]
  have h8 : (0 : EReal) ≤ ((8 : ℝ) : EReal) := by exact_mod_cast (by norm_num : (0 : ℝ) ≤ 8)
  refine EReal.neg_le.2 ?_
  rw [neg_zero]
  exact mul_nonneg (mul_nonneg h8 hr) hs

/-- A nonnegative real, the kind of number that distributes. -/
def NN (x : EReal) : Prop := ∃ r : ℝ, 0 ≤ r ∧ x = r

theorem NN.one : NN 1 := ⟨1, zero_le_one, rfl⟩
theorem NN.mul {x y : EReal} : NN x → NN y → NN (x * y) := by
  rintro ⟨r, hr, rfl⟩ ⟨s, hs, rfl⟩
  exact ⟨r * s, mul_nonneg hr hs, by norm_cast⟩
theorem NN.add_mul {x : EReal} (hx : NN x) (y z : EReal) : x * (y + z) = x * y + x * z := by
  obtain ⟨r, hr, rfl⟩ := hx
  exact EReal.left_distrib_of_nonneg_of_ne_top (by exact_mod_cast hr) (EReal.coe_ne_top r) y z

theorem exp_nn {la : EReal} (h : la ≤ 0) : NN (Ideal.exp la) := by
  induction la with
  | bot => exact ⟨0, le_rfl, by simp⟩
  | top => exact absurd h (by simp)
  | coe r => exact ⟨Real.exp r, (Real.exp_pos r).le, by simp⟩

theorem tanh_sq (x : ℝ) : Real.tanh (-x) * (Real.exp x * Real.exp x + 1) = 1 - Real.exp (2 * x) := by
  have h : Real.exp x * Real.exp (-x) = 1 := by rw [← Real.exp_add]; simp
  have hp : 0 < Real.exp x := Real.exp_pos x
  have h2 : Real.exp (2 * x) = Real.exp x * Real.exp x := by rw [← Real.exp_add]; ring_nf
  rw [Real.tanh_neg, Real.tanh_eq_sinh_div_cosh, Real.sinh_eq, Real.cosh_eq, h2]
  have hn : Real.exp (-x) = (Real.exp x)⁻¹ := by rw [Real.exp_neg]
  rw [hn]
  field_simp
  ring

theorem mult_eq {la : EReal} (h : la ≤ 0) : multK la = mult la := by
  unfold multK mult
  rw [two]
  induction la with
  | top => exact absurd h (by simp)
  | bot =>
    have e : mult2 ⊥ = ((1 : ℝ) : EReal) := by unfold mult2; simp
    have e2 : ((2 : ℝ) : EReal) * ⊥ = ⊥ := EReal.coe_mul_bot_of_pos (by norm_num)
    have e3 : -(Ideal.expm1 ⊥) = ((1 : ℝ) : EReal) := by unfold Ideal.expm1; simp
    rw [e, e2, e3, if_pos (by simp), Ideal.rsqrt_coe, Ideal.sqrt_coe, if_neg (by norm_num), if_neg (by norm_num), if_neg (by norm_num)]
    simp
  | coe x =>
    have e : mult2 (x : EReal) = ((1 - Real.exp (2 * x) : ℝ) : EReal) := by
      rw [← tanh_sq]; unfold mult2
      rw [zero_sub, ← EReal.coe_neg, Ideal.tanh_coe, Ideal.exp_coe]; norm_cast
    have e3 : -(Ideal.expm1 (((2 : ℝ) : EReal) * (x : EReal))) = ((1 - Real.exp (2 * x) : ℝ) : EReal) := by
      unfold Ideal.expm1
      rw [← EReal.coe_mul, Ideal.exp_coe, ← EReal.coe_one, ← EReal.coe_sub, ← EReal.coe_neg]; congr 1; ring
    have hx : x ≤ 0 := by exact_mod_cast h
    have hp : 0 ≤ 1 - Real.exp (2 * x) := by
      have := Real.exp_le_one_iff.2 (show 2 * x ≤ 0 by linarith); linarith
    rw [e, e3]
    generalize 1 - Real.exp (2 * x) = y at hp
    rw [Ideal.sqrt_coe, if_neg (not_lt.2 hp), Ideal.rsqrt_coe, if_neg (not_lt.2 hp)]
    by_cases hy : y = 0
    · subst hy; simp
    · have hy' : 0 < y := lt_of_le_of_ne hp (Ne.symm hy)
      rw [if_neg hy, if_pos (by exact_mod_cast hy'), ← EReal.coe_mul]
      congr 1
      rw [← div_eq_mul_inv, Real.div_sqrt]

/-- The inner product of a row's group of columns with a column of the group's gate weights. -/
def gateAt (x : Fin 1024 → EReal) (w : Fin 8 → Fin 128 → Fin 256 → EReal) (g : Fin 8) (d : Fin 256) : EReal :=
  ∑ c : Fin 128, x ⟨128 * g.val + c.val, by omega⟩ * w g c d

/-- The place of a column in its group. -/
def inGroup (j : Fin 1024) : Fin 128 := ⟨j.val % 128, by omega⟩

/-- The logarithm of the decay at column `j` of a row whose convolved values are `x`. -/
def decL (x : Fin 1024 → EReal) (w : Fin 8 → Fin 128 → Fin 256 → EReal) (bg : Fin 2048 → EReal) (ap : Fin 1024 → EReal) (j : Fin 1024) : EReal :=
  logA (sigm (gateAt x w (group j) ⟨(inGroup j).val, by omega⟩ + bg ⟨j.val, by omega⟩)) (softplus (-(ap j)))

/-- The input at column `j`; at the first row its factor is one. -/
def inB (first : Bool) (x : Fin 1024 → EReal) (w : Fin 8 → Fin 128 → Fin 256 → EReal) (bg : Fin 2048 → EReal) (ap : Fin 1024 → EReal)
    (j : Fin 1024) : EReal :=
  (if first then 1 else mult (decL x w bg ap j)) * sigm (gateAt x w (group j) ⟨128 + (inGroup j).val, by omega⟩ + bg ⟨1024 + j.val, by omega⟩) * x j

theorem decL_nonpos (x w bg ap j) : decL x w bg ap j ≤ 0 := logA_nonpos (sigm_nonneg _) (softplus_nonneg _)

/-! ### The recurrence -/

/-- The state before row `n`: `h` before row 0, then `a n` times the state plus `b n`. -/
def seqH (a b : ℕ → EReal) (h : EReal) : ℕ → EReal
  | 0 => h
  | n + 1 => a n * seqH a b h n + b n

theorem seqH_congr {a b a' b' : ℕ → EReal} (h : EReal) : ∀ (n : ℕ), (∀ i < n, a i = a' i) → (∀ i < n, b i = b' i) →
    seqH a b h n = seqH a' b' h n
  | 0, _, _ => rfl
  | n + 1, ha, hb => by
    rw [seqH, seqH, ha n (Nat.lt_succ_self n), hb n (Nat.lt_succ_self n),
      seqH_congr h n (fun i hi => ha i (Nat.lt_succ_of_lt hi)) (fun i hi => hb i (Nat.lt_succ_of_lt hi))]

/-- The recurrence from row `k` on. -/
theorem seqH_from (a b : ℕ → EReal) (h : EReal) (k : ℕ) : ∀ n, seqH (fun i => a (k + i)) (fun i => b (k + i)) (seqH a b h k) n = seqH a b h (k + n)
  | 0 => rfl
  | n + 1 => by
    show a (k + n) * _ + b (k + n) = a (k + n) * seqH a b h (k + n) + b (k + n)
    rw [seqH_from a b h k n]

/-- The pairs `(A, B)` carry the state over the last `w` rows (over all rows where there are fewer). -/
def Inv (H : ℕ → EReal) (w : ℕ) (A B : ℕ → EReal) : Prop :=
  ∀ i < 8, NN (A i) ∧ B i + A i * H (i + 1 - w) = H (i + 1)

theorem inv_one (a b : ℕ → EReal) (h : EReal) (ha : ∀ i < 8, NN (a i)) : Inv (seqH a b h) 1 a b := fun i hi =>
  ⟨ha i hi, by rw [Nat.add_sub_cancel, seqH, add_comm]⟩

/-- One doubling. -/
theorem inv_double {H : ℕ → EReal} {w : ℕ} {A B A' B' : ℕ → EReal} (hI : Inv H w A B)
    (hA : ∀ i < 8, A' i = A i * (if w ≤ i then A (i - w) else 1)) (hB : ∀ i < 8, B' i = B i + (if w ≤ i then A i * B (i - w) else 0)) :
    Inv H (2 * w) A' B' := by
  intro i hi
  obtain ⟨hn, he⟩ := hI i hi
  rw [hA i hi, hB i hi]
  by_cases hw : w ≤ i
  · obtain ⟨hn', he'⟩ := hI (i - w) (by omega)
    rw [if_pos hw, if_pos hw]
    refine ⟨hn.mul hn', ?_⟩
    have e1 : i + 1 - 2 * w = i - w + 1 - w := by omega
    have e2 : i - w + 1 = i + 1 - w := by omega
    rw [e1, add_assoc, mul_assoc, ← hn.add_mul, he', e2, he]
  · rw [if_neg hw, if_neg hw]
    have e1 : i + 1 - 2 * w = i + 1 - w := by omega
    refine ⟨by rw [mul_one]; exact hn, ?_⟩
    rw [add_zero, mul_one, e1, he]

theorem inv_eight {H : ℕ → EReal} {A B : ℕ → EReal} (hI : Inv H 8 A B) (i : ℕ) (hi : i < 8) : B i + A i * H 0 = H (i + 1) := by
  have e : i + 1 - 8 = 0 := by omega
  rw [← (hI i hi).2, e]

end Cert.Spec

end
-- ==== Proof.Mixers.LruScan.lean ====
/-
  The kernel's scan, read at an index: three doublings over eight rows, then thirty-two groups of eight rows one after another,
  are the recurrence itself.
-/
module

public import proofs.«01_k».proof.Proof.Mixers.LruTile
public import proofs.«01_k».proof.Proof.Mixers.LruSpec

@[expose] public section

set_option maxRecDepth 16384

noncomputable section

namespace Cert.KernelIdeal.Own

open Cert.KernelIdeal Cert.KernelIdeal.Gen Cert.Spec
open Idealize.ShloMosaic Idealize.ShloMosaic.TcCoe

/-- Row `i` of eight, of 256. -/
def row8 (i : ℕ) : Fin 8 := ⟨i % 8, by omega⟩
def row256 (i : ℕ) : Fin 256 := ⟨i % 256, by omega⟩

/-- One column of a group of eight rows. -/
abbrev col8 (f : FVec Ideal S32x8x128 .f32) (g : Fin 32) (l : Fin 128) (i : ℕ) : EReal := f (ix3 g (row8 i) l)

theorem sel_le (k : Fin 128) (r : Fin 8) (x y : EReal) :
    Scalar.select (IntOp.cmpi .sge (BitVec.ofNat 32 r.val) (BitVec.ofNat 32 k.val)) x y = if k.val ≤ r.val then x else y :=
  select_le (⟨r.val, by omega⟩ : Fin 128) k x y

/-- `k` rows before row `r` of eight, wrapping round. -/
def wrap (k : ℕ) (r : Fin 8) : Fin 8 := ⟨(r.val + 8 - k) % 8, by omega⟩

theorem wrap_row8 {k i : ℕ} (hi : i < 8) (h : k ≤ i) : wrap k (row8 i) = row8 (i - k) := Fin.ext (by
  show (i % 8 + 8 - k) % 8 = (i - k) % 8
  rw [Nat.mod_eq_of_lt hi]; omega)

theorem lruB_row (k : ℕ) (hk : k = 1 ∨ k = 2 ∨ k = 4) (a b : FVec Ideal S32x8x128 .f32) (g : Fin 32) (r : Fin 8) (l : Fin 128) :
    lruB (BitVec.ofNat 32 k) a b (ix3 g r l) = b (ix3 g r l) + (if k ≤ r.val then a (ix3 g r l) * b (ix3 g (wrap k r) l) else 0) := by
  rcases hk with rfl | rfl | rfl <;>
  · pointwise [lruB, lruSel]
    exact congrArg (b (ix3 g r l) + ·) (sel_le ⟨_, by decide⟩ r _ _)

theorem lruA_row (k : ℕ) (hk : k = 1 ∨ k = 2 ∨ k = 4) (a : FVec Ideal S32x8x128 .f32) (g : Fin 32) (r : Fin 8) (l : Fin 128) :
    lruA (BitVec.ofNat 32 k) a (ix3 g r l) = a (ix3 g r l) * (if k ≤ r.val then a (ix3 g (wrap k r) l) else 1) := by
  rcases hk with rfl | rfl | rfl <;>
  · pointwise [lruA, lruSel]
    exact congrArg (a (ix3 g r l) * ·) (sel_le ⟨_, by decide⟩ r _ _)

theorem lruB_apply (k : ℕ) (hk : k = 1 ∨ k = 2 ∨ k = 4) (a b : FVec Ideal S32x8x128 .f32) (g : Fin 32) (l : Fin 128) (i : ℕ) (hi : i < 8) :
    col8 (lruB (BitVec.ofNat 32 k) a b) g l i = col8 b g l i + (if k ≤ i then col8 a g l i * col8 b g l (i - k) else 0) := by
  have hr : (row8 i).val = i := Nat.mod_eq_of_lt hi
  refine (lruB_row k hk a b g (row8 i) l).trans ?_
  rw [hr]
  by_cases h : k ≤ i
  · rw [if_pos h, if_pos h, wrap_row8 hi h]
  · rw [if_neg h, if_neg h]

theorem lruA_apply (k : ℕ) (hk : k = 1 ∨ k = 2 ∨ k = 4) (a : FVec Ideal S32x8x128 .f32) (g : Fin 32) (l : Fin 128) (i : ℕ) (hi : i < 8) :
    col8 (lruA (BitVec.ofNat 32 k) a) g l i = col8 a g l i * (if k ≤ i then col8 a g l (i - k) else 1) := by
  have hr : (row8 i).val = i := Nat.mod_eq_of_lt hi
  refine (lruA_row k hk a g (row8 i) l).trans ?_
  rw [hr]
  by_cases h : k ≤ i
  · rw [if_pos h, if_pos h, wrap_row8 hi h]
  · rw [if_neg h, if_neg h]

/-- Three doublings carry a group's state over its rows. -/
theorem scanned (a b : FVec Ideal S32x8x128 .f32) (g : Fin 32) (l : Fin 128) (h : EReal) (ha : ∀ i < 8, NN (col8 a g l i)) (i : ℕ) (hi : i < 8) :
    col8 (lruB 4#32 (lruA 2#32 (lruA 1#32 a)) (lruB 2#32 (lruA 1#32 a) (lruB 1#32 a b))) g l i
      + col8 (lruA 4#32 (lruA 2#32 (lruA 1#32 a))) g l i * h = seqH (col8 a g l) (col8 b g l) h (i + 1) :=
  inv_eight (inv_double (inv_double (inv_double (inv_one _ _ h ha)
    (fun i hi => lruA_apply 1 (by decide) a g l i hi) (fun i hi => lruB_apply 1 (by decide) a b g l i hi))
    (fun i hi => lruA_apply 2 (by decide) _ g l i hi) (fun i hi => lruB_apply 2 (by decide) _ _ g l i hi))
    (fun i hi => lruA_apply 4 (by decide) _ g l i hi) (fun i hi => lruB_apply 4 (by decide) _ _ g l i hi)) i hi

theorem lruStep_apply (a b : FVec Ideal S32x8x128 .f32) (j : Fin 32) (h : FVec Ideal S1x128 .f32) (r : Fin 8) (l : Fin 128) :
    lruStep a b j.val h (ix2 r l) = b (ix3 j r l) + a (ix3 j r l) * h (ix2 0 l) := by
  have e : (⟨j.val % 32, by omega⟩ : Fin 32) = j := Fin.ext (Nat.mod_eq_of_lt j.isLt)
  pointwise [lruStep]
  rw [e]

/-- The groups one after another. -/
theorem lruH_apply (A B : FVec Ideal S32x8x128 .f32) (h0 : FVec Ideal S1x128 .f32) (l : Fin 128) (H : ℕ → EReal) (hh : h0 (ix2 0 l) = H 0)
    (hs : ∀ (g : Fin 32) (i : Fin 8), B (ix3 g i l) + A (ix3 g i l) * H (8 * g.val) = H (8 * g.val + i.val + 1)) :
    ∀ (j : ℕ) (hj : j < 32) (i : Fin 8), lruH A B h0 j (ix2 i l) = H (8 * j + i.val + 1)
  | 0, hj, i => by
    refine (lruStep_apply A B ⟨0, hj⟩ h0 i l).trans ?_
    rw [hh]; exact hs ⟨0, hj⟩ i
  | j + 1, hj, i => by
    refine (lruStep_apply A B ⟨j + 1, hj⟩ _ i l).trans ?_
    have e : extractStridedSlice S1x128 ![7, 0] (lruH A B h0 j) slices_S8x128_o7_0_S1x128 (ix2 0 l) = lruH A B h0 j (ix2 7 l) := by
      pointwise []
    rw [e, lruH_apply A B h0 l H hh hs j (by omega) 7]
    exact hs ⟨j + 1, hj⟩ i

theorem lruAll_apply (A B : FVec Ideal S32x8x128 .f32) (h0 : FVec Ideal S1x128 .f32) (r : Fin 256) (l : Fin 128) :
    lruAll A B h0 (ix2 r l) = lruH A B h0 (r.val / 8) (ix2 (row8 r.val) l) := by
  unfold lruAll
  refine (Idealize.ShloMosaic.concatenate_ofFn_apply (t := S256x128) (s₁ := S8x128) 0 (N := 32) (fun n => lruH A B h0 n.val) _ rfl 8 rfl (ix2 r l)
    ⟨r.val / 8, by omega⟩ rfl (ix2 (row8 r.val) l) rfl ?_)
  intro b hb
  fin_cases b
  · exact absurd rfl hb
  · rfl

/-- The scan is the recurrence. -/
theorem lruScan_apply (a b : FVec Ideal S256x128 .f32) (h0 : FVec Ideal S1x128 .f32) (ha : ∀ (r : Fin 256) (l : Fin 128), NN (a (ix2 r l)))
    (r : Fin 256) (l : Fin 128) :
    lruScan a b h0 (ix2 r l) = seqH (fun n => a (ix2 (row256 n) l)) (fun n => b (ix2 (row256 n) l)) (h0 (ix2 0 l)) (r.val + 1) := by
  unfold lruScan
  have hc : ∀ (f : FVec Ideal S256x128 .f32) (g : Fin 32) (i : ℕ), i < 8 →
      col8 (shapeCast S32x8x128 f shapeCasts_S256x128_S32x8x128) g l i = f (ix2 (row256 (8 * g.val + i)) l) := by
    intro f g i hi
    unfold col8
    pointwise []
    refine congrArg (fun s => f (ix2 s l)) (Fin.ext ?_)
    show g.val * 8 + i % 8 = (8 * g.val + i) % 256
    omega
  rw [lruAll_apply]
  rw [lruH_apply _ _ h0 l (seqH (fun n => a (ix2 (row256 n) l)) (fun n => b (ix2 (row256 n) l)) (h0 (ix2 0 l))) rfl ?_ (r.val / 8) (by omega)]
  · congr 1
    show 8 * (r.val / 8) + r.val % 8 + 1 = r.val + 1
    omega
  · intro g i
    have hi : row8 i.val = i := Fin.ext (Nat.mod_eq_of_lt i.isLt)
    have e := scanned (shapeCast S32x8x128 a shapeCasts_S256x128_S32x8x128) (shapeCast S32x8x128 b shapeCasts_S256x128_S32x8x128) g l
      (seqH (fun n => a (ix2 (row256 n) l)) (fun n => b (ix2 (row256 n) l)) (h0 (ix2 0 l)) (8 * g.val))
      (fun i hi => by rw [hc a g i hi]; exact ha _ _) i.val i.isLt
    unfold col8 at e
    rw [hi] at e
    refine e.trans ?_
    rw [add_assoc, ← seqH_from _ _ _ (8 * g.val)]
    exact seqH_congr _ _ (fun n hn => hc a g n (by omega)) (fun n hn => hc b g n (by omega))

end Cert.KernelIdeal.Own
-- ==== Proof.Mixers.LruVal.lean ====
/-
  The gated linear recurrence on a block: the state of each row is the recurrence over the block's decays and inputs, from the
  state carried, and the stored tile is the state times its gate.
-/
module

public import proofs.«01_k».proof.Proof.Mixers.LruScan

@[expose] public section

set_option maxRecDepth 16384

noncomputable section

namespace Cert.KernelIdeal.Own

open Cert.KernelIdeal Cert.KernelIdeal.Gen Cert.Spec
open Idealize.ShloMosaic Idealize.ShloMosaic.TcCoe

/-- The convolution of four taps with its bias, over carried rows `q`. -/
def lruConv (p : Fin 256 → Fin 1024 → EReal) (q : Fin 8 → Fin 1024 → EReal) (w : Fin 4 → Fin 1024 → EReal) (b : Fin 1024 → EReal)
    (r : Fin 256) (j : Fin 1024) : EReal :=
  back 5 (by decide) (fun s => p s j) (fun s => q s j) r * w 0 j + back 6 (by decide) (fun s => p s j) (fun s => q s j) r * w 1 j
    + back 7 (by decide) (fun s => p s j) (fun s => q s j) r * w 2 j + p r j * w 3 j + b j

theorem lruX_apply (x : Vec Ideal S256x128 .f32) (prev : Vec Ideal S8x128 .f32) (w : Vec Ideal S1x4x128 .f32) (b : Vec Ideal S1x1x128 .f32)
    (r : Fin 256) (l : Fin 128) : lruX (F := Ideal) x prev w b (ix2 r l)
      = back 5 (by decide) (fun s => x (ix2 s l)) (fun s => prev (ix2 s l)) r * w (ix3 0 0 l)
        + back 6 (by decide) (fun s => x (ix2 s l)) (fun s => prev (ix2 s l)) r * w (ix3 0 1 l)
        + back 7 (by decide) (fun s => x (ix2 s l)) (fun s => prev (ix2 s l)) r * w (ix3 0 2 l) + x (ix2 r l) * w (ix3 0 3 l) + b (ix3 0 0 l) := by
  pointwise [lruX, k0_pay42, k0_pay43, k0_pay44, k0_pay45, k0_pay46]
  by_cases h8 : r.val < 8
  · have e0 : (8 + r.val + 16 - 3) % 16 = r.val + 5 := by omega
    have e1 : (8 + r.val + 16 - 2) % 16 = r.val + 6 := by omega
    have e2 : (8 + r.val + 16 - 1) % 16 = r.val + 7 := by omega
    simp only [h8, dite_true, e0, e1, e2, back]
  · have e0 : (8 + (r.val - 8) + 256 - 3) % 256 = r.val + 5 - 8 := by omega
    have e1 : (8 + (r.val - 8) + 256 - 2) % 256 = r.val + 6 - 8 := by omega
    have e2 : (8 + (r.val - 8) + 256 - 1) % 256 = r.val + 7 - 8 := by omega
    have e3 : 8 + (r.val - 8) = r.val := by omega
    have n0 : ¬ r.val + 5 < 8 := by omega
    have n1 : ¬ r.val + 6 < 8 := by omega
    have n2 : ¬ r.val + 7 < 8 := by omega
    have e4 : (r.val + 256 - 3) % 256 = r.val + 5 - 8 := by omega
    have e5 : (r.val + 256 - 2) % 256 = r.val + 6 - 8 := by omega
    have e6 : (r.val + 256 - 1) % 256 = r.val + 7 - 8 := by omega
    simp only [h8, dite_false, e0, e1, e2, e3, e4, e5, e6, n0, n1, n2, back, Fin.eta]

theorem lruG_apply (x : FVec Ideal S256x128 .f32) (w : Vec Ideal S1x1x128x256 .f32) (r : Fin 256) (d : Fin 256) :
    lruG (F := Ideal) x w (ix2 r d) = ∑ c : Fin 128, x (ix2 r c) * w (ix4 0 0 c d) := by
  pointwise [lruG]

theorem lruR_apply (G : FVec Ideal S256x256 .f32) (b : Vec Ideal S1x1x128 .f32) (r : Fin 256) (l : Fin 128) :
    lruR (F := Ideal) G b (ix2 r l) = sigm (G (ix2 r ⟨l.val, by omega⟩) + b (ix3 0 0 l)) := by
  pointwise [lruR, lruSig, lruBias]
  unfold sigm; rw [zero_sub]

theorem lruI_apply (G : FVec Ideal S256x256 .f32) (b : Vec Ideal S1x1x128 .f32) (r : Fin 256) (l : Fin 128) :
    lruI (F := Ideal) G b (ix2 r l) = sigm (G (ix2 r ⟨128 + l.val, by omega⟩) + b (ix3 0 0 l)) := by
  pointwise [lruI, lruSig, lruBias]
  unfold sigm; rw [zero_sub]

theorem lruL_apply (sp : FVec Ideal S1x128 .f32) (R : FVec Ideal S256x128 .f32) (r : Fin 256) (l : Fin 128) :
    lruL (F := Ideal) sp R (ix2 r l) = logA (R (ix2 r l)) (sp (ix2 0 l)) := by
  pointwise [lruL]
  rfl

theorem lruM_apply (f : IVec S256x128 1) (la : FVec Ideal S256x128 .f32) (r : Fin 256) (l : Fin 128) :
    lruM (F := Ideal) f la (ix2 r l) = Scalar.select (f (ix2 r l)) 1 (multK (la (ix2 r l))) := by
  pointwise [lruM, lruM2]
  rfl

theorem softplus_apply (v : Vec Ideal S1x1x1024 .f32) (j : Fin 1024) : k0_pay7 (F := Ideal) v (ix2 0 j) = softplus (-(v (ix3 0 0 j))) := by
  pointwise [k0_pay7]
  show max (0 - _) 0 + Ideal.log1p (Ideal.exp (0 - max (0 - _) (-(0 - _)))) = _
  unfold softplus
  rw [zero_sub, zero_sub]

theorem coords_val : ∀ t : Fin cfg0.N, ((grid0.coords t) 0).val = t.val := (by decide +kernel : ∀ t : Fin grid0.N, ((grid0.coords t) 0).val = t.val)

theorem first_bit : ∀ t : Fin 32, ∀ r : Fin 256, IntOp.andi (IntOp.cmpi CmpIPredicate.eq (BitVec.ofNat 32 r.val) 0#32)
    (Scalar.cmpi CmpIPredicate.eq (BitVec.ofNat 32 t.val) 0#32) = BitVec.ofBool (decide (t.val = 0 ∧ r.val = 0)) := by decide +kernel

theorem first_apply (t : Fin cfg0.N) (r : Fin 256) (l : Fin 128) (x y : EReal) :
    Scalar.select (k0_pay8 (grid0.coords t) (ix2 r l)) x y = if decide (t.val = 0 ∧ r.val = 0) then x else y := by
  have e : k0_pay8 (grid0.coords t) (ix2 r l) = BitVec.ofBool (decide (t.val = 0 ∧ r.val = 0)) := by
    pointwise [k0_pay8]
    rw [coords_val]
    exact first_bit t r
  rw [e]
  cases decide (t.val = 0 ∧ r.val = 0) <;> rfl

/-! ### On a block's inputs -/

variable (m : (ℓ : Loc nD τ sig) → Buf (Elt Ideal) ℓ)

/-- The gate weights, the gate biases and the decay parameters a block reads. -/
def lruWg (c : Dev nD) (t : Fin cfg0.N) (g : Fin 8) (a : Fin 128) (d : Fin 256) : EReal := iblk m c 23 t (ix4 0 g a d)
def lruBg (c : Dev nD) (t : Fin cfg0.N) (j : Fin 2048) : EReal := iblk m c 24 t (ix3 0 0 j)
def lruAp (c : Dev nD) (t : Fin cfg0.N) (j : Fin 1024) : EReal := iblk m c 25 t (ix3 0 0 j)

/-- The convolved rows of a block over carried rows `q`. -/
def lruRow (c : Dev nD) (t : Fin cfg0.N) (q : Fin 8 → Fin 1024 → EReal) (r : Fin 256) (j : Fin 1024) : EReal :=
  lruConv (rc (iblk m c 8 t)) q (fun k j => iblk m c 21 t (ix3 0 k j)) (fun j => iblk m c 22 t (ix3 0 0 j)) r j

/-- The decays and inputs of a block. -/
def lruDec (c : Dev nD) (t : Fin cfg0.N) (q : Fin 8 → Fin 1024 → EReal) (j : Fin 1024) (n : ℕ) : EReal :=
  Ideal.exp (decL (lruRow m c t q (row256 n)) (lruWg m c t) (lruBg m c t) (lruAp m c t) j)
def lruInp (c : Dev nD) (t : Fin cfg0.N) (q : Fin 8 → Fin 1024 → EReal) (j : Fin 1024) (n : ℕ) : EReal :=
  inB (decide (t.val = 0 ∧ (row256 n).val = 0)) (lruRow m c t q (row256 n)) (lruWg m c t) (lruBg m c t) (lruAp m c t) j

/-- The state before row `n` of a block, from the carried state `h`. -/
def lruSt (c : Dev nD) (t : Fin cfg0.N) (q : Fin 8 → Fin 1024 → EReal) (h : Fin 1024 → EReal) (j : Fin 1024) (n : ℕ) : EReal :=
  seqH (lruDec m c t q j) (lruInp m c t q j) (h j) n

/-- The column at place `l` of group `g`. -/
abbrev gcol (g : Fin 8) (l : Fin 128) : Fin 1024 := ⟨128 * g.val + l.val, by omega⟩

theorem group_gcol (g : Fin 8) (l : Fin 128) : group (gcol g l) = g := Fin.ext (by show (128 * g.val + l.val) / 128 = g.val; omega)
theorem inGroup_gcol (g : Fin 8) (l : Fin 128) : inGroup (gcol g l) = l := Fin.ext (by show (128 * g.val + l.val) % 128 = l.val; omega)

theorem lruState_apply (c : Dev nD) (t : Fin cfg0.N) (g : Fin 8) (prev : Vec Ideal S8x128 .f32) (h0 : Vec Ideal S1x128 .f32)
    (q : Fin 8 → Fin 1024 → EReal) (h : Fin 1024 → EReal) (hq : ∀ (i : Fin 8) (l : Fin 128), prev (ix2 i l) = q i (gcol g l))
    (hh : ∀ l : Fin 128, h0 (ix2 0 l) = h (gcol g l)) (r : Fin 256) (l : Fin 128) :
    lruState m c t g prev h0 (ix2 r l) = lruSt m c t q h (gcol g l) (r.val + 1) := by
  unfold lruState lruHs
  set X := lruX (F := Ideal) (ld (hs0_8 t) (iblk m c 8 t) (colsR g)) prev
    (ld (hs0_21 t) (iblk m c 21 t) (Rect.unit ![0, 0, 128 * g.val] S1x4x128.size (inb_lruW g))) (ld (hs0_22 t) (iblk m c 22 t) (rowR g)) with hX
  have eX : ∀ (r : Fin 256) (l : Fin 128), X (ix2 r l) = lruRow m c t q r (gcol g l) := by
    intro r l
    rw [hX, lruX_apply]
    simp only [ld_all, hq]
    pointwise []
    rfl
  clear_value X
  set G := lruG (F := Ideal) X (ld (hs0_23 t) (iblk m c 23 t) (Rect.unit ![0, g.val, 0, 0] S1x1x128x256.size (inb_lruG g))) with hG
  have eG : ∀ (r : Fin 256) (d : Fin 256), G (ix2 r d) = gateAt (lruRow m c t q r) (lruWg m c t) g d := by
    intro r d
    rw [hG, lruG_apply]
    unfold gateAt lruWg
    refine Finset.sum_congr rfl fun k _ => ?_
    rw [eX, ld_all]
    pointwise []
  clear_value G
  set la := lruL (F := Ideal) (extractStridedSlice S1x128 ![0, 128 * g.val] (k0_pay7 (ld (hs0_25 t) (iblk m c 25 t)
      (Rect.unit ![0, 0, 0] S1x1x1024.size inb_S1x1x1024_S1x1x1024_0_0_0))) (slices_sp g))
    (lruR G (ld (hs0_24 t) (iblk m c 24 t) (Rect.unit ![0, 0, 128 * g.val] S1x1x128.size (inb_lruBr g)))) with hla
  have ela : ∀ (r : Fin 256) (l : Fin 128), la (ix2 r l) = decL (lruRow m c t q r) (lruWg m c t) (lruBg m c t) (lruAp m c t) (gcol g l) := by
    intro r l
    have es : extractStridedSlice S1x128 ![0, 128 * g.val] (k0_pay7 (F := Ideal) (ld (hs0_25 t) (iblk m c 25 t)
        (Rect.unit ![0, 0, 0] S1x1x1024.size inb_S1x1x1024_S1x1x1024_0_0_0))) (slices_sp g) (ix2 0 l) = softplus (-(lruAp m c t (gcol g l))) := by
      pointwise []
      rw [softplus_apply, ld_all]
      pointwise []
      rfl
    rw [hla, lruL_apply, lruR_apply, es, eG, ld_all]
    pointwise []
    unfold decL lruBg
    simp only [group_gcol, inGroup_gcol]
  clear_value la
  have ea : ∀ (r : Fin 256) (l : Fin 128), exp (F := Ideal) la (ix2 r l) = Ideal.exp (la (ix2 r l)) := fun r l => rfl
  rw [lruScan_apply _ _ _ (fun r l => by rw [ea, ela]; exact exp_nn (decL_nonpos _ _ _ _ _)), hh]
  unfold lruSt
  refine seqH_congr _ _ (fun n _ => ?_) (fun n _ => ?_)
  · rw [ea, ela]; rfl
  · have eb : ∀ (M I : FVec Ideal S256x128 .f32) (r : Fin 256), mulf (mulf M I) X (ix2 r l) = M (ix2 r l) * I (ix2 r l) * X (ix2 r l) := fun M I r => rfl
    rw [eb, lruM_apply, lruI_apply, first_apply, ela, eG, eX, mult_eq (decL_nonpos _ _ _ _ _), ld_all]
    pointwise []
    unfold lruInp inB lruBg
    have ei : (⟨1024 + 128 * g.val + l.val, by omega⟩ : Fin 2048) = ⟨1024 + (gcol g l).val, by omega⟩ :=
      Fin.ext (by show 1024 + 128 * g.val + l.val = 1024 + (128 * g.val + l.val); omega)
    simp only [group_gcol, inGroup_gcol, ei]

/-- The recurrence's rows of a block's output, as one function of the output's index. -/
def lruOutAt (c : Dev nD) (t : Fin cfg0.N) (q : Fin 8 → Fin 1024 → EReal) (h : Fin 1024 → EReal) (y : S4x256x1024.Idx) : EReal :=
  lruSt m c t q h (y 2) ((y 1).val + 1) * siluK (rc (iblk m c 9 t) (y 1) (y 2))

theorem lruTile_apply (c : Dev nD) (t : Fin cfg0.N) (g : Fin 8) (prev : Vec Ideal S8x128 .f32) (h0 : Vec Ideal S1x128 .f32)
    (q : Fin 8 → Fin 1024 → EReal) (h : Fin 1024 → EReal) (hq : ∀ (i : Fin 8) (l : Fin 128), prev (ix2 i l) = q i (gcol g l))
    (hh : ∀ l : Fin 128, h0 (ix2 0 l) = h (gcol g l)) (r : Fin 256) (l : Fin 128) :
    lruTile m c t g prev h0 (ix3 0 r l) = lruSt m c t q h (gcol g l) (r.val + 1) * siluK (rc (iblk m c 9 t) r (gcol g l)) := by
  unfold lruTile
  pointwise [lruOut, lruSig]
  rw [lruState_apply m c t g prev h0 q h hq hh, ld_all]
  pointwise []
  rfl

theorem inb_lruO (g : Fin 8) :
    ∀ a, (![2, 0, 128 * g.val] : Fin S4x256x1024.rank → ℕ) a + S1x256x128.size a ≤ S4x256x1024.size a := by revert g; decide

theorem lru_ok (c : Dev nD) (t : Fin cfg0.N) (g : Fin 8) (prev : Vec Ideal S8x128 .f32) (h0 : Vec Ideal S1x128 .f32)
    (q : Fin 8 → Fin 1024 → EReal) (h : Fin 1024 → EReal) (hq : ∀ (i : Fin 8) (l : Fin 128), prev (ix2 i l) = q i (gcol g l))
    (hh : ∀ l : Fin 128, h0 (ix2 0 l) = h (gcol g l)) :
    Ok 2 (lruOutAt m c t q h) ⟨Rect.unit ![2, 0, 128 * g.val] S1x256x128.size (inb_lruO g), lruTile m c t g prev h0⟩ := by
  refine ok_at _ (by decide) _ _ fun r l h1 h2 => (lruTile_apply m c t g prev h0 q h hq hh r l).trans ?_
  unfold lruOutAt
  exact congrArg (fun r : Fin 256 => lruSt m c t q h (gcol g l) (r.val + 1) * siluK (rc (iblk m c 9 t) r (gcol g l))) (Fin.ext (Nat.zero_add _).symm)

/-- The rows carried on: the last eight of the block's input; the state carried on: the state after the last row. -/
def lruTail (c : Dev nD) (t : Fin cfg0.N) (y : S8x1024.Idx) : EReal :=
  rc (iblk m c 8 t) ⟨248 + (y 0).val, by have : (y 0).val < 8 := (y 0).isLt; omega⟩ (y 1)
def lruCarry (c : Dev nD) (t : Fin cfg0.N) (q : Fin 8 → Fin 1024 → EReal) (h : Fin 1024 → EReal) (y : S1x1024.Idx) : EReal :=
  lruSt m c t q h (y 1) 256

theorem lruKeep_apply (c : Dev nD) (t : Fin cfg0.N) (g : Fin 8) (i : Fin 8) (l : Fin 128) :
    lruKeep m c t g (ix2 i l) = rc (iblk m c 8 t) ⟨248 + i, by omega⟩ (gcol g l) := by
  unfold lruKeep
  pointwise [k0_pay47]
  simp only [ld_all]
  pointwise []

theorem lru_keep (c : Dev nD) (t : Fin cfg0.N) (g : Fin 8) (x : S8x128.Idx) :
    lruKeep m c t g x = lruTail m c t ((prevR g).emb x) := by
  have e : x = ix2 (n0 := 8) (n1 := 128) (x 0) (x 1) := (ix2_eta (n0 := 8) (n1 := 128) x).symm
  refine (congrArg (lruKeep m c t g) e).trans ((lruKeep_apply m c t g (x 0) (x 1)).trans ?_)
  unfold lruTail
  congr 1
  · exact Fin.ext (by show 248 + (x 0).val = 248 + (0 + 1 * (x 0).val); omega)
  · exact Fin.ext (by show 128 * g.val + (x 1).val = 128 * g.val + 1 * (x 1).val; omega)

theorem lru_last (c : Dev nD) (t : Fin cfg0.N) (g : Fin 8) (prev : Vec Ideal S8x128 .f32) (h0 : Vec Ideal S1x128 .f32)
    (q : Fin 8 → Fin 1024 → EReal) (h : Fin 1024 → EReal) (hq : ∀ (i : Fin 8) (l : Fin 128), prev (ix2 i l) = q i (gcol g l))
    (hh : ∀ l : Fin 128, h0 (ix2 0 l) = h (gcol g l)) (x : S1x128.Idx) :
    lruLast m c t g prev h0 x = lruCarry m c t q h ((carR g).emb x) := by
  have e0 : x = ix2 (n0 := 1) (n1 := 128) 0 (x 1) := by
    refine (ix2_eta (n0 := 1) (n1 := 128) x).symm.trans ?_
    exact congrArg (fun a : Fin 1 => ix2 (n0 := 1) (n1 := 128) a (x 1)) (Subsingleton.elim _ _)
  have e : ∀ l : Fin 128, lruLast m c t g prev h0 (ix2 0 l) = lruSt m c t q h (gcol g l) 256 := by
    intro l
    unfold lruLast
    pointwise []
    exact lruState_apply m c t g prev h0 q h hq hh 255 l
  refine (congrArg (lruLast m c t g prev h0) e0).trans ((e (x 1)).trans ?_)
  unfold lruCarry
  refine congrArg (fun j => lruSt m c t q h j 256) (Fin.ext ?_)
  show 128 * g.val + (x 1).val = 128 * g.val + 1 * (x 1).val
  omega

end Cert.KernelIdeal.Own
-- ==== Proof.Mixers.LruBranch.lean ====
/-
  What a block leaves of the gated linear recurrence: the branch of its output, the rows and the state carried on; and so what
  every block leaves, from the first.
-/
module

public import proofs.«01_k».proof.Proof.Mixers.LruVal
public import proofs.«01_k».proof.Proof.Mixers.Branches

@[expose] public section

set_option maxRecDepth 16384

noncomputable section

namespace Cert.KernelIdeal.Own

open Cert.KernelIdeal Cert.KernelIdeal.Gen Cert.Spec
open Idealize.ShloMosaic Idealize.ShloMosaic.TcCoe

variable (m : (ℓ : Loc nD τ sig) → Buf (Elt Ideal) ℓ)

/-- The carried state, by column. -/
abbrev row1 (X : Vec Ideal S1x1024 .f32) (j : Fin 1024) : EReal := X (ix2 0 j)

theorem ld_car {M : Memref sig .tc .vmem S1x1024 .f32} (h : M.IsWhole) (X : Vec Ideal S1x1024 .f32) (g : Fin 8) (l : Fin 128) :
    ld (F := Ideal) h X (carR g) (ix2 0 l) = row1 X (gcol g l) := by
  rw [ld_all]; pointwise []

/-! ### A later block -/

/-- The rows and the state group `g` reads. -/
abbrev prevB (s : Left Ideal) (g : Fin 8) : Vec Ideal S8x128 .f32 := ld (F := Ideal) (Memref.isWhole_whole cc0_scratch2) s.2.2.2.1 (prevR g)
abbrev carB (s : Left Ideal) (g : Fin 8) : Vec Ideal S1x128 .f32 := ld (F := Ideal) (Memref.isWhole_whole cc0_scratch3) s.2.2.2.2.1 (carR g)

theorem branchB_lru (c : Dev nD) (t : Fin cfg0.N) (h) (s : Left Ideal) :
    ∀ p ∈ (runB m c t h s).1, Ok 2 (lruOutAt m c t (rows8 s.2.2.2.1) (row1 s.2.2.2.2.1)) p := by
  have lruB (g : Fin 8) := lru_ok m c t g (prevB s g) (carB s g) (rows8 s.2.2.2.1) (row1 s.2.2.2.2.1)
    (ld_prev (Memref.isWhole_whole cc0_scratch2) s.2.2.2.1 g) (ld_car (Memref.isWhole_whole cc0_scratch3) s.2.2.2.2.1 g)
  unfold runB kernelRun0_B
  exact
    cons (off) <| cons (off) <| cons (lruB 7) <| cons (off) <| cons (off) <| cons (off) <| cons (lruB 6) <| cons (off) <|
    cons (off) <| cons (off) <| cons (off) <| cons (off) <| cons (off) <| cons (off) <| cons (off) <| cons (off) <|
    cons (off) <| cons (off) <| cons (lruB 5) <| cons (off) <| cons (off) <| cons (off) <| cons (lruB 4) <| cons (off) <|
    cons (off) <| cons (off) <| cons (lruB 3) <| cons (off) <| cons (off) <| cons (off) <| cons (lruB 2) <| cons (off) <|
    cons (off) <| cons (off) <| cons (off) <| cons (off) <| cons (off) <| cons (off) <| cons (off) <| cons (off) <|
    cons (off) <| cons (off) <| cons (lruB 1) <| cons (off) <| cons (off) <| cons (off) <| cons (lruB 0) <| cons (off) <| nil

/-- The stores of the carried rows and of the carried state of the groups `gs`. -/
def tails (c : Dev nD) (t : Fin cfg0.N) (gs : List (Fin 8)) : List (View.Piece (Elt Ideal) S8x1024 .f32) :=
  gs.map fun g => ⟨prevR g, lruKeep m c t g⟩
def lasts (c : Dev nD) (t : Fin cfg0.N) (prev : Fin 8 → Vec Ideal S8x128 .f32) (h0 : Fin 8 → Vec Ideal S1x128 .f32) (gs : List (Fin 8)) :
    List (View.Piece (Elt Ideal) S1x1024 .f32) := gs.map fun g => ⟨carR g, lruLast m c t g (prev g) (h0 g)⟩

theorem tailsB (c : Dev nD) (t : Fin cfg0.N) (h) (s : Left Ideal) :
    (runB m c t h s).2.2.2.1 = tails m c t [7, 6, 5, 4, 3, 2, 1, 0] := by
  unfold runB kernelRun0_B; rfl

theorem lastsB (c : Dev nD) (t : Fin cfg0.N) (h) (s : Left Ideal) :
    (runB m c t h s).2.2.2.2.1 = lasts m c t (prevB s) (carB s) [7, 6, 5, 4, 3, 2, 1, 0] := by
  unfold runB kernelRun0_B; rfl

theorem tails_cover (y : S8x1024.Idx) (c : Dev nD) (t : Fin cfg0.N) : ∃ p ∈ tails m c t [7, 6, 5, 4, 3, 2, 1, 0], y ∈ p.1.set := by
  obtain ⟨p, hp, hy⟩ := keeps_cover m y c t
  obtain ⟨g, hg, rfl⟩ := List.mem_map.1 hp
  exact ⟨_, List.mem_map.2 ⟨g, hg, rfl⟩, hy⟩

theorem tails_canon (c : Dev nD) (t : Fin cfg0.N) (L' : List (View.Piece (Elt Ideal) S8x1024 .f32)) :
    View.canon (tails m c t [7, 6, 5, 4, 3, 2, 1, 0] ++ L') = lruTail m c t := by
  funext y
  refine canon_on (fun _ => True) (lruTail m c t) L' _ ?_ y trivial (tails_cover m y c t)
  intro p hp x _
  obtain ⟨g, _, rfl⟩ := List.mem_map.1 hp
  exact lru_keep m c t g x

theorem lasts_cover (y : S1x1024.Idx) (c : Dev nD) (t : Fin cfg0.N) (prev h0) :
    ∃ p ∈ lasts m c t prev h0 [7, 6, 5, 4, 3, 2, 1, 0], y ∈ p.1.set := by
  have h0 : (y 0).val < 1 := (y 0).isLt
  have h1 : (y 1).val < 1024 := (y 1).isLt
  refine ⟨_, List.mem_map.2 ⟨⟨(y 1).val / 128, by omega⟩, ?_, rfl⟩, ?_⟩
  · generalize (⟨(y 1).val / 128, _⟩ : Fin 8) = g
    revert g; decide
  · rw [Rect.mem_set_unit]
    intro a
    fin_cases a
    · show 0 ≤ (y 0).val ∧ (y 0).val < 0 + 1; omega
    · show 128 * ((y 1).val / 128) ≤ (y 1).val ∧ (y 1).val < 128 * ((y 1).val / 128) + 128; omega

theorem lasts_canon (c : Dev nD) (t : Fin cfg0.N) (prev : Fin 8 → Vec Ideal S8x128 .f32) (h0 : Fin 8 → Vec Ideal S1x128 .f32)
    (q : Fin 8 → Fin 1024 → EReal) (h : Fin 1024 → EReal) (hq : ∀ (g i : Fin 8) (l : Fin 128), prev g (ix2 i l) = q i (gcol g l))
    (hh : ∀ (g : Fin 8) (l : Fin 128), h0 g (ix2 0 l) = h (gcol g l)) (L' : List (View.Piece (Elt Ideal) S1x1024 .f32)) :
    View.canon (lasts m c t prev h0 [7, 6, 5, 4, 3, 2, 1, 0] ++ L') = lruCarry m c t q h := by
  funext y
  refine canon_on (fun _ => True) (lruCarry m c t q h) L' _ ?_ y trivial (lasts_cover m y c t prev h0)
  intro p hp x _
  obtain ⟨g, _, rfl⟩ := List.mem_map.1 hp
  exact lru_last m c t g (prev g) (h0 g) q h (hq g) (hh g) x

/-! ### The first block: what is carried is zero -/

def cleared1 : List (View.Piece (Elt Ideal) S1x1024 .f32) := [⟨Rect.unit ![0, 0] S1x1024.size inb_S1x1024_S1x1024_0_0, k0_pay5 (F := Ideal)⟩]
def cleared8' : List (View.Piece (Elt Ideal) S8x1024 .f32) := [⟨Rect.unit ![0, 0] S8x1024.size inb_S8x1024_S8x1024_0_0, k0_pay4 (F := Ideal)⟩]

theorem k0_pay4_apply (y : S8x1024.Idx) : k0_pay4 (F := Ideal) y = (0 : EReal) := by pointwise [k0_pay4]
theorem k0_pay5_apply (y : S1x1024.Idx) : k0_pay5 (F := Ideal) y = (0 : EReal) := by pointwise [k0_pay5]

theorem cleared8'_cover (L : List (View.Piece (Elt Ideal) S8x1024 .f32)) (y : S8x1024.Idx) : ∃ p ∈ L ++ cleared8', y ∈ p.1.set :=
  ⟨_, List.mem_append_right _ (List.mem_singleton_self _), View.mem_set_unit_zero (by funext a; fin_cases a <;> rfl) inb_S8x1024_S8x1024_0_0 y⟩
theorem cleared1_cover (L : List (View.Piece (Elt Ideal) S1x1024 .f32)) (y : S1x1024.Idx) : ∃ p ∈ L ++ cleared1, y ∈ p.1.set :=
  ⟨_, List.mem_append_right _ (List.mem_singleton_self _), View.mem_set_unit_zero (by funext a; fin_cases a <;> rfl) inb_S1x1024_S1x1024_0_0 y⟩

/-- Pieces stored over a cleared buffer, by the groups before `n` in turn. -/
inductive Stored8 : ℕ → List (View.Piece (Elt Ideal) S8x1024 .f32) → Prop
  | z : Stored8 0 cleared8'
  | s (n : ℕ) (L) (w : Vec Ideal S8x128 .f32) : Stored8 n L → Stored8 (n + 1) (⟨prevR (Fin.ofNat 8 n), w⟩ :: L)
inductive Stored1 : ℕ → List (View.Piece (Elt Ideal) S1x1024 .f32) → Prop
  | z : Stored1 0 cleared1
  | s (n : ℕ) (L) (w : Vec Ideal S1x128 .f32) : Stored1 n L → Stored1 (n + 1) (⟨carR (Fin.ofNat 8 n), w⟩ :: L)

theorem Stored8.zero {n : ℕ} {L} (h : Stored8 n L) (hn : n ≤ 8) :
    (∀ y : S8x1024.Idx, ∃ p ∈ L, y ∈ p.1.set) ∧ ∀ p ∈ L, ∀ x, 128 * n ≤ (p.1.emb x (1 : Fin 2)).val → p.2 x = (0 : EReal) := by
  induction h with
  | z =>
    refine ⟨cleared8'_cover [], fun p hp x _ => ?_⟩
    obtain rfl := List.mem_singleton.1 (show p ∈ [_] from hp)
    exact k0_pay4_apply x
  | s n L w _ ih =>
    obtain ⟨i1, i2⟩ := ih (by omega)
    refine ⟨fun y => (i1 y).imp fun p hp => ⟨List.mem_cons_of_mem _ hp.1, hp.2⟩, fun p hp x hx => ?_⟩
    rcases List.mem_cons.1 hp with rfl | hp
    · have h1 : ((prevR (Fin.ofNat 8 n)).emb x 1).val = 128 * (n % 8) + 1 * (x 1).val := rfl
      have h2 : (x 1).val < 128 := (x 1).isLt
      have h3 := h1 ▸ hx
      have h4 : n % 8 = n := Nat.mod_eq_of_lt (by omega)
      exact absurd h3 (by omega)
    · exact i2 p hp x (by omega)

theorem Stored1.zero {n : ℕ} {L} (h : Stored1 n L) (hn : n ≤ 8) :
    (∀ y : S1x1024.Idx, ∃ p ∈ L, y ∈ p.1.set) ∧ ∀ p ∈ L, ∀ x, 128 * n ≤ (p.1.emb x (1 : Fin 2)).val → p.2 x = (0 : EReal) := by
  induction h with
  | z =>
    refine ⟨cleared1_cover [], fun p hp x _ => ?_⟩
    obtain rfl := List.mem_singleton.1 (show p ∈ [_] from hp)
    exact k0_pay5_apply x
  | s n L w _ ih =>
    obtain ⟨i1, i2⟩ := ih (by omega)
    refine ⟨fun y => (i1 y).imp fun p hp => ⟨List.mem_cons_of_mem _ hp.1, hp.2⟩, fun p hp x hx => ?_⟩
    rcases List.mem_cons.1 hp with rfl | hp
    · have h1 : ((carR (Fin.ofNat 8 n)).emb x 1).val = 128 * (n % 8) + 1 * (x 1).val := rfl
      have h2 : (x 1).val < 128 := (x 1).isLt
      have h3 := h1 ▸ hx
      have h4 : n % 8 = n := Nat.mod_eq_of_lt (by omega)
      exact absurd h3 (by omega)
    · exact i2 p hp x (by omega)

/-- What group `g` reads of the carried rows and of the carried state, after the pieces `L`. -/
abbrev prevF (L : List (View.Piece (Elt Ideal) S8x1024 .f32)) (g : Fin 8) : Vec Ideal S8x128 .f32 :=
  scM0_2.view.readCov L (prevR g).toLoadRect
abbrev carF (L : List (View.Piece (Elt Ideal) S1x1024 .f32)) (g : Fin 8) : Vec Ideal S1x128 .f32 :=
  scM0_3.view.readCov L (carR g).toLoadRect

theorem prevF_zero (L : List (View.Piece (Elt Ideal) S8x1024 .f32)) (g : Fin 8) (hL : Stored8 g.val L) (i : Fin 8) (l : Fin 128) :
    prevF L g (ix2 i l) = (0 : EReal) := by
  obtain ⟨hc, hz⟩ := hL.zero (by omega)
  unfold prevF
  rw [View.readCov_eq_canon_ld _ _ _ hc]
  have e := canon_on (S := S8x1024) (e := .f32) (fun y => 128 * g.val ≤ (y 1).val) (fun _ => (0 : EReal)) [] L
    (fun p hp x hx => hz p hp x hx)
    ((prevR g).emb (ix2 (n0 := 8) (n1 := 128) i l)) (by show 128 * g.val ≤ 128 * g.val + 1 * l.val; omega) (hc _)
  rw [List.append_nil] at e
  exact e

theorem carF_zero (L : List (View.Piece (Elt Ideal) S1x1024 .f32)) (g : Fin 8) (hL : Stored1 g.val L) (l : Fin 128) :
    carF L g (ix2 0 l) = (0 : EReal) := by
  obtain ⟨hc, hz⟩ := hL.zero (by omega)
  unfold carF
  rw [View.readCov_eq_canon_ld _ _ _ hc]
  have e := canon_on (S := S1x1024) (e := .f32) (fun y => 128 * g.val ≤ (y 1).val) (fun _ => (0 : EReal)) [] L
    (fun p hp x hx => hz p hp x hx)
    ((carR g).emb (ix2 (n0 := 1) (n1 := 128) 0 l)) (by show 128 * g.val ≤ 128 * g.val + 1 * l.val; omega) (hc _)
  rw [List.append_nil] at e
  exact e

theorem lruA_ok (c : Dev nD) (t : Fin cfg0.N) (g : Fin 8) (L8 L1)
    (h8 : Stored8 g.val L8 := by repeat (first | exact Stored8.z | apply Stored8.s))
    (h1 : Stored1 g.val L1 := by repeat (first | exact Stored1.z | apply Stored1.s)) :
    Ok 2 (lruOutAt m c t (fun _ _ => 0) (fun _ => 0))
      ⟨Rect.unit ![2, 0, 128 * g.val] S1x256x128.size (inb_lruO g), lruTile m c t g (prevF L8 g) (carF L1 g)⟩ :=
  lru_ok m c t g _ _ _ _ (prevF_zero L8 g h8) (carF_zero L1 g h1)

/-- `w` is the state carried out of the first block, in group `g`. -/
def Last (c : Dev nD) (t : Fin cfg0.N) (g : Fin 8) (w : Vec Ideal S1x128 .f32) : Prop :=
  ∀ x, w x = lruCarry m c t (fun _ _ => 0) (fun _ => 0) ((carR g).emb x)

theorem lruA_last (c : Dev nD) (t : Fin cfg0.N) (g : Fin 8) (L8 L1)
    (h8 : Stored8 g.val L8 := by repeat (first | exact Stored8.z | apply Stored8.s))
    (h1 : Stored1 g.val L1 := by repeat (first | exact Stored1.z | apply Stored1.s)) :
    Last m c t g (lruLast m c t g (prevF L8 g) (carF L1 g)) :=
  lru_last m c t g _ _ _ _ (prevF_zero L8 g h8) (carF_zero L1 g h1)

theorem branchA_lru (c : Dev nD) (t : Fin cfg0.N) (h) :
    ∀ p ∈ (runA m c t h).1, Ok 2 (lruOutAt m c t (fun _ _ => 0) (fun _ => 0)) p := by
  unfold runA kernelRun0_A
  exact
    cons (off) <| cons (off) <| cons (lruA_ok m c t 7 _ _) <| cons (off) <| cons (off) <| cons (off) <| cons (lruA_ok m c t 6 _ _) <| cons (off) <|
    cons (off) <| cons (off) <| cons (off) <| cons (off) <| cons (off) <| cons (off) <| cons (off) <| cons (off) <|
    cons (off) <| cons (off) <| cons (lruA_ok m c t 5 _ _) <| cons (off) <| cons (off) <| cons (off) <| cons (lruA_ok m c t 4 _ _) <| cons (off) <|
    cons (off) <| cons (off) <| cons (lruA_ok m c t 3 _ _) <| cons (off) <| cons (off) <| cons (off) <| cons (lruA_ok m c t 2 _ _) <| cons (off) <|
    cons (off) <| cons (off) <| cons (off) <| cons (off) <| cons (off) <| cons (off) <| cons (off) <| cons (off) <|
    cons (off) <| cons (off) <| cons (lruA_ok m c t 1 _ _) <| cons (off) <| cons (off) <| cons (off) <| cons (lruA_ok m c t 0 _ _) <| cons (off) <| nil

theorem tailsA (c : Dev nD) (t : Fin cfg0.N) (h) :
    (runA m c t h).2.2.2.1 = tails m c t [7, 6, 5, 4, 3, 2, 1, 0] ++ cleared8' := by
  unfold runA kernelRun0_A; rfl

/-! ### What every block leaves -/

theorem outB_lru (c : Dev nD) (t : Fin cfg0.N) (h) (s : Left Ideal) (y : S4x256x1024.Idx) (hy : (y 0).val = 2) :
    (leftB m c t h s).1 y = lruOutAt m c t (rows8 s.2.2.2.1) (row1 s.2.2.2.2.1) y := by
  rw [outB_eq]; exact canon_ok (branchB_lru m c t h s) (coverB0 m c t h s) y hy

theorem outA_lru (c : Dev nD) (t : Fin cfg0.N) (h) (y : S4x256x1024.Idx) (hy : (y 0).val = 2) :
    (leftA m c t h).1 y = lruOutAt m c t (fun _ _ => 0) (fun _ => 0) y := by
  rw [outA_eq]; exact canon_ok (branchA_lru m c t h) (coverA0 m c t h) y hy

theorem tailB_lru (c : Dev nD) (t : Fin cfg0.N) (h) (s : Left Ideal) : (leftB m c t h s).2.2.2.1 = lruTail m c t := by
  unfold leftB
  refine (View.read_writes_junk_eq_canon (Val := Elt Ideal) VS0_2 (runB m c t h s).2.2.2.1).trans ?_
  rw [tailsB, ← List.append_nil (tails m c t _), tails_canon]

theorem tailA_lru (c : Dev nD) (t : Fin cfg0.N) (h) : (leftA m c t h).2.2.2.1 = lruTail m c t := by
  unfold leftA
  refine (View.read_writes_junk_eq_canon (Val := Elt Ideal) VS0_2 (runA m c t h).2.2.2.1).trans ?_
  rw [tailsA, tails_canon]

theorem carryB_lru (c : Dev nD) (t : Fin cfg0.N) (h) (s : Left Ideal) :
    (leftB m c t h s).2.2.2.2.1 = lruCarry m c t (rows8 s.2.2.2.1) (row1 s.2.2.2.2.1) := by
  unfold leftB
  refine (View.read_writes_junk_eq_canon (Val := Elt Ideal) VS0_3 (runB m c t h s).2.2.2.2.1).trans ?_
  rw [lastsB, ← List.append_nil (lasts m c t _ _ _)]
  exact lasts_canon m c t _ _ _ _ (fun g => ld_prev (Memref.isWhole_whole cc0_scratch2) s.2.2.2.1 g)
    (fun g => ld_car (Memref.isWhole_whole cc0_scratch3) s.2.2.2.2.1 g) _

theorem carA_canon (c : Dev nD) (t : Fin cfg0.N) {w0 w1 w2 w3 w4 w5 w6 w7 : Vec Ideal S1x128 .f32}
    {L : List (View.Piece (Elt Ideal) S1x1024 .f32)}
    (hL : L = [⟨carR 7, w7⟩, ⟨carR 6, w6⟩, ⟨carR 5, w5⟩, ⟨carR 4, w4⟩, ⟨carR 3, w3⟩, ⟨carR 2, w2⟩, ⟨carR 1, w1⟩, ⟨carR 0, w0⟩] ++ cleared1)
    (h0 : Last m c t 0 w0) (h1 : Last m c t 1 w1) (h2 : Last m c t 2 w2) (h3 : Last m c t 3 w3)
    (h4 : Last m c t 4 w4) (h5 : Last m c t 5 w5) (h6 : Last m c t 6 w6) (h7 : Last m c t 7 w7) :
    View.canon L = lruCarry m c t (fun _ _ => 0) (fun _ => 0) := by
  subst hL
  funext y
  have hw : ∀ g : Fin 8, Last m c t g ((![w0, w1, w2, w3, w4, w5, w6, w7] : Fin 8 → Vec Ideal S1x128 .f32) g) := by
    intro g; fin_cases g <;> assumption
  refine canon_on (fun _ => True) (lruCarry m c t (fun _ _ => 0) (fun _ => 0)) cleared1
    (([7, 6, 5, 4, 3, 2, 1, 0] : List (Fin 8)).map fun g => ⟨carR g, (![w0, w1, w2, w3, w4, w5, w6, w7] : Fin 8 → Vec Ideal S1x128 .f32) g⟩) ?_ y trivial ?_
  · intro p hp x _
    obtain ⟨g, _, rfl⟩ := List.mem_map.1 hp
    exact hw g x
  · obtain ⟨p, hp, hy⟩ := lasts_cover m y c t (fun _ _ => 0) (fun _ _ => 0)
    obtain ⟨g, hg, rfl⟩ := List.mem_map.1 hp
    exact ⟨_, List.mem_map.2 ⟨g, hg, rfl⟩, hy⟩

theorem carryA_lru (c : Dev nD) (t : Fin cfg0.N) (h) :
    (leftA m c t h).2.2.2.2.1 = lruCarry m c t (fun _ _ => 0) (fun _ => 0) := by
  unfold leftA
  refine (View.read_writes_junk_eq_canon (Val := Elt Ideal) VS0_3 (runA m c t h).2.2.2.2.1).trans ?_
  unfold runA kernelRun0_A
  exact carA_canon m c t rfl (lruA_last m c t 0 _ _) (lruA_last m c t 1 _ _) (lruA_last m c t 2 _ _) (lruA_last m c t 3 _ _)
    (lruA_last m c t 4 _ _) (lruA_last m c t 5 _ _) (lruA_last m c t 6 _ _) (lruA_last m c t 7 _ _)

/-- The eight rows and the state before block `n`: zeros before the first. -/
def lruRows (c : Dev nD) : (n : ℕ) → n < cfg0.N → Fin 8 → Fin 1024 → EReal
  | 0, _ => fun _ _ => 0
  | n + 1, hn => rows8 (lruTail m c ⟨n, Nat.lt_of_succ_lt hn⟩)

def lruStart (c : Dev nD) : (n : ℕ) → n < cfg0.N → Fin 1024 → EReal
  | 0, _ => fun _ => 0
  | n + 1, hn => row1 (lruCarry m c ⟨n, Nat.lt_of_succ_lt hn⟩ (lruRows m c n (Nat.lt_of_succ_lt hn)) (lruStart c n (Nat.lt_of_succ_lt hn)))

theorem left_tail (c : Dev nD) (n : ℕ) (hn : n < cfg0.N) : (left m c n hn).2.2.2.1 = lruTail m c ⟨n, hn⟩ := by
  cases n with
  | zero => exact tailA_lru m c _ _
  | succ n => exact tailB_lru m c _ _ _

theorem left_state (c : Dev nD) (n : ℕ) (hn : n < cfg0.N) :
    (left m c n hn).2.2.2.2.1 = lruCarry m c ⟨n, hn⟩ (lruRows m c n hn) (lruStart m c n hn) := by
  induction n with
  | zero => exact carryA_lru m c _ _
  | succ n ih =>
    refine (carryB_lru m c _ _ _).trans ?_
    rw [left_tail m c n, ih]
    rfl

theorem left_lru (c : Dev nD) (n : ℕ) (hn : n < cfg0.N) (y : S4x256x1024.Idx) (hy : (y 0).val = 2) :
    (left m c n hn).1 y = lruOutAt m c ⟨n, hn⟩ (lruRows m c n hn) (lruStart m c n hn) y := by
  cases n with
  | zero => exact outA_lru m c _ _ y hy
  | succ n =>
    refine (outB_lru m c _ _ _ y hy).trans ?_
    rw [left_tail m c n, left_state m c n]
    rfl

end Cert.KernelIdeal.Own
-- ==== Proof.Mixers.LruWhole.lean ====
/-
  The gated linear recurrence on plain arrays of extended reals, over all rows: what the kernel and the reference are
  both shown to compute.
-/
module

public import proofs.«01_k».proof.Proof.Mixers.LruSpec

@[expose] public section

noncomputable section

namespace Cert.Spec

open Idealize.ShloMosaic

/-- Row number `n`. -/
def tokN (n : ℕ) : Fin 8192 := ⟨n % 8192, by omega⟩

/-- The causal convolution of four taps. -/
def convd (p : Fin 8192 → Fin 1024 → EReal) (w : Fin 4 → Fin 1024 → EReal) (b : Fin 1024 → EReal) (r : Fin 8192) (j : Fin 1024) : EReal :=
  before 3 p r j * w 0 j + before 2 p r j * w 1 j + before 1 p r j * w 2 j + p r j * w 3 j + b j

/-- The decay and the input of row number `n`, from the convolved rows `x`. -/
def decayAt (x : Fin 8192 → Fin 1024 → EReal) (wg : Fin 8 → Fin 128 → Fin 256 → EReal) (bg : Fin 2048 → EReal) (ap : Fin 1024 → EReal)
    (j : Fin 1024) (n : ℕ) : EReal := Ideal.exp (decL (x (tokN n)) wg bg ap j)
def inputAt (x : Fin 8192 → Fin 1024 → EReal) (wg : Fin 8 → Fin 128 → Fin 256 → EReal) (bg : Fin 2048 → EReal) (ap : Fin 1024 → EReal)
    (j : Fin 1024) (n : ℕ) : EReal := inB (decide ((tokN n).val = 0)) (x (tokN n)) wg bg ap j

/-- The state before row number `n`. -/
def stateAt (x : Fin 8192 → Fin 1024 → EReal) (wg : Fin 8 → Fin 128 → Fin 256 → EReal) (bg : Fin 2048 → EReal) (ap : Fin 1024 → EReal)
    (j : Fin 1024) (n : ℕ) : EReal := seqH (decayAt x wg bg ap j) (inputAt x wg bg ap j) 0 n

/-- The recurrence's rows, gated. -/
def lru (p z : Fin 8192 → Fin 1024 → EReal) (w : Fin 4 → Fin 1024 → EReal) (b : Fin 1024 → EReal) (wg : Fin 8 → Fin 128 → Fin 256 → EReal)
    (bg : Fin 2048 → EReal) (ap : Fin 1024 → EReal) (r : Fin 8192) (j : Fin 1024) : EReal :=
  stateAt (convd p w b) wg bg ap j (r.val + 1) * silu (z r j)

end Cert.Spec

end
-- ==== Proof.Mixers.Lru.lean ====
/-
  The kernel's third branch at a row and a column: the gated linear recurrence of the call's arguments.
-/
module

public import proofs.«01_k».proof.Proof.Mixers.GmlpConv
public import proofs.«01_k».proof.Proof.Mixers.LruBranch
public import proofs.«01_k».proof.Proof.Mixers.LruWhole

@[expose] public section

set_option maxRecDepth 16384

noncomputable section

namespace Cert.KernelIdeal.Own

open Cert.KernelIdeal Cert.KernelIdeal.Gen Cert.Spec
open Idealize.ShloMosaic Idealize.ShloMosaic.TcCoe Idealize.ShloMosaic.Tactic

variable (m : (ℓ : Loc nD τ sig) → Buf (Elt Ideal) ℓ)

/-! ## The input blocks -/

theorem index8 : ∀ t : Fin cfg0.N, win0_8.index t (0 : Fin 2) = t.val ∧ win0_8.index t (1 : Fin 2) = 8 :=
  (by decide +kernel : ∀ t : Fin grid0.N, _)
theorem rc8 (c : Dev nD) (t : Fin cfg0.N) (r : Fin 256) (j : Fin 1024) : rc (iblk m c 8 t) r j = pcol m c 8 (tok t r) j := by
  obtain ⟨e0, e1⟩ := index8 t
  unfold rc pcol
  rw [← V_main_arg0 m c]
  exact congrArg (V m c main_arg0) (funext fun a => Fin.ext (match a with
    | ⟨0, _⟩ => by show win0_8.index t (0 : Fin 2) * 256 + 1 * r.val = 256 * t.val + r.val; omega
    | ⟨1, _⟩ => by show win0_8.index t (1 : Fin 2) * 1024 + 1 * j.val = 1024 * 8 + j.val; omega))
theorem index9 : ∀ t : Fin cfg0.N, win0_9.index t (0 : Fin 2) = t.val ∧ win0_9.index t (1 : Fin 2) = 9 :=
  (by decide +kernel : ∀ t : Fin grid0.N, _)
theorem rc9 (c : Dev nD) (t : Fin cfg0.N) (r : Fin 256) (j : Fin 1024) : rc (iblk m c 9 t) r j = pcol m c 9 (tok t r) j := by
  obtain ⟨e0, e1⟩ := index9 t
  unfold rc pcol
  rw [← V_main_arg0 m c]
  exact congrArg (V m c main_arg0) (funext fun a => Fin.ext (match a with
    | ⟨0, _⟩ => by show win0_9.index t (0 : Fin 2) * 256 + 1 * r.val = 256 * t.val + r.val; omega
    | ⟨1, _⟩ => by show win0_9.index t (1 : Fin 2) * 1024 + 1 * j.val = 1024 * 9 + j.val; omega))

theorem blk21 (c : Dev nD) (t : Fin cfg0.N) (k : Fin 4) (j : Fin 1024) :
    iblk m c 21 t (ix3 0 k j) = m ((c : Thread nD τ).loc main_arg8) (ix3 0 k j) := by
  rw [← V_main_arg8 m c]
  show V m c main_arg8 (((cfg0.win 21).blk t).view.emb (ix3 0 k j)) = V m c main_arg8 (ix3 0 k j)
  congr 1; funext a; apply Fin.ext
  match a with
  | ⟨0, _⟩ => show 0 * 1 + 1 * 0 = 0; rfl
  | ⟨1, _⟩ => show 0 * 4 + 1 * k.val = k.val; omega
  | ⟨2, _⟩ => show 0 * 1024 + 1 * j.val = j.val; omega
theorem blk23 (c : Dev nD) (t : Fin cfg0.N) (g : Fin 8) (r : Fin 128) (s : Fin 256) :
    iblk m c 23 t (ix4 0 g r s) = m ((c : Thread nD τ).loc main_arg10) (ix4 0 g r s) := by
  rw [← V_main_arg10 m c]
  show V m c main_arg10 (((cfg0.win 23).blk t).view.emb (ix4 0 g r s)) = V m c main_arg10 (ix4 0 g r s)
  congr 1; funext a; apply Fin.ext
  match a with
  | ⟨0, _⟩ => show 0 * 1 + 1 * 0 = 0; rfl
  | ⟨1, _⟩ => show 0 * 8 + 1 * g.val = g.val; omega
  | ⟨2, _⟩ => show 0 * 128 + 1 * r.val = r.val; omega
  | ⟨3, _⟩ => show 0 * 256 + 1 * s.val = s.val; omega
theorem V_v3 (c : Dev nD) : V m c main_v3 = broadcastInDim S2x1x1024 ![0, 2] bcast_S2x1024_S2x1x1024_0_2 (m ((c : Thread nD τ).loc main_arg9)) := by
  show StableHlo.after (hostOps0 ++ (hostOps0_1 ++ (hostOps0_2 ++ (hostOps0_3 ++ (hostOps0_4 ++ []))))) _ (Proc.devRef .tc main_v3) = _
  simp only [hostOps0, hostOps0_1, hostOps0_2, hostOps0_3, hostOps0_4, List.cons_append, List.nil_append]
  after_results
theorem blk22 (c : Dev nD) (t : Fin cfg0.N) (j : Fin 1024) :
    iblk m c 22 t (ix3 0 0 j) = m ((c : Thread nD τ).loc main_arg9) (ix2 0 j) := by
  show V m c main_v3 (((cfg0.win 22).blk t).view.emb (ix3 0 0 j)) = _
  have e : (((cfg0.win 22).blk t).view.emb (ix3 0 0 j) : S2x1x1024.Idx) = ix3 0 0 j := by
    funext a; apply Fin.ext
    match a with
    | ⟨0, _⟩ => show 0 * 1 + 1 * 0 = 0; rfl
    | ⟨1, _⟩ => show 0 * 1 + 1 * 0 = 0; rfl
    | ⟨2, _⟩ => show 0 * 1024 + 1 * j.val = j.val; omega
  rw [V_v3]
  show broadcastInDim S2x1x1024 (![0, 2] : Fin S2x1024.rank → Fin S2x1x1024.rank) bcast_S2x1024_S2x1x1024_0_2 (m ((c : Thread nD τ).loc main_arg9)) (((cfg0.win 22).blk t).view.emb (ix3 0 0 j) : S2x1x1024.Idx) = _
  rw [e]
  pointwise []
theorem V_v4 (c : Dev nD) : V m c main_v4 = broadcastInDim S2x1x2048 ![0, 2] bcast_S2x2048_S2x1x2048_0_2 (m ((c : Thread nD τ).loc main_arg11)) := by
  show StableHlo.after (hostOps0 ++ (hostOps0_1 ++ (hostOps0_2 ++ (hostOps0_3 ++ (hostOps0_4 ++ []))))) _ (Proc.devRef .tc main_v4) = _
  simp only [hostOps0, hostOps0_1, hostOps0_2, hostOps0_3, hostOps0_4, List.cons_append, List.nil_append]
  after_results
theorem blk24 (c : Dev nD) (t : Fin cfg0.N) (j : Fin 2048) :
    iblk m c 24 t (ix3 0 0 j) = m ((c : Thread nD τ).loc main_arg11) (ix2 0 j) := by
  show V m c main_v4 (((cfg0.win 24).blk t).view.emb (ix3 0 0 j)) = _
  have e : (((cfg0.win 24).blk t).view.emb (ix3 0 0 j) : S2x1x2048.Idx) = ix3 0 0 j := by
    funext a; apply Fin.ext
    match a with
    | ⟨0, _⟩ => show 0 * 1 + 1 * 0 = 0; rfl
    | ⟨1, _⟩ => show 0 * 1 + 1 * 0 = 0; rfl
    | ⟨2, _⟩ => show 0 * 2048 + 1 * j.val = j.val; omega
  rw [V_v4]
  show broadcastInDim S2x1x2048 (![0, 2] : Fin S2x2048.rank → Fin S2x1x2048.rank) bcast_S2x2048_S2x1x2048_0_2 (m ((c : Thread nD τ).loc main_arg11)) (((cfg0.win 24).blk t).view.emb (ix3 0 0 j) : S2x1x2048.Idx) = _
  rw [e]
  pointwise []
theorem V_v5 (c : Dev nD) : V m c main_v5 = broadcastInDim S2x1x1024 ![0, 2] bcast_S2x1024_S2x1x1024_0_2 (m ((c : Thread nD τ).loc main_arg12)) := by
  show StableHlo.after (hostOps0 ++ (hostOps0_1 ++ (hostOps0_2 ++ (hostOps0_3 ++ (hostOps0_4 ++ []))))) _ (Proc.devRef .tc main_v5) = _
  simp only [hostOps0, hostOps0_1, hostOps0_2, hostOps0_3, hostOps0_4, List.cons_append, List.nil_append]
  after_results
theorem blk25 (c : Dev nD) (t : Fin cfg0.N) (j : Fin 1024) :
    iblk m c 25 t (ix3 0 0 j) = m ((c : Thread nD τ).loc main_arg12) (ix2 0 j) := by
  show V m c main_v5 (((cfg0.win 25).blk t).view.emb (ix3 0 0 j)) = _
  have e : (((cfg0.win 25).blk t).view.emb (ix3 0 0 j) : S2x1x1024.Idx) = ix3 0 0 j := by
    funext a; apply Fin.ext
    match a with
    | ⟨0, _⟩ => show 0 * 1 + 1 * 0 = 0; rfl
    | ⟨1, _⟩ => show 0 * 1 + 1 * 0 = 0; rfl
    | ⟨2, _⟩ => show 0 * 1024 + 1 * j.val = j.val; omega
  rw [V_v5]
  show broadcastInDim S2x1x1024 (![0, 2] : Fin S2x1024.rank → Fin S2x1x1024.rank) bcast_S2x1024_S2x1x1024_0_2 (m ((c : Thread nD τ).loc main_arg12)) (((cfg0.win 25).blk t).view.emb (ix3 0 0 j) : S2x1x1024.Idx) = _
  rw [e]
  pointwise []

/-! ## The rows and the state, over all blocks -/

/-- The recurrence's parameters: taps, tap bias, gate weights, gate biases, decay parameters. -/
abbrev pW (c : Dev nD) (k : Fin 4) (j : Fin 1024) : EReal := m ((c : Thread nD τ).loc main_arg8) (ix3 0 k j)
abbrev pB (c : Dev nD) (j : Fin 1024) : EReal := m ((c : Thread nD τ).loc main_arg9) (ix2 0 j)
abbrev pWg (c : Dev nD) (g : Fin 8) (r : Fin 128) (s : Fin 256) : EReal := m ((c : Thread nD τ).loc main_arg10) (ix4 0 g r s)
abbrev pBg (c : Dev nD) (j : Fin 2048) : EReal := m ((c : Thread nD τ).loc main_arg11) (ix2 0 j)
abbrev pAp (c : Dev nD) (j : Fin 1024) : EReal := m ((c : Thread nD τ).loc main_arg12) (ix2 0 j)

/-- The convolved rows. -/
abbrev pX (c : Dev nD) : Fin 8192 → Fin 1024 → EReal := convd (pcol m c 8) (pW m c) (pB m c)

theorem lruTail_eq (c : Dev nD) (t : Fin cfg0.N) (s : Fin 8) (j : Fin 1024) :
    lruTail m c t (ix2 s j) = pcol m c 8 (tok t ⟨248 + s.val, by omega⟩) j := rc8 m c t ⟨248 + s.val, by omega⟩ j

theorem lruRows_succ (c : Dev nD) (n n' : ℕ) (hn : n < cfg0.N) (hn' : n' < cfg0.N) (e : n = n' + 1) (s : Fin 8) (j : Fin 1024) :
    lruRows m c n hn s j = pcol m c 8 (tok ⟨n', hn'⟩ ⟨248 + s.val, by omega⟩) j := by
  subst e
  rw [← lruTail_eq]
  rfl

theorem lru_back (c : Dev nD) (n : ℕ) (hn : n < cfg0.N) (k : ℕ) (hk : 1 ≤ k ∧ k ≤ 8) (r : Fin 256) (j : Fin 1024) :
    back k hk.2 (fun s => rc (iblk m c 8 ⟨n, hn⟩) s j) (fun s => lruRows m c n hn s j) r
      = before (8 - k) (pcol m c 8) (tok ⟨n, hn⟩ r) j := by
  have hr := r.isLt
  have hN : n < 32 := hn
  unfold back before
  have ht : (tok ⟨n, hn⟩ r).val = 256 * n + r.val := rfl
  by_cases h : r.val + k < 8
  · rw [dif_pos h]
    by_cases h0 : n = 0
    · subst h0
      rw [dif_neg (by omega)]; rfl
    · rw [dif_pos (by omega)]
      beta_reduce
      rw [lruRows_succ m c n (n - 1) hn (Nat.lt_of_le_of_lt (Nat.sub_le _ _) hn) (by omega)]
      refine congrArg (fun r => pcol m c 8 r j) (Fin.ext ?_)
      show 256 * (n - 1) + (248 + (r.val + k)) = 256 * n + r.val - (8 - k)
      omega
  · rw [dif_neg h, dif_pos (by omega)]
    beta_reduce
    rw [rc8]
    refine congrArg (fun r => pcol m c 8 r j) (Fin.ext ?_)
    show 256 * n + (r.val + k - 8) = 256 * n + r.val - (8 - k)
    omega

theorem lruRow_eq (c : Dev nD) (n : ℕ) (hn : n < cfg0.N) (r : Fin 256) :
    lruRow m c ⟨n, hn⟩ (lruRows m c n hn) r = pX m c (tok ⟨n, hn⟩ r) := by
  funext j
  unfold lruRow lruConv pX convd
  rw [lru_back m c n hn 5 (by decide), lru_back m c n hn 6 (by decide), lru_back m c n hn 7 (by decide), rc8]
  simp only [blk21, blk22, Nat.reduceSub]

theorem tok_row256 (n : ℕ) (hn : n < cfg0.N) (i : ℕ) (hi : i < 256) : tok ⟨n, hn⟩ (row256 i) = tokN (256 * n + i) := by
  have hN : n < 32 := hn
  exact Fin.ext (by show 256 * n + i % 256 = (256 * n + i) % 8192; omega)

theorem lruWg_eq (c : Dev nD) (t : Fin cfg0.N) : lruWg m c t = pWg m c := by funext g a d; exact blk23 m c t g a d
theorem lruBg_eq (c : Dev nD) (t : Fin cfg0.N) : lruBg m c t = pBg m c := by funext j; exact blk24 m c t j
theorem lruAp_eq (c : Dev nD) (t : Fin cfg0.N) : lruAp m c t = pAp m c := by funext j; exact blk25 m c t j

theorem lruDec_eq (c : Dev nD) (n : ℕ) (hn : n < cfg0.N) (j : Fin 1024) (i : ℕ) (hi : i < 256) :
    lruDec m c ⟨n, hn⟩ (lruRows m c n hn) j i = decayAt (pX m c) (pWg m c) (pBg m c) (pAp m c) j (256 * n + i) := by
  unfold lruDec decayAt
  rw [lruRow_eq, lruWg_eq, lruBg_eq, lruAp_eq, tok_row256 n hn i hi]

theorem lruInp_eq (c : Dev nD) (n : ℕ) (hn : n < cfg0.N) (j : Fin 1024) (i : ℕ) (hi : i < 256) :
    lruInp m c ⟨n, hn⟩ (lruRows m c n hn) j i = inputAt (pX m c) (pWg m c) (pBg m c) (pAp m c) j (256 * n + i) := by
  have hN : n < 32 := hn
  unfold lruInp inputAt
  rw [lruRow_eq, lruWg_eq, lruBg_eq, lruAp_eq, tok_row256 n hn i hi]
  have e : decide ((⟨n, hn⟩ : Fin cfg0.N).val = 0 ∧ (row256 i).val = 0) = decide ((tokN (256 * n + i)).val = 0) :=
    decide_eq_decide.2 (by show n = 0 ∧ i % 256 = 0 ↔ (256 * n + i) % 8192 = 0; omega)
  rw [e]

theorem lruSt_eq (c : Dev nD) (n : ℕ) (hn : n < cfg0.N) (h : Fin 1024 → EReal) (j : Fin 1024)
    (hh : h j = stateAt (pX m c) (pWg m c) (pBg m c) (pAp m c) j (256 * n)) (k : ℕ) (hk : k ≤ 256) :
    lruSt m c ⟨n, hn⟩ (lruRows m c n hn) h j k = stateAt (pX m c) (pWg m c) (pBg m c) (pAp m c) j (256 * n + k) := by
  unfold lruSt
  rw [hh]
  unfold stateAt
  rw [← seqH_from]
  exact seqH_congr _ _ (fun i hi => lruDec_eq m c n hn j i (by omega)) (fun i hi => lruInp_eq m c n hn j i (by omega))

theorem lruStart_eq (c : Dev nD) (n : ℕ) (hn : n < cfg0.N) (j : Fin 1024) :
    lruStart m c n hn j = stateAt (pX m c) (pWg m c) (pBg m c) (pAp m c) j (256 * n) := by
  induction n with
  | zero => rfl
  | succ n ih =>
    show lruSt m c ⟨n, _⟩ (lruRows m c n _) (lruStart m c n _) j 256 = _
    exact lruSt_eq m c n (Nat.lt_of_succ_lt hn) _ j (ih (Nat.lt_of_succ_lt hn)) 256 le_rfl

theorem out_lru (c : Dev nD) (r : Fin 8192) (j : Fin 1024) : outArr m c (ix3 2 r j)
    = lru (pcol m c 8) (pcol m c 9) (pW m c) (pB m c) (pWg m c) (pBg m c) (pAp m c) r j := by
  refine (left_lru m c (r.val / 256) (runs_of r) (ix3 2 (inRun r) j) rfl).trans ?_
  show lruSt m c ⟨r.val / 256, runs_of r⟩ (lruRows m c (r.val / 256) (runs_of r)) (lruStart m c (r.val / 256) (runs_of r)) j (r.val % 256 + 1)
    * siluK (rc (iblk m c 9 (runOf r)) (inRun r) j) = _
  rw [lruSt_eq m c _ _ _ j (lruStart_eq m c _ _ j) _ (by omega), rc9, tok_run, siluK_eq]
  unfold lru
  have e : 256 * (r.val / 256) + (r.val % 256 + 1) = r.val + 1 := by omega
  rw [e]

end Cert.KernelIdeal.Own

end
-- ==== Proof.Mixers.LruRef.lean ====
/-
  The reference of the gated linear recurrence, read at a row and a column.
-/
module

public import proofs.«01_k».proof.Proof.Gen.RgLruIdeal.Step
public import proofs.«01_k».proof.Proof.Mixers.LruWhole
public import Idealize.ShloMosaic.Lib.WordCmp
public import Idealize.ShloMosaic.Lib.DynamicIndex

@[expose] public section

set_option maxRecDepth 16384

noncomputable section

namespace Cert.RgLruIdeal.Own

open Cert.RgLruIdeal Cert.RgLruIdeal.Gen Cert.RgLruIdeal.Step Cert.Spec
open Idealize.ShloMosaic Idealize.ShloMosaic.TcCoe Idealize.ShloMosaic.Tactic

variable (x0 : FVec Ideal S8192x14336 .f32) (x8 : FVec Ideal S2x4x1024 .f32) (x9 : FVec Ideal S2x1024 .f32)
  (x10 : FVec Ideal S2x8x128x256 .f32) (x11 : FVec Ideal S2x2048 .f32) (x12 : FVec Ideal S2x1024 .f32)

/-- Column `j` of column block `k`; the parameters of the layer. -/
def pc (k : Fin 14) (r : Fin 8192) (j : Fin 1024) : EReal := x0 (ix2 r ⟨1024 * k.val + j.val, by omega⟩)
abbrev rW (k : Fin 4) (j : Fin 1024) : EReal := x8 (ix3 0 k j)
abbrev rB (j : Fin 1024) : EReal := x9 (ix2 0 j)
abbrev rWg (g : Fin 8) (r : Fin 128) (s : Fin 256) : EReal := x10 (ix4 0 g r s)
abbrev rBg (j : Fin 2048) : EReal := x11 (ix2 0 j)
abbrev rAp (j : Fin 1024) : EReal := x12 (ix2 0 j)
abbrev rX : Fin 8192 → Fin 1024 → EReal := convd (pc x0 8) (rW x8) (rB x9)

/-- The columns with three zero rows before them. -/
theorem v3_apply (r : Fin 8195) (j : Fin 1024) : A_main_v3 (F := Ideal) x0 x8 x9 x10 x11 x12 (ix2 r j)
    = if h : 3 ≤ r.val then pc x0 8 ⟨r.val - 3, by omega⟩ j else 0 := by
  pointwise [A_main_v3, A_main_v0, K_main_call0_v0, K_main_c]
  have h0 : FloatOps.sitofp (F := Ideal) .f32 (0#32) = (0 : EReal) := by
    show (((0#32 : BitVec 32).toInt : ℝ) : EReal) = 0
    simp
  have hr := r.isLt
  by_cases h : 3 ≤ r.val
  · rw [dif_pos ⟨h, by omega⟩, dif_pos h]; rfl
  · rw [dif_neg (fun e => h e.1), dif_neg h, h0]

theorem v35_apply (r : Fin 8192) (j : Fin 1024) : A_main_v35 (F := Ideal) x0 x8 x9 x10 x11 x12 (ix2 r j) = rX x0 x8 x9 r j := by
  pointwise [A_main_v35, A_main_v34, A_main_v33, A_main_v32, A_main_v31, A_main_v30, A_main_v29, A_main_v28, A_main_v27, A_main_v26, A_main_v25,
    A_main_v24, A_main_v23, A_main_v22, A_main_v21, A_main_v20, A_main_v19, A_main_v18, A_main_v17, A_main_v16, A_main_v15, A_main_v14, A_main_v13,
    A_main_v12, A_main_v11, A_main_v10, A_main_v9, A_main_v8, A_main_v7, A_main_v6, A_main_v5, A_main_v4, A_main_v2, A_main_v1]
  simp only [v3_apply]
  unfold rX convd before
  have h1 : (3 ≤ 1 + r.val) = (2 ≤ r.val) := propext (by omega)
  have h2 : (3 ≤ 2 + r.val) = (1 ≤ r.val) := propext (by omega)
  have h3 : 1 + r.val - 3 = r.val - 2 := by omega
  have h4 : 2 + r.val - 3 = r.val - 1 := by omega
  have h5 : 3 + r.val - 3 = r.val := by omega
  simp only [h1, h2, h3, h4, h5, Nat.le_add_right, dite_true]

theorem v40_apply (r : Fin 8192) (g : Fin 8) (d : Fin 256) : A_main_v40 (F := Ideal) x0 x8 x9 x10 x11 x12 (ix3 r g d)
    = gateAt (rX x0 x8 x9 r) (rWg x10) g d := by
  pointwise [A_main_v40, A_main_v39, A_main_v38, A_main_v37, A_main_v36]
  simp only [v35_apply]
  unfold gateAt
  refine Finset.sum_congr rfl fun k _ => ?_
  have e : ∀ h, (⟨g.val * 128 + k.val, h⟩ : Fin 1024) = ⟨128 * g.val + k.val, by omega⟩ := fun h => Fin.ext (congrArg (· + _) (Nat.mul_comm _ _))
  rw [e, mul_comm]

theorem v53_apply (r : Fin 8192) (j : Fin 1024) : A_main_v53 (F := Ideal) x0 x8 x9 x10 x11 x12 (ix2 r j)
    = sigm (gateAt (rX x0 x8 x9 r) (rWg x10) (group j) ⟨(inGroup j).val, by omega⟩ + rBg x11 ⟨j.val, by omega⟩) := by
  pointwise [A_main_v53, A_main_v51, A_main_v49, A_main_v48, A_main_v47, A_main_v46, A_main_v45, A_main_v44, A_main_v43, A_main_v42, A_main_v41,
    K_main_v52, K_main_v50, K_main_cst, K_main_cst_0]
  simp only [v40_apply]
  rfl

theorem v66_apply (r : Fin 8192) (j : Fin 1024) : A_main_v66 (F := Ideal) x0 x8 x9 x10 x11 x12 (ix2 r j)
    = sigm (gateAt (rX x0 x8 x9 r) (rWg x10) (group j) ⟨128 + (inGroup j).val, by omega⟩ + rBg x11 ⟨1024 + j.val, by omega⟩) := by
  pointwise [A_main_v66, A_main_v64, A_main_v62, A_main_v61, A_main_v60, A_main_v59, A_main_v58, A_main_v57, A_main_v56, A_main_v55, A_main_v54,
    K_main_v65, K_main_v63, K_main_cst_1, K_main_cst_2]
  simp only [v40_apply]
  rfl

theorem v78_apply (j : Fin 1024) : A_main_v78 (F := Ideal) x0 x8 x9 x10 x11 x12 (ix1 j) = softplus (-(rAp x12 j)) := by
  pointwise [A_main_v78, A_main_v77, A_main_v76, A_main_v75, A_main_v74, A_main_v73, A_main_v71, A_main_v70, A_main_v69, K_main_v72, K_main_cst_4]
  rfl

theorem v81_apply (r : Fin 8192) (j : Fin 1024) : A_main_v81 (F := Ideal) x0 x8 x9 x10 x11 x12 (ix2 r j)
    = decL (rX x0 x8 x9 r) (rWg x10) (rBg x11) (rAp x12) j := by
  pointwise [A_main_v81, A_main_v80, A_main_v79, A_main_v68, K_main_v67, K_main_cst_3]
  simp only [v78_apply, v53_apply]
  rfl

theorem v82_apply (r : Fin 8192) (j : Fin 1024) : A_main_v82 (F := Ideal) x0 x8 x9 x10 x11 x12 (ix2 r j)
    = Ideal.exp (decL (rX x0 x8 x9 r) (rWg x10) (rBg x11) (rAp x12) j) := by
  pointwise [A_main_v82]
  simp only [v81_apply]

theorem v93_apply (r : Fin 8192) (j : Fin 1024) : A_main_v93 (F := Ideal) x0 x8 x9 x10 x11 x12 (ix2 r j)
    = inB (decide (r.val = 0)) (rX x0 x8 x9 r) (rWg x10) (rBg x11) (rAp x12) j := by
  pointwise [A_main_v93, A_main_v92, A_main_v91, A_main_v87, A_main_v86, A_main_v85, A_main_v84, K_main_v90, K_main_v89, K_main_v88, K_main_c_6,
    K_main_call1_v1, K_main_cst_7, K_main_v83, K_main_cst_5]
  simp only [v81_apply, v35_apply, v66_apply]
  have h1 : K_main_call1_v0 (F := Ideal) ix0 = (1 : EReal) := by
    show constant (F := Ideal) S_ .f32 0x3F800000#32 ix0 = (1 : EReal)
    pointwise []
  have hs (a b : EReal) : Scalar.select (IntOp.cmpi .eq (BitVec.ofNat 32 r.val) 0#32) a b = if decide (r.val = 0) = true then a else b := by
    have hr := r.isLt
    have e : IntOp.cmpi .eq (BitVec.ofNat 32 r.val) 0#32 = BitVec.ofBool (decide (r.val = 0)) := by
      show BitVec.ofBool (BitVec.ofNat 32 r.val == 0#32) = _
      refine congrArg BitVec.ofBool ?_
      rw [beq_eq_decide, decide_eq_decide, ← BitVec.toNat_inj, BitVec.toNat_ofNat]
      show r.val % 4294967296 = 0 ↔ _
      omega
    rw [e]
    by_cases h : r.val = 0 <;> simp [h, Scalar.select]
  rw [hs, h1]
  rfl

/-! ### The loop over the rows -/

theorem start_eq (n : ℕ) (hn : n < 8192) (a : Fin 2) :
    ((![(constantI S_ 32 (BitVec.ofNat 32 n) : (⟨S_, .i32⟩ : BufTy).Contents (Elt Ideal)), constantI S_ 32 0#32] :
      Fin 2 → (⟨S_, .i32⟩ : BufTy).Contents (Elt Ideal)) a (Shape.Idx.first h_S_)).toInt = ((![n, 0] : Fin 2 → ℕ) a : Int) := by
  match a with
  | ⟨0, _⟩ => exact toInt_ofNat_of_lt (by omega)
  | ⟨1, _⟩ => rfl

theorem row_slices (n : ℕ) (hn : n < 8192) : S8192x1024.Slices (![n, 0] : Fin 2 → ℕ) S1x1024 :=
  ⟨rfl, fun a => match a with
    | ⟨0, _⟩ => by show n + 1 ≤ 8192; omega
    | ⟨1, _⟩ => by show 0 + 1024 ≤ 1024; omega⟩

theorem slice_at (X : FVec Ideal S8192x1024 .f32) (n : ℕ) (hn : n < 8192) (l : Fin 1024) :
    extractStridedSlice S1x1024 (![n, 0] : Fin 2 → ℕ) X (row_slices n hn) (ix2 0 l) = X (ix2 ⟨n, hn⟩ l) := by
  show X _ = X _
  congr 1
  funext a; apply Fin.ext
  match a with
  | ⟨0, _⟩ => show n + 0 = n; rfl
  | ⟨1, _⟩ => show 0 + l.val = l.val; omega

theorem b2_apply (n : ℕ) (hn : n < 8192) (s : State Ideal) (l : Fin 1024) : b2 n s (ix1 l) = s.main_v96_0 (ix2 ⟨n, hn⟩ l) := by
  have e : b1 n s = extractStridedSlice S1x1024 (![n, 0] : Fin 2 → ℕ) s.main_v96_0 (row_slices n hn) :=
    WordCmp.dynamicSlice_eq_extract S1x1024 s.main_v96_0 _ sliceFits_S8192x1024_S1x1024 ![n, 0] (row_slices n hn) (start_eq n hn)
  unfold b2
  rw [e, ← slice_at s.main_v96_0 n hn l]
  pointwise []

theorem b5_apply (n : ℕ) (hn : n < 8192) (s : State Ideal) (l : Fin 1024) : b5 n s (ix1 l) = s.main_v96_1 (ix2 ⟨n, hn⟩ l) := by
  have e : b4 n s = extractStridedSlice S1x1024 (![n, 0] : Fin 2 → ℕ) s.main_v96_1 (row_slices n hn) :=
    WordCmp.dynamicSlice_eq_extract S1x1024 s.main_v96_1 _ sliceFits_S8192x1024_S1x1024 ![n, 0] (row_slices n hn) (start_eq n hn)
  unfold b5
  rw [e, ← slice_at s.main_v96_1 n hn l]
  pointwise []

theorem b7_apply (n : ℕ) (hn : n < 8192) (s : State Ideal) (l : Fin 1024) :
    b7 n s (ix1 l) = s.main_v96_0 (ix2 ⟨n, hn⟩ l) * s.main_v96_3 (ix1 l) + s.main_v96_1 (ix2 ⟨n, hn⟩ l) := by
  rw [← b2_apply n hn, ← b5_apply n hn]
  pointwise [b7, b6]

theorem b10_apply (n : ℕ) (hn : n < 8192) (s : State Ideal) (r : Fin 8192) (l : Fin 1024) :
    b10 n s (ix2 r l) = if r.val = n then b7 n s (ix1 l) else s.main_v96_4 (ix2 r l) := by
  have e : b10 n s = updateSlice s.main_v96_4 (b8 n s) (![n, 0] : Fin 2 → ℕ) (row_slices n hn) :=
    WordCmp.dynamicUpdateSlice_eq_update s.main_v96_4 (b8 n s) _ updateFits_S8192x1024_S1x1024 ![n, 0] (row_slices n hn) (start_eq n hn)
  rw [e]
  unfold updateSlice
  by_cases h : r.val = n
  · rw [if_pos h, dif_pos (fun a => match a with
      | ⟨0, _⟩ => by show n ≤ r.val ∧ r.val < n + 1; omega
      | ⟨1, _⟩ => by show 0 ≤ l.val ∧ l.val < 0 + 1024; omega)]
    have e8 : b8 n s (ix2 0 l) = b7 n s (ix1 l) := by pointwise [b8]
    rw [← e8]
    congr 1
    funext a; apply Fin.ext
    match a with
    | ⟨0, _⟩ => show r.val - n = 0; omega
    | ⟨1, _⟩ => show l.val - 0 = l.val; omega
  · rw [if_neg h, dif_neg (fun hin => h (by have h0 : n ≤ r.val ∧ r.val < n + 1 := hin 0; omega))]

variable (it : ℕ → State Ideal) (h0 : it 0 = init x0 x8 x9 x10 x11 x12) (hs : ∀ n, it (n + 1) = step n (it n))

include h0 hs

theorem it_kept (n : ℕ) : (it n).main_v96_0 = A_main_v82 x0 x8 x9 x10 x11 x12 ∧ (it n).main_v96_1 = A_main_v93 x0 x8 x9 x10 x11 x12 := by
  induction n with
  | zero => rw [h0]; exact ⟨rfl, rfl⟩
  | succ n ih => rw [hs]; exact ih

/-- The state after trip `n`, from the state before it. -/
theorem it_b7 (n : ℕ) (hn : n < 8192) (l : Fin 1024)
    (e : (it n).main_v96_3 (ix1 l) = stateAt (rX x0 x8 x9) (rWg x10) (rBg x11) (rAp x12) l n) :
    b7 n (it n) (ix1 l) = stateAt (rX x0 x8 x9) (rWg x10) (rBg x11) (rAp x12) l (n + 1) := by
  have ht : tokN n = ⟨n, hn⟩ := Fin.ext (Nat.mod_eq_of_lt hn)
  obtain ⟨k0, k1⟩ := it_kept x0 x8 x9 x10 x11 x12 it h0 hs n
  rw [b7_apply n hn, k0, k1, v82_apply, v93_apply, e]
  unfold stateAt
  rw [seqH]
  unfold decayAt inputAt
  rw [ht]

theorem it_state (n : ℕ) (hn : n ≤ 8192) (l : Fin 1024) :
    (it n).main_v96_3 (ix1 l) = stateAt (rX x0 x8 x9) (rWg x10) (rBg x11) (rAp x12) l n := by
  induction n with
  | zero =>
    rw [h0]
    show K_main_v94 (F := Ideal) (ix1 l) = (0 : EReal)
    pointwise [K_main_v94, K_main_cst_8]
  | succ n ih =>
    rw [hs, step_main_v96_3]
    exact it_b7 x0 x8 x9 x10 x11 x12 it h0 hs n (by omega) l (ih (by omega))

theorem it_rows (n : ℕ) (hn : n ≤ 8192) (r : Fin 8192) (hr : r.val < n) (l : Fin 1024) :
    (it n).main_v96_4 (ix2 r l) = stateAt (rX x0 x8 x9) (rWg x10) (rBg x11) (rAp x12) l (r.val + 1) := by
  induction n with
  | zero => omega
  | succ n ih =>
    rw [hs, step_main_v96_4, b10_apply n (by omega)]
    by_cases h : r.val = n
    · rw [if_pos h, h]
      exact it_b7 x0 x8 x9 x10 x11 x12 it h0 hs n (by omega) l (it_state x0 x8 x9 x10 x11 x12 it h0 hs n (by omega) l)
    · rw [if_neg h]
      exact ih (by omega) (by omega)

omit h0 hs in
theorem r112_apply (s : State Ideal) (r : Fin 8192) (j : Fin 1024) :
    R_main_v112 (F := Ideal) s x0 (ix3 2 r j) = s.main_v96_4 (ix2 r j) * silu (pc x0 9 r j) := by
  pointwise [R_main_v112]
  rfl

theorem out2 (r : Fin 8192) (j : Fin 1024) : R_main_v112 (F := Ideal) (it 8192) x0 (ix3 2 r j)
    = lru (pc x0 8) (pc x0 9) (rW x8) (rB x9) (rWg x10) (rBg x11) (rAp x12) r j := by
  rw [r112_apply, it_rows x0 x8 x9 x10 x11 x12 it h0 hs 8192 le_rfl r r.isLt j]
  rfl

end Cert.RgLruIdeal.Own

end
-- ==== Proof.Mixers.LruRun.lean ====
/-
  The reference's run, with the loop over the rows as a sequence of states.
-/
module

public import proofs.«01_k».proof.Proof.Gen.RgLruIdeal.Run
public import proofs.«01_k».proof.Proof.Gen.RgLruIdeal.Step

@[expose] public section

set_option maxRecDepth 16384

noncomputable section

namespace Cert.RgLruIdeal.Own

open Idealize.ShloMosaic Idealize.ShloMosaic.TcCoe Idealize.SL.Sem Idealize.ShloMosaic.StableHlo
open Cert.RgLruIdeal Cert.RgLruIdeal.Gen Cert.RgLruIdeal.Value
open Cert.RgLruIdeal.Step (State step init R_main_v112)

variable {F : FTy → Type} [FloatOps F]

/-- The state the loop's buffers hold. -/
def stateOf (V : Valuation τ sig (Elt F)) : State F where
  main_v96_3 := V (Proc.devRef .tc main_v96_3)
  main_v96_4 := V (Proc.devRef .tc main_v96_4)
  main_v96_0 := V (Proc.devRef .tc main_v96_0)
  main_v96_1 := V (Proc.devRef .tc main_v96_1)

/-- The buffer that counts the trips holds `j`. -/
def Counts (V : Valuation τ sig (Elt F)) (j : ℕ) : Prop := V (Proc.devRef .tc main_v96_2) = constantI S_ 32 (BitVec.ofNat 32 j)

theorem counts_succ (V : Valuation τ sig (Elt F)) (j : ℕ) (h : Counts V j) : Counts (STEP V) (j + 1) := by
  refine (STEP_main_v96_2 V).trans ?_
  unfold step_main_v96_2
  rw [show V (Proc.devRef .tc main_v96_2) = _ from h]
  funext i
  show BitVec.ofNat 32 j + 1#32 = BitVec.ofNat 32 (j + 1)
  simp only [BitVec.ofNat_add]

theorem stateOf_succ (V : Valuation τ sig (Elt F)) (j : ℕ) (h : Counts V j) : stateOf (STEP V) = step j (stateOf V) := by
  have e3 : step_main_v96_3 V = Cert.RgLruIdeal.Step.b7 j (stateOf V) := by
    unfold step_main_v96_3 res_main_while0b_v116
    rw [show V (Proc.devRef .tc main_v96_2) = _ from h]
    rfl
  have e4 : step_main_v96_4 V = Cert.RgLruIdeal.Step.b10 j (stateOf V) := by
    unfold step_main_v96_4 res_main_while0b_v116
    rw [show V (Proc.devRef .tc main_v96_2) = _ from h]
    rfl
  unfold stateOf step
  rw [STEP_main_v96_3, STEP_main_v96_4, STEP_main_v96_0, STEP_main_v96_1, e3, e4]
  rfl

variable (m : (ℓ : Loc nD τ sig) → Buf (Elt F) ℓ) (ρ : Dev nD → PrngReg)

/-- The state before the first trip. -/
abbrev start (c : Dev nD) : State F :=
  init (m ((c.tc : Thread nD τ).loc main_arg0)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))

/-- The states before each trip. -/
def states (c : Dev nD) : ℕ → State F
  | 0 => start m c
  | n + 1 => step n (states c n)

set_option maxRecDepth 65536 in
set_option maxHeartbeats 1000000 in
theorem entry_eq (c : Dev nD) : stateOf (entryContents preI m c) = start m c ∧ Counts (entryContents preI m c) 0 := by
  constructor
  · unfold stateOf
    simp only [entryContents, afterL_cons, afterL_nil]
    after_reads_simp
    rfl
  · unfold Counts
    simp only [entryContents, afterL_cons, afterL_nil]
    after_reads_simp
    rfl

theorem iter_eq (c : Dev nD) (n : ℕ) : stateOf (STEP^[n] (entryContents preI m c)) = states m c n ∧ Counts (STEP^[n] (entryContents preI m c)) n := by
  induction n with
  | zero => exact entry_eq m c
  | succ n ih =>
    rw [Function.iterate_succ_apply']
    exact ⟨(stateOf_succ _ n ih.2).trans (congrArg (step n) ih.1), counts_succ _ n ih.2⟩

theorem out_eq (V : Valuation τ sig (Elt F)) : out_main_v112 V = R_main_v112 (stateOf V) (V (Proc.devRef .tc main_arg0)) := rfl

/-- The run: the result from the state after the last trip, the arguments kept. -/
theorem run_states : θ_run (defs (F := F)) (onTc (τ := τ) (main (F := F))) ⟨m, fun _ => 0, ρ⟩ fun r => ∀ c : Dev nD,
      r.2.mem ((c.tc : Thread nD τ).loc main_v112) = R_main_v112 (states m c 8192) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans ((out_eq _).trans (by rw [(iter_eq m c 8192).1, iter_main_arg0 m c 8192])), (h c).2⟩) (run m ρ)

end Cert.RgLruIdeal.Own

end
-- ==== Proof.Mixers.LruEq.lean ====
/-
  The reference's gated linear recurrence is the kernel's, wherever the mask is set.
-/
module

public import proofs.«01_k».proof.On_on_rglru
public import proofs.«01_k».proof.Proof.Mixers.Lru
public import proofs.«01_k».proof.Proof.Mixers.LruRef
public import proofs.«01_k».proof.Proof.Mixers.LruRun

@[expose] public section

set_option maxRecDepth 16384

noncomputable section

namespace Cert.RgLruIdeal.Own

open Idealize.ShloMosaic Idealize.ShloMosaic.TcCoe Idealize.ShloMosaic.Tactic Cert.RgLruIdeal.Step

/-- The side condition of the mask. -/
instance maskFacts : Cert.On_on_rglru.Facts where
  bcast_S_S4x8192x1024 := by decide

/-- Where the mask is set the branch is the third. -/
theorem mask_branch (b : Fin 4) (r : Fin 8192) (j : Fin 1024)
    (a0 a1 a2 a3 a4 a5 a6 a7 a8 a9 a10 a11 a12 a13)
    (h : Cert.On_on_rglru.fn (F := Ideal) a0 a1 a2 a3 a4 a5 a6 a7 a8 a9 a10 a11 a12 a13 (ix3 b r j) = 1#1) : b = 2 := by
  have e : Cert.On_on_rglru.fn (F := Ideal) a0 a1 a2 a3 a4 a5 a6 a7 a8 a9 a10 a11 a12 a13 (ix3 b r j)
      = IntOp.cmpi .eq (BitVec.ofNat 32 b.val) 2#32 := by
    pointwise [Cert.On_on_rglru.fn]
  rw [e] at h
  clear e
  revert h
  revert b
  decide

/-- One element of the two results. -/
theorem eq_at (m : (ℓ : Loc Cert.KernelIdeal.nD Cert.KernelIdeal.τ Cert.KernelIdeal.sig) → Buf (Elt Ideal) ℓ) (c : Dev Cert.KernelIdeal.nD)
    (it : ℕ → State Ideal)
    (h0 : it 0 = init (m ((c.tc : Thread Cert.KernelIdeal.nD Cert.KernelIdeal.τ).loc Cert.KernelIdeal.main_arg0)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
    (hs : ∀ n, it (n + 1) = step n (it n)) (b : Fin 4) (r : Fin 8192) (j : Fin 1024) (hb : b = 2) :
    R_main_v112 (F := Ideal) (it 8192) (m ((c.tc : Thread Cert.KernelIdeal.nD Cert.KernelIdeal.τ).loc Cert.KernelIdeal.main_arg0)) (ix3 b r j)
      = Cert.KernelIdeal.Own.outArr m c (ix3 b r j) := by
  subst hb
  rw [Cert.KernelIdeal.Own.out_lru]
  exact (out2 _ _ _ _ _ _ it h0 hs r j).trans rfl

end Cert.RgLruIdeal.Own

end
-- ==== Proof.lean ====
/-
  The proof of the certificate's claim.
-/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel3
public import proofs.«01_k».proof.Proof.Gen.Kernel4
public import proofs.«01_k».proof.Proof.Gen.Kernel2Ideal
public import proofs.«01_k».proof.Proof.Gen.Reference2Ideal.Run
public import proofs.«01_k».proof.Proof.Gen.Kernel3Ideal
public import proofs.«01_k».proof.Proof.Gen.Reference3Ideal.Run
public import proofs.«01_k».proof.Proof.Gen.Kernel4Ideal
public import proofs.«01_k».proof.Proof.Gen.Reference4Ideal.Run
public import proofs.«01_k».proof.Proof.Proj
public import proofs.«01_k».proof.Proof.OutProj
public import proofs.«01_k».proof.Proof.Merge.Eq
public import proofs.«01_k».proof.Proof.Gen.Kernel5
public import proofs.«01_k».proof.Proof.Gen.Kernel5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal.Run
public import proofs.«01_k».proof.Proof.Norms.Post
public import proofs.«01_k».proof.Proof.Norms.Prenorm
public import proofs.«01_k».proof.Proof.Norms.PostNext
public import proofs.«01_k».proof.Proof.Mixers.Frame
public import proofs.«01_k».proof.Proof.Mixers.GmlpConvEq
public import proofs.«01_k».proof.Proof.Mixers.LruEq
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.Tactic Idealize.SL.Sem Cert.Kernel

/-- What the frame of the idealized program says, at any format of values. -/
def FrameIdeal (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

/-- The printed program and the idealized one are the same term over `F`, so one frame is the other. -/
theorem frame_same : @Cert.quiescent_Kernel Cert.Kernel.Gen.facts = FrameIdeal Bits := by sl_kernel_rfl

theorem frame_ideal (F : FTy → Type) [FloatOps F] : FrameIdeal F := fun m g _ => Cert.KernelIdeal.Own.frame_all m g

/-- The reference of the gated MLP and the gated convolution ends with its arguments unchanged; it has no counters. -/
theorem frame_gmlp_conv : Cert.quiescent_GmlpConvIdeal := fun m g _ =>
  (θ_run Cert.GmlpConvIdeal.defs _ _).mono (fun r h => ⟨fun c => (h c).2, sem_eq_zero_of_no_sems rfl r.2⟩) (Cert.GmlpConvIdeal.Value.run (F := Ideal) m g)

/-- The second and fourth branch of the kernel's result are the reference's. -/
theorem values_gmlp_conv : Cert.algebraic_KernelIdeal_GmlpConvIdeal_on_on_gmlp_conv := by
  intro m g m' g' _ hm
  refine ⟨fun c => Cert.KernelIdeal.Own.outArr m c,
    (θ_run Cert.KernelIdeal.defs _ _).mono (fun r h c => ⟨fun i _ => congrFun (h c).1 i, (h c).2⟩) (Cert.KernelIdeal.Own.run_out (F := Ideal) m g),
    (θ_run Cert.GmlpConvIdeal.defs _ _).mono (fun r h c => ⟨fun i hi => ?_, (h c).2⟩) (Cert.GmlpConvIdeal.Value.run (F := Ideal) m' g')⟩
  obtain ⟨e0, -, -, -, e4, e5, e6, e7, -, -, -, -, -, e13⟩ := hm c
  rw [(h c).1, Cert.GmlpConvIdeal.Read.val_main_v97_eq, e0, e4, e5, e6, e7, e13]
  have hx : i = ix3 (i 0) (i 1) (i 2) := (ix3_eta i).symm
  rw [hx] at hi ⊢
  exact Cert.GmlpConvIdeal.Own.eq_at m c (i 0) (i 1) (i 2) (Cert.GmlpConvIdeal.Own.mask_branch _ _ _ _ _ _ _ _ _ _ _ _ _ _ _ _ _ hi)

/-- The reference of the gated linear recurrence runs to its end and keeps its arguments. -/
theorem frame_rglru : Cert.quiescent_RgLruIdeal := fun m g _ =>
  (θ_run Cert.RgLruIdeal.defs _ _).mono (fun r h => ⟨fun c => (h c).2, sem_eq_zero_of_no_sems rfl r.2⟩) (Cert.RgLruIdeal.Own.run_states (F := Ideal) m g)

/-- The third branch of the kernel's result is the reference's. -/
theorem values_rglru : Cert.algebraic_KernelIdeal_RgLruIdeal_on_on_rglru := by
  intro m g m' g' _ hm
  refine ⟨fun c => Cert.KernelIdeal.Own.outArr m c,
    (θ_run Cert.KernelIdeal.defs _ _).mono (fun r h c => ⟨fun i _ => congrFun (h c).1 i, (h c).2⟩) (Cert.KernelIdeal.Own.run_out (F := Ideal) m g),
    (θ_run Cert.RgLruIdeal.defs _ _).mono (fun r h c => ⟨fun i hi => ?_, (h c).2⟩) (Cert.RgLruIdeal.Own.run_states (F := Ideal) m' g')⟩
  obtain ⟨e0, -, -, -, -, -, -, -, e8, e9, e10, e11, e12, -⟩ := hm c
  have hs : Cert.RgLruIdeal.Own.states m' c 0 = Cert.RgLruIdeal.Own.start m' c := rfl
  unfold Cert.RgLruIdeal.Own.start at hs
  rw [e0, e8, e9, e10, e11, e12] at hs
  rw [(h c).1, e0]
  have hx : i = ix3 (i 0) (i 1) (i 2) := (ix3_eta i).symm
  rw [hx] at hi ⊢
  exact Cert.RgLruIdeal.Own.eq_at m c (Cert.RgLruIdeal.Own.states m' c) hs (fun _ => rfl) (i 0) (i 1) (i 2)
    (Cert.RgLruIdeal.Own.mask_branch _ _ _ _ _ _ _ _ _ _ _ _ _ _ _ _ _ hi)

/-- What the frame of the gated merge says, at any format of values. -/
def FrameIdeal2 (F : FTy → Type) [FloatOps F] : Prop :=
  ∀ (m : (ℓ : Loc Cert.Kernel2Ideal.nD Cert.Kernel2Ideal.τ Cert.Kernel2Ideal.sig) → Buf (Elt F) ℓ) (g : Dev Cert.Kernel2Ideal.nD → PrngReg), True →
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

theorem frame_same2 : @Cert.quiescent_Kernel2 Cert.Kernel2.Gen.facts = FrameIdeal2 Bits := by sl_kernel_rfl

theorem frame_ideal2 (F : FTy → Type) [FloatOps F] : FrameIdeal2 F := fun m g _ => Cert.Kernel2Ideal.Own.frame_all m g

/-- The reference of the gated merge ends with its arguments unchanged; it has no counters. -/
theorem frame_reference2 : Cert.quiescent_Reference2Ideal := fun m g _ =>
  (θ_run Cert.Reference2Ideal.defs _ _).mono (fun r h => ⟨fun c => (h c).2, sem_eq_zero_of_no_sems rfl r.2⟩) (Cert.Reference2Ideal.Value.run (F := Ideal) m g)

/-- The gated merge's result is the reference's. -/
theorem values_merge : Cert.algebraic_Kernel2Ideal_Reference2Ideal := by
  intro m g m' g' _ hm
  refine ⟨fun c => Cert.Kernel2Ideal.Own.outArr m c, Cert.Kernel2Ideal.Own.run_out m g,
    (θ_run Cert.Reference2Ideal.defs _ _).mono (fun r h c => ⟨?_, (h c).2⟩) (Cert.Reference2Ideal.Value.run (F := Ideal) m' g')⟩
  obtain ⟨e0, e1, e2, e3⟩ := hm c
  rw [(h c).1, Cert.Reference2Ideal.Read.val_main_v19_eq, e0, e1, e2, e3]
  exact funext fun i => Cert.Kernel2Ideal.Own.ref_eq _ _ _ _ i

/-- What the frame of the in-projection says, at any format of values. -/
def FrameIdeal3 (F : FTy → Type) [FloatOps F] : Prop :=
  ∀ (m : (ℓ : Loc Cert.Kernel3Ideal.nD Cert.Kernel3Ideal.τ Cert.Kernel3Ideal.sig) → Buf (Elt F) ℓ) (g : Dev Cert.Kernel3Ideal.nD → PrngReg), True →
    θ_run (Cert.Kernel3Ideal.defs (F := F)) (onTc (τ := Cert.Kernel3Ideal.τ) (Cert.Kernel3Ideal.main (F := F))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

theorem frame_same3 : @Cert.quiescent_Kernel3 Cert.Kernel3.Gen.facts = FrameIdeal3 Bits := by sl_kernel_rfl

theorem frame_ideal3 (F : FTy → Type) [FloatOps F] : FrameIdeal3 F := fun m g _ => Cert.Kernel3Ideal.Gen.frame m g

/-- The reference of the in-projection ends with its arguments unchanged; it has no counters. -/
theorem frame_reference3 : Cert.quiescent_Reference3Ideal := fun m g _ =>
  (θ_run Cert.Reference3Ideal.defs _ _).mono (fun r h => ⟨fun c => (h c).2, sem_eq_zero_of_no_sems rfl r.2⟩) (Cert.Reference3Ideal.Value.run (F := Ideal) m g)

/-- The in-projection's result is the reference's. -/
theorem values_proj : Cert.algebraic_Kernel3Ideal_Reference3Ideal := by
  intro m g m' g' _ hm
  refine ⟨fun c => Cert.Kernel3Ideal.Own.outArr m c,
    (θ_run Cert.Kernel3Ideal.defs _ _).mono (fun r h c => ⟨(h c).1.trans (Cert.Kernel3Ideal.Own.final2 m c), (h c).2⟩) (Cert.Kernel3Ideal.Value.run_blocks (F := Ideal) m g),
    (θ_run Cert.Reference3Ideal.defs _ _).mono (fun r h c => ⟨?_, (h c).2⟩) (Cert.Reference3Ideal.Value.run (F := Ideal) m' g')⟩
  obtain ⟨e0, e1⟩ := hm c
  rw [(h c).1, Cert.Reference3Ideal.Read.val_main_v6_eq, e0, e1]
  exact funext fun i => Cert.Kernel3Ideal.Own.ref_eq _ _ i

/-- What the frame of the output projection says, at any format of values. -/
def FrameIdeal4 (F : FTy → Type) [FloatOps F] : Prop :=
  ∀ (m : (ℓ : Loc Cert.Kernel4Ideal.nD Cert.Kernel4Ideal.τ Cert.Kernel4Ideal.sig) → Buf (Elt F) ℓ) (g : Dev Cert.Kernel4Ideal.nD → PrngReg), True →
    θ_run (Cert.Kernel4Ideal.defs (F := F)) (onTc (τ := Cert.Kernel4Ideal.τ) (Cert.Kernel4Ideal.main (F := F))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

theorem frame_same4 : @Cert.quiescent_Kernel4 Cert.Kernel4.Gen.facts = FrameIdeal4 Bits := by sl_kernel_rfl

theorem frame_ideal4 (F : FTy → Type) [FloatOps F] : FrameIdeal4 F := fun m g _ => Cert.Kernel4Ideal.Gen.frame m g

/-- The reference of the output projection ends with its arguments unchanged; it has no counters. -/
theorem frame_reference4 : Cert.quiescent_Reference4Ideal := fun m g _ =>
  (θ_run Cert.Reference4Ideal.defs _ _).mono (fun r h => ⟨fun c => (h c).2, sem_eq_zero_of_no_sems rfl r.2⟩) (Cert.Reference4Ideal.Value.run (F := Ideal) m g)

/-- The output projection's result is the reference's. -/
theorem values_out_proj : Cert.algebraic_Kernel4Ideal_Reference4Ideal := by
  intro m g m' g' _ hm
  refine ⟨fun c => Cert.Kernel4Ideal.Own.outArr m c,
    (θ_run Cert.Kernel4Ideal.defs _ _).mono (fun r h c => ⟨(h c).1.trans (Cert.Kernel4Ideal.Own.final2 m c), (h c).2⟩) (Cert.Kernel4Ideal.Value.run_blocks (F := Ideal) m g),
    (θ_run Cert.Reference4Ideal.defs _ _).mono (fun r h c => ⟨?_, (h c).2⟩) (Cert.Reference4Ideal.Value.run (F := Ideal) m' g')⟩
  obtain ⟨e0, e1⟩ := hm c
  rw [(h c).1, Cert.Reference4Ideal.Read.val_main_v3_eq, e0, e1]
  exact funext fun i => Cert.Kernel4Ideal.Own.ref_eq _ _ i

/-- What the frame of the post norm says, at any format of values. -/
def FrameIdeal5 (F : FTy → Type) [FloatOps F] : Prop :=
  ∀ (m : (ℓ : Loc Cert.Kernel5Ideal.nD Cert.Kernel5Ideal.τ Cert.Kernel5Ideal.sig) → Buf (Elt F) ℓ) (g : Dev Cert.Kernel5Ideal.nD → PrngReg), True →
    θ_run (Cert.Kernel5Ideal.defs (F := F)) (onTc (τ := Cert.Kernel5Ideal.τ) (Cert.Kernel5Ideal.main (F := F))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

theorem frame_same5 : @Cert.quiescent_Kernel5 Cert.Kernel5.Gen.facts = FrameIdeal5 Bits := by sl_kernel_rfl

theorem frame_ideal5 (F : FTy → Type) [FloatOps F] : FrameIdeal5 F := fun m g _ => Cert.Kernel5Ideal.Gen.frame m g

/-- The reference of the post norm ends with its arguments unchanged; it has no counters. -/
theorem frame_reference5 : Cert.quiescent_Reference5Ideal := fun m g _ =>
  (θ_run Cert.Reference5Ideal.defs _ _).mono (fun r h => ⟨fun c => (h c).2, sem_eq_zero_of_no_sems rfl r.2⟩) (Cert.Reference5Ideal.Value.run (F := Ideal) m g)

/-- The results of the post norm are the reference's. -/
theorem values_post : Cert.algebraic_Kernel5Ideal_Reference5Ideal := by
  intro m g m' g' _ hm
  refine ⟨fun c => Cert.Kernel5Ideal.Own.postArr m c,
    (θ_run Cert.Kernel5Ideal.defs _ _).mono (fun r h c => ⟨(h c).1.trans (Cert.Kernel5Ideal.Own.final3 m c), (h c).2⟩) (Cert.Kernel5Ideal.Value.run_blocks (F := Ideal) m g),
    (θ_run Cert.Reference5Ideal.defs _ _).mono (fun r h c => ⟨?_, (h c).2⟩) (Cert.Reference5Ideal.Value.run (F := Ideal) m' g')⟩
  all_goals obtain ⟨e0, e1, e2⟩ := hm c
  · rw [(h c).1, Cert.Reference5Ideal.Read.val_main_v15_eq, e0, e1, e2]
    exact funext fun i => Cert.Kernel5Ideal.Own.post_ref_eq _ _ _ i

/-- What the frame of the pre norm says, at any format of values. -/
def FrameIdeal6 (F : FTy → Type) [FloatOps F] : Prop :=
  ∀ (m : (ℓ : Loc Cert.Kernel6Ideal.nD Cert.Kernel6Ideal.τ Cert.Kernel6Ideal.sig) → Buf (Elt F) ℓ) (g : Dev Cert.Kernel6Ideal.nD → PrngReg), True →
    θ_run (Cert.Kernel6Ideal.defs (F := F)) (onTc (τ := Cert.Kernel6Ideal.τ) (Cert.Kernel6Ideal.main (F := F))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

theorem frame_same6 : @Cert.quiescent_Kernel6 Cert.Kernel6.Gen.facts = FrameIdeal6 Bits := by sl_kernel_rfl

theorem frame_ideal6 (F : FTy → Type) [FloatOps F] : FrameIdeal6 F := fun m g _ => Cert.Kernel6Ideal.Gen.frame m g

/-- The reference of the pre norm ends with its arguments unchanged; it has no counters. -/
theorem frame_reference6 : Cert.quiescent_Reference6Ideal := fun m g _ =>
  (θ_run Cert.Reference6Ideal.defs _ _).mono (fun r h => ⟨fun c => (h c).2.2, sem_eq_zero_of_no_sems rfl r.2⟩) (Cert.Reference6Ideal.Value.run (F := Ideal) m g)

/-- The results of the pre norm are the reference's. -/
theorem values_prenorm : Cert.algebraic_Kernel6Ideal_Reference6Ideal := by
  intro m g m' g' _ hm
  refine ⟨fun c => Cert.Kernel6Ideal.Own.hArr m c, fun c => Cert.Kernel6Ideal.Own.gArr m c,
    (θ_run Cert.Kernel6Ideal.defs _ _).mono (fun r h c => ⟨(h c).1.trans (Cert.Kernel6Ideal.Own.final3 m c), (h c).2.1.trans (Cert.Kernel6Ideal.Own.final4 m c), (h c).2.2⟩) (Cert.Kernel6Ideal.Value.run_blocks (F := Ideal) m g),
    (θ_run Cert.Reference6Ideal.defs _ _).mono (fun r h c => ⟨?_, ?_, (h c).2.2⟩) (Cert.Reference6Ideal.Value.run (F := Ideal) m' g')⟩
  all_goals obtain ⟨e0, e1, e2⟩ := hm c
  · rw [(h c).1, Cert.Reference6Ideal.Read.val_main_v15_eq, e0, e1]
    exact funext fun i => Cert.Kernel6Ideal.Own.h_ref_eq _ _ i
  · rw [(h c).2.1, Cert.Reference6Ideal.Read.val_main_v22_eq, e0, e1, e2]
    exact funext fun i => Cert.Kernel6Ideal.Own.g_ref_eq _ _ _ i

/-- What the frame of the post norm with the next layer's pre norm says, at any format of values. -/
def FrameIdeal7 (F : FTy → Type) [FloatOps F] : Prop :=
  ∀ (m : (ℓ : Loc Cert.Kernel7Ideal.nD Cert.Kernel7Ideal.τ Cert.Kernel7Ideal.sig) → Buf (Elt F) ℓ) (g : Dev Cert.Kernel7Ideal.nD → PrngReg), True →
    θ_run (Cert.Kernel7Ideal.defs (F := F)) (onTc (τ := Cert.Kernel7Ideal.τ) (Cert.Kernel7Ideal.main (F := F))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

theorem frame_same7 : @Cert.quiescent_Kernel7 Cert.Kernel7.Gen.facts = FrameIdeal7 Bits := by sl_kernel_rfl

theorem frame_ideal7 (F : FTy → Type) [FloatOps F] : FrameIdeal7 F := fun m g _ => Cert.Kernel7Ideal.Gen.frame m g

/-- The reference of the post norm with the next layer's pre norm ends with its arguments unchanged; it has no counters. -/
theorem frame_reference7 : Cert.quiescent_Reference7Ideal := fun m g _ =>
  (θ_run Cert.Reference7Ideal.defs _ _).mono (fun r h => ⟨fun c => (h c).2.2.2, sem_eq_zero_of_no_sems rfl r.2⟩) (Cert.Reference7Ideal.Value.run (F := Ideal) m g)

/-- The results of the post norm with the next layer's pre norm are the reference's. -/
theorem values_post_next : Cert.algebraic_Kernel7Ideal_Reference7Ideal := by
  intro m g m' g' _ hm
  refine ⟨fun c => Cert.Kernel7Ideal.Own.postArr m c, fun c => Cert.Kernel7Ideal.Own.hArr m c, fun c => Cert.Kernel7Ideal.Own.gArr m c,
    (θ_run Cert.Kernel7Ideal.defs _ _).mono (fun r h c => ⟨(h c).1.trans (Cert.Kernel7Ideal.Own.final5 m c), (h c).2.1.trans (Cert.Kernel7Ideal.Own.final6 m c), (h c).2.2.1.trans (Cert.Kernel7Ideal.Own.final7 m c), (h c).2.2.2⟩) (Cert.Kernel7Ideal.Value.run_blocks (F := Ideal) m g),
    (θ_run Cert.Reference7Ideal.defs _ _).mono (fun r h c => ⟨?_, ?_, ?_, (h c).2.2.2⟩) (Cert.Reference7Ideal.Value.run (F := Ideal) m' g')⟩
  all_goals obtain ⟨e0, e1, e2, e3, e4⟩ := hm c
  · rw [(h c).1, Cert.Reference7Ideal.Read.val_main_v15_eq, e0, e1, e2]
    exact funext fun i => Cert.Kernel7Ideal.Own.post_ref_eq _ _ _ i
  · rw [(h c).2.1, Cert.Reference7Ideal.Read.val_main_v31_eq, e0, e1, e2, e3]
    exact funext fun i => Cert.Kernel7Ideal.Own.h_ref_eq _ _ _ _ i
  · rw [(h c).2.2.1, Cert.Reference7Ideal.Read.val_main_v38_eq, e0, e1, e2, e3, e4]
    exact funext fun i => Cert.Kernel7Ideal.Own.g_ref_eq _ _ _ _ _ i

theorem claim : Cert.Claim := ⟨Cert.Kernel.Gen.facts, Cert.KernelIdeal.Gen.facts, Cert.GmlpConvIdeal.Gen.facts, Cert.RgLruIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.GmlpConvIdeal.Own.maskFacts, Cert.RgLruIdeal.Own.maskFacts,
  frame_same.mpr (frame_ideal Bits), fun m g _ => Cert.KernelIdeal.Own.frame_all m g, frame_gmlp_conv, frame_rglru, frame_same2.mpr (frame_ideal2 Bits), frame_ideal2 Ideal, frame_reference2, frame_same3.mpr (frame_ideal3 Bits), frame_ideal3 Ideal, frame_reference3, frame_same4.mpr (frame_ideal4 Bits), frame_ideal4 Ideal, frame_reference4, frame_same5.mpr (frame_ideal5 Bits), frame_ideal5 Ideal, frame_reference5, frame_same6.mpr (frame_ideal6 Bits), frame_ideal6 Ideal, frame_reference6, frame_same7.mpr (frame_ideal7 Bits), frame_ideal7 Ideal, frame_reference7, trivial, values_gmlp_conv, values_rglru, trivial, values_merge, trivial, values_proj, trivial, values_out_proj, trivial, values_post, trivial, values_prenorm, trivial, values_post_next⟩

end Cert.Proof

end
